-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S2x4x256x1024 : Shape := ⟨4, ![2, 4, 256, 1024]⟩
abbrev S2x256x1024 : Shape := ⟨3, ![2, 256, 1024]⟩
abbrev S2x3x256x1024 : Shape := ⟨4, ![2, 3, 256, 1024]⟩
abbrev S2x64x1024 : Shape := ⟨3, ![2, 64, 1024]⟩
abbrev S2x3x64x1024 : Shape := ⟨4, ![2, 3, 64, 1024]⟩
abbrev S2x4x64x1024 : Shape := ⟨4, ![2, 4, 64, 1024]⟩
abbrev S40 : Shape := ⟨1, ![40]⟩
abbrev S_ : Shape := ⟨0, ![]⟩
abbrev S256x1024 : Shape := ⟨2, ![256, 1024]⟩
abbrev S1024x1024 : Shape := ⟨2, ![1024, 1024]⟩
abbrev S1x1x256x1024 : Shape := ⟨4, ![1, 1, 256, 1024]⟩
abbrev S1 : Shape := ⟨1, ![1]⟩
abbrev S1x256x1024 : Shape := ⟨3, ![1, 256, 1024]⟩
abbrev S1x64x1024 : Shape := ⟨3, ![1, 64, 1024]⟩
abbrev S64x1024 : Shape := ⟨2, ![64, 1024]⟩
abbrev S1x1x64x1024 : Shape := ⟨4, ![1, 1, 64, 1024]⟩

abbrev nBuf : Space → Nat
  | .hbm => 3
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S2x4x256x1024, .bf16⟩
  | .local _ .vmem, ⟨4, _⟩ => ⟨S2x4x256x1024, .bf16⟩
  | .local _ .vmem, ⟨5, _⟩ => ⟨S2x256x1024, .bf16⟩
  | .local _ .vmem, ⟨6, _⟩ => ⟨S2x3x256x1024, .bf16⟩
  | .local _ .vmem, ⟨7, _⟩ => ⟨S2x256x1024, .f32⟩
  | .local _ .vmem, ⟨8, _⟩ => ⟨S2x64x1024, .bf16⟩
  | .local _ .vmem, ⟨9, _⟩ => ⟨S2x3x64x1024, .bf16⟩
  | .local _ .vmem, ⟨10, _⟩ => ⟨S2x4x64x1024, .bf16⟩
  | .local _ .vmem, ⟨11, _⟩ => ⟨S2x4x256x1024, .bf16⟩
  | .local _ .vmem, ⟨12, _⟩ => ⟨S2x4x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => true
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 2 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_46 : BitVec 32 := 1#32
  let v85 : BitVec 32 := Scalar.muli v48 c1_i32_46
  let v86 : BitVec 32 := Scalar.addi c0_i32_47 v85
  v86.toNat
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_49 : BitVec 32 := 1#32
  let v87 : BitVec 32 := Scalar.muli v58 c1_i32_49
  let v88 : BitVec 32 := Scalar.addi c0_i32_50 v87
  v88.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v59 : BitVec 32 := Scalar.muli v19 c8_i32_27
  let c2_i32_29 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.addi v37 c3_i32
  let c4_i32_28 : BitVec 32 := 4#32
  let v61 : BitVec 32 := Scalar.remsi v60 c4_i32_28
  let v62 : BitVec 32 := Scalar.muli c2_i32_29 v61
  let c2_i32_30 : BitVec 32 := 2#32
  let v63 : BitVec 32 := Scalar.remsi v61 c2_i32_30
  let c0_i32_31 : BitVec 32 := 0#32
  let v64 : BitVec 1 := Scalar.cmpi .eq v63 c0_i32_31
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_32 : BitVec 32 := 1#32
  let v65 : BitVec 32 := Scalar.subi c1_i32_32 v42
  let v66 : BitVec 32 := Scalar.select v64 v42 v65
  let v67 : BitVec 32 := Scalar.addi v62 v66
  let v68 : BitVec 32 := Scalar.addi v59 v67
  let c1_i32_52 : BitVec 32 := 1#32
  let v89 : BitVec 32 := Scalar.muli v68 c1_i32_52
  let v90 : BitVec 32 := Scalar.addi c0_i32_53 v89
  v90.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_55 : BitVec 32 := 1#32
  let v91 : BitVec 32 := Scalar.muli v72 c1_i32_55
  let v92 : BitVec 32 := Scalar.addi c0_i32_56 v91
  v92.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_36 : BitVec 32 := 3#32
  let v73 : BitVec 32 := Scalar.addi v19 c3_i32_36
  let c4_i32_37 : BitVec 32 := 4#32
  let v74 : BitVec 32 := Scalar.remsi v73 c4_i32_37
  let c8_i32_38 : BitVec 32 := 8#32
  let v75 : BitVec 32 := Scalar.muli v74 c8_i32_38
  let c8_i32_5 : BitVec 32 := 8#32
  let v20 : BitVec 32 := Scalar.remsi v2 c8_i32_5
  let v76 : BitVec 32 := Scalar.addi v75 v20
  let c1_i32_58 : BitVec 32 := 1#32
  let v93 : BitVec 32 := Scalar.muli v76 c1_i32_58
  let v94 : BitVec 32 := Scalar.addi c0_i32_59 v93
  v94.toNat
def k0_off1 (d0 : Dev nD) (c4_i32_60 : BitVec 32) : Fin 2 → Nat :=
  let c1_i32_39 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let v78 : BitVec 32 := Scalar.subi c1_i32_39 v42
  let c1024_i32_40 : BitVec 32 := 1024#32
  let v79 : BitVec 32 := Scalar.muli v78 c1024_i32_40
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v95 : BitVec 32 := Scalar.addi v37 c4_i32_60
  let c4_i32_61 : BitVec 32 := 4#32
  let v96 : BitVec 32 := Scalar.remsi v95 c4_i32_61
  let c256_i32 : BitVec 32 := 256#32
  let v97 : BitVec 32 := Scalar.muli v96 c256_i32
  let v98 : BitVec 32 := Scalar.addi v79 v97
  let v99 : Index := Scalar.indexCast v98
  let c0 : Index := 0#32
  ![v99.toNat, 0]
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_74 : BitVec 32 := 1#32
  let v109 : BitVec 32 := Scalar.muli v48 c1_i32_74
  let v110 : BitVec 32 := Scalar.addi c0_i32_75 v109
  v110.toNat
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_96 : BitVec 32 := 1#32
  let v133 : BitVec 32 := Scalar.muli v48 c1_i32_96
  let v134 : BitVec 32 := Scalar.addi c0_i32_97 v133
  v134.toNat
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_118 : BitVec 32 := 1#32
  let v157 : BitVec 32 := Scalar.muli v48 c1_i32_118
  let v158 : BitVec 32 := Scalar.addi c0_i32_119 v157
  v158.toNat
def k0_dev9 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_140 : BitVec 32 := 1#32
  let v181 : BitVec 32 := Scalar.muli v48 c1_i32_140
  let v182 : BitVec 32 := Scalar.addi c0_i32_141 v181
  v182.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_161 : BitVec 32 := 1#32
  let v205 : BitVec 32 := Scalar.muli v48 c1_i32_161
  let v206 : BitVec 32 := Scalar.addi c0_i32_162 v205
  v206.toNat
def k0_dev11 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_183 : BitVec 32 := 1#32
  let v229 : BitVec 32 := Scalar.muli v48 c1_i32_183
  let v230 : BitVec 32 := Scalar.addi c0_i32_184 v229
  v230.toNat
def k0_dev12 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_205 : BitVec 32 := 1#32
  let v253 : BitVec 32 := Scalar.muli v48 c1_i32_205
  let v254 : BitVec 32 := Scalar.addi c0_i32_206 v253
  v254.toNat
def k0_dev13 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_227 : BitVec 32 := 1#32
  let v277 : BitVec 32 := Scalar.muli v48 c1_i32_227
  let v278 : BitVec 32 := Scalar.addi c0_i32_228 v277
  v278.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1024_i32 : BitVec 32 := 1024#32
  let v77 : BitVec 32 := Scalar.muli v42 c1024_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c256_i32_256 : BitVec 32 := 256#32
  let v301 : BitVec 32 := Scalar.muli v37 c256_i32_256
  let v302 : BitVec 32 := Scalar.addi v77 v301
  let v303 : Index := Scalar.indexCast v302
  let c0_257 : Index := 0#32
  ![v303.toNat, 0]
def k0_dev14 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_273 : BitVec 32 := 1#32
  let v317 : BitVec 32 := Scalar.muli v58 c1_i32_273
  let v318 : BitVec 32 := Scalar.addi c0_i32_274 v317
  v318.toNat
def k0_off3 (d0 : Dev nD) (c3_i32_279 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1024_i32 : BitVec 32 := 1024#32
  let v77 : BitVec 32 := Scalar.muli v42 c1024_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v327 : BitVec 32 := Scalar.addi v37 c3_i32_279
  let c4_i32_280 : BitVec 32 := 4#32
  let v328 : BitVec 32 := Scalar.remsi v327 c4_i32_280
  let c256_i32_281 : BitVec 32 := 256#32
  let v329 : BitVec 32 := Scalar.muli v328 c256_i32_281
  let v330 : BitVec 32 := Scalar.addi v77 v329
  let v331 : Index := Scalar.indexCast v330
  let c0_282 : Index := 0#32
  ![v331.toNat, 0]
def k0_dev15 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_346 : BitVec 32 := 1#32
  let v377 : BitVec 32 := Scalar.muli v58 c1_i32_346
  let v378 : BitVec 32 := Scalar.addi c0_i32_347 v377
  v378.toNat
def k0_dev16 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_418 : BitVec 32 := 1#32
  let v437 : BitVec 32 := Scalar.muli v58 c1_i32_418
  let v438 : BitVec 32 := Scalar.addi c0_i32_419 v437
  v438.toNat
def k0_off4 (d0 : Dev nD) : Fin 3 → Nat :=
  let c0_521 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32 : BitVec 32 := 64#32
  let v526 : BitVec 32 := Scalar.muli v19 c64_i32
  let v527 : Index := Scalar.indexCast v526
  let c0_522 : Index := 0#32
  ![0, v527.toNat, 0]
def k0_dev17 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_530 : BitVec 32 := 1#32
  let v534 : BitVec 32 := Scalar.muli v72 c1_i32_530
  let v535 : BitVec 32 := Scalar.addi c0_i32_531 v534
  v535.toNat
def k0_dev18 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_540 : BitVec 32 := 1#32
  let v544 : BitVec 32 := Scalar.muli v58 c1_i32_540
  let v545 : BitVec 32 := Scalar.addi c0_i32_541 v544
  v545.toNat
def k0_off5 (d0 : Dev nD) (c3_i32_567 : BitVec 32) : Fin 3 → Nat :=
  let c0_574 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v568 : BitVec 32 := Scalar.addi v19 c3_i32_567
  let c4_i32_568 : BitVec 32 := 4#32
  let v569 : BitVec 32 := Scalar.remsi v568 c4_i32_568
  let c64_i32_573 : BitVec 32 := 64#32
  let v573 : BitVec 32 := Scalar.muli v569 c64_i32_573
  let v574 : Index := Scalar.indexCast v573
  let c0_575 : Index := 0#32
  ![0, v574.toNat, 0]
def k0_dev19 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_584 : BitVec 32 := 1#32
  let v582 : BitVec 32 := Scalar.muli v72 c1_i32_584
  let v583 : BitVec 32 := Scalar.addi c0_i32_585 v582
  v583.toNat
def k0_dev20 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_656 : BitVec 32 := 1#32
  let v642 : BitVec 32 := Scalar.muli v58 c1_i32_656
  let v643 : BitVec 32 := Scalar.addi c0_i32_657 v642
  v643.toNat
def k0_dev21 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_699 : BitVec 32 := 1#32
  let v680 : BitVec 32 := Scalar.muli v72 c1_i32_699
  let v681 : BitVec 32 := Scalar.addi c0_i32_700 v680
  v681.toNat
def k0_dev22 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_771 : BitVec 32 := 1#32
  let v740 : BitVec 32 := Scalar.muli v58 c1_i32_771
  let v741 : BitVec 32 := Scalar.addi c0_i32_772 v740
  v741.toNat
def k0_off6 (d0 : Dev nD) (c1_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1024_i32 : BitVec 32 := 1024#32
  let v77 : BitVec 32 := Scalar.muli v42 c1024_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_41 : BitVec 32 := 1#32
  let v80 : BitVec 32 := Scalar.addi v37 c1_i32_41
  let c4_i32_42 : BitVec 32 := 4#32
  let v81 : BitVec 32 := Scalar.remsi v80 c4_i32_42
  let c256_i32_808 : BitVec 32 := 256#32
  let v776 : BitVec 32 := Scalar.muli v81 c256_i32_808
  let v777 : BitVec 32 := Scalar.addi v77 v776
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v82 : BitVec 32 := Scalar.addi v19 c1_i32_43
  let c4_i32_44 : BitVec 32 := 4#32
  let v83 : BitVec 32 := Scalar.remsi v82 c4_i32_44
  let c64_i32_809 : BitVec 32 := 64#32
  let v778 : BitVec 32 := Scalar.muli v83 c64_i32_809
  let v779 : BitVec 32 := Scalar.addi v777 v778
  let v780 : Index := Scalar.indexCast v779
  let c0_810 : Index := 0#32
  ![v780.toNat, 0]
def k0_dev23 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_820 : BitVec 32 := 1#32
  let v786 : BitVec 32 := Scalar.muli v72 c1_i32_820
  let v787 : BitVec 32 := Scalar.addi c0_i32_821 v786
  v787.toNat
def k0_off7 (d0 : Dev nD) : Fin 3 → Nat :=
  let c1_889 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32_888 : BitVec 32 := 64#32
  let v845 : BitVec 32 := Scalar.muli v19 c64_i32_888
  let v846 : Index := Scalar.indexCast v845
  let c0_890 : Index := 0#32
  ![1, v846.toNat, 0]
def k0_dev24 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_898 : BitVec 32 := 1#32
  let v853 : BitVec 32 := Scalar.muli v72 c1_i32_898
  let v854 : BitVec 32 := Scalar.addi c0_i32_899 v853
  v854.toNat
def k0_dev25 (d0 : Dev nD) : Nat :=
  let c0_i32_933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_932 : BitVec 32 := 1#32
  let v877 : BitVec 32 := Scalar.muli v72 c1_i32_932
  let v878 : BitVec 32 := Scalar.addi c0_i32_933 v877
  v878.toNat
def k0_off8 (d0 : Dev nD) (c3_i32_959 : BitVec 32) : Fin 3 → Nat :=
  let c1_966 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v901 : BitVec 32 := Scalar.addi v19 c3_i32_959
  let c4_i32_960 : BitVec 32 := 4#32
  let v902 : BitVec 32 := Scalar.remsi v901 c4_i32_960
  let c64_i32_965 : BitVec 32 := 64#32
  let v906 : BitVec 32 := Scalar.muli v902 c64_i32_965
  let v907 : Index := Scalar.indexCast v906
  let c0_967 : Index := 0#32
  ![1, v907.toNat, 0]
def k0_dev26 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_975 : BitVec 32 := 1#32
  let v915 : BitVec 32 := Scalar.muli v72 c1_i32_975
  let v916 : BitVec 32 := Scalar.addi c0_i32_976 v915
  v916.toNat
def k0_dev27 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_1009 : BitVec 32 := 1#32
  let v939 : BitVec 32 := Scalar.muli v72 c1_i32_1009
  let v940 : BitVec 32 := Scalar.addi c0_i32_1010 v939
  v940.toNat
def k0_dev28 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_1052 : BitVec 32 := 1#32
  let v977 : BitVec 32 := Scalar.muli v72 c1_i32_1052
  let v978 : BitVec 32 := Scalar.addi c0_i32_1053 v977
  v978.toNat
def k0_off9 (d0 : Dev nD) (c1_i32_1081 : BitVec 32) : Fin 4 → Nat :=
  let c0_1089 : Index := 0#32
  let c0_1090 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1001 : BitVec 32 := Scalar.addi v19 c1_i32_1081
  let c4_i32_1082 : BitVec 32 := 4#32
  let v1002 : BitVec 32 := Scalar.addi v1001 c4_i32_1082
  let c4_i32_1083 : BitVec 32 := 4#32
  let v1003 : BitVec 32 := Scalar.remsi v1002 c4_i32_1083
  let c64_i32_1088 : BitVec 32 := 64#32
  let v1006 : BitVec 32 := Scalar.muli v1003 c64_i32_1088
  let v1007 : Index := Scalar.indexCast v1006
  let c0_1091 : Index := 0#32
  ![0, 0, v1007.toNat, 0]
def k0_off9_at (r : Fin 4) : BitVec 32 :=
  if r.val < 2 then
    if r.val < 1 then
      1#32
    else
      0#32
  else
    if r.val < 3 then
      4294967295#32
    else
      4294967294#32
def k0_dev29 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1128 : BitVec 32 := 1#32
  let v1041 : BitVec 32 := Scalar.muli v48 c1_i32_1128
  let v1042 : BitVec 32 := Scalar.addi c0_i32_1129 v1041
  v1042.toNat
def k0_dev30 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_1139 : BitVec 32 := 1#32
  let v1051 : BitVec 32 := Scalar.muli v58 c1_i32_1139
  let v1052 : BitVec 32 := Scalar.addi c0_i32_1140 v1051
  v1052.toNat
def k0_off10 (d0 : Dev nD) (c1_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1024_i32 : BitVec 32 := 1024#32
  let v77 : BitVec 32 := Scalar.muli v42 c1024_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_41 : BitVec 32 := 1#32
  let v80 : BitVec 32 := Scalar.addi v37 c1_i32_41
  let c4_i32_42 : BitVec 32 := 4#32
  let v81 : BitVec 32 := Scalar.remsi v80 c4_i32_42
  let c256_i32_1176 : BitVec 32 := 256#32
  let v1087 : BitVec 32 := Scalar.muli v81 c256_i32_1176
  let v1088 : BitVec 32 := Scalar.addi v77 v1087
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v82 : BitVec 32 := Scalar.addi v19 c1_i32_43
  let c4_i32_44 : BitVec 32 := 4#32
  let v83 : BitVec 32 := Scalar.remsi v82 c4_i32_44
  let c64_i32_1177 : BitVec 32 := 64#32
  let v1089 : BitVec 32 := Scalar.muli v83 c64_i32_1177
  let v1090 : BitVec 32 := Scalar.addi v1088 v1089
  let v1091 : Index := Scalar.indexCast v1090
  let c1024_1178 : Index := 1024#32
  ![v1091.toNat, 1024]
def k0_dev31 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_1188 : BitVec 32 := 1#32
  let v1097 : BitVec 32 := Scalar.muli v72 c1_i32_1188
  let v1098 : BitVec 32 := Scalar.addi c0_i32_1189 v1097
  v1098.toNat
def k0_dev32 (d0 : Dev nD) : Nat :=
  let c0_i32_1250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_1249 : BitVec 32 := 1#32
  let v1154 : BitVec 32 := Scalar.muli v72 c1_i32_1249
  let v1155 : BitVec 32 := Scalar.addi c0_i32_1250 v1154
  v1155.toNat
def k0_dev33 (d0 : Dev nD) : Nat :=
  let c0_i32_1284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1283 : BitVec 32 := 1#32
  let v1178 : BitVec 32 := Scalar.muli v48 c1_i32_1283
  let v1179 : BitVec 32 := Scalar.addi c0_i32_1284 v1178
  v1179.toNat
def k0_dev34 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_1294 : BitVec 32 := 1#32
  let v1188 : BitVec 32 := Scalar.muli v58 c1_i32_1294
  let v1189 : BitVec 32 := Scalar.addi c0_i32_1295 v1188
  v1189.toNat
def k0_off11 (d0 : Dev nD) (c4_i32_1332 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1024_i32 : BitVec 32 := 1024#32
  let v77 : BitVec 32 := Scalar.muli v42 c1024_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1223 : BitVec 32 := Scalar.addi v37 c4_i32_1332
  let c4_i32_1333 : BitVec 32 := 4#32
  let v1224 : BitVec 32 := Scalar.remsi v1223 c4_i32_1333
  let c256_i32_1338 : BitVec 32 := 256#32
  let v1228 : BitVec 32 := Scalar.muli v1224 c256_i32_1338
  let v1229 : BitVec 32 := Scalar.addi v77 v1228
  let v1230 : Index := Scalar.indexCast v1229
  let c0_1339 : Index := 0#32
  ![v1230.toNat, 0]
def k0_off12 (d0 : Dev nD) (c1_i32_41 : BitVec 32) : Fin 2 → Nat :=
  let c1_i32_39 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let v78 : BitVec 32 := Scalar.subi c1_i32_39 v42
  let c1024_i32_40 : BitVec 32 := 1024#32
  let v79 : BitVec 32 := Scalar.muli v78 c1024_i32_40
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v80 : BitVec 32 := Scalar.addi v37 c1_i32_41
  let c4_i32_42 : BitVec 32 := 4#32
  let v81 : BitVec 32 := Scalar.remsi v80 c4_i32_42
  let c256_i32_1344 : BitVec 32 := 256#32
  let v1235 : BitVec 32 := Scalar.muli v81 c256_i32_1344
  let v1236 : BitVec 32 := Scalar.addi v79 v1235
  let v1237 : Index := Scalar.indexCast v1236
  let c0_1345 : Index := 0#32
  ![v1237.toNat, 0]
def k0_dev35 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_1375 : BitVec 32 := 1#32
  let v1253 : BitVec 32 := Scalar.muli v72 c1_i32_1375
  let v1254 : BitVec 32 := Scalar.addi c0_i32_1376 v1253
  v1254.toNat
def k0_dev36 (d0 : Dev nD) : Nat :=
  let c0_i32_1410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1409 : BitVec 32 := 1#32
  let v1277 : BitVec 32 := Scalar.muli v48 c1_i32_1409
  let v1278 : BitVec 32 := Scalar.addi c0_i32_1410 v1277
  v1278.toNat
def k0_dev37 (d0 : Dev nD) : Nat :=
  let c0_i32_1421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_1420 : BitVec 32 := 1#32
  let v1287 : BitVec 32 := Scalar.muli v58 c1_i32_1420
  let v1288 : BitVec 32 := Scalar.addi c0_i32_1421 v1287
  v1288.toNat
def k0_off13 (d0 : Dev nD) (c1_i32_1497 : BitVec 32) : Fin 4 → Nat :=
  let c1_1505 : Index := 1#32
  let c0_1506 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1354 : BitVec 32 := Scalar.addi v19 c1_i32_1497
  let c4_i32_1498 : BitVec 32 := 4#32
  let v1355 : BitVec 32 := Scalar.addi v1354 c4_i32_1498
  let c4_i32_1499 : BitVec 32 := 4#32
  let v1356 : BitVec 32 := Scalar.remsi v1355 c4_i32_1499
  let c64_i32_1504 : BitVec 32 := 64#32
  let v1359 : BitVec 32 := Scalar.muli v1356 c64_i32_1504
  let v1360 : Index := Scalar.indexCast v1359
  let c0_1507 : Index := 0#32
  ![1, 0, v1360.toNat, 0]
def k0_off13_at (r : Fin 4) : BitVec 32 :=
  if r.val < 2 then
    if r.val < 1 then
      1#32
    else
      0#32
  else
    if r.val < 3 then
      4294967295#32
    else
      4294967294#32
def k0_dev38 (d0 : Dev nD) : Nat :=
  let c0_i32_1547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_1546 : BitVec 32 := 1#32
  let v1394 : BitVec 32 := Scalar.muli v58 c1_i32_1546
  let v1395 : BitVec 32 := Scalar.addi c0_i32_1547 v1394
  v1395.toNat
def k0_dev39 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1557 : BitVec 32 := 1#32
  let v1404 : BitVec 32 := Scalar.muli v48 c1_i32_1557
  let v1405 : BitVec 32 := Scalar.addi c0_i32_1558 v1404
  v1405.toNat
def k0_dev40 (d0 : Dev nD) : Nat :=
  let c0_i32_1592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1591 : BitVec 32 := 1#32
  let v1428 : BitVec 32 := Scalar.muli v48 c1_i32_1591
  let v1429 : BitVec 32 := Scalar.addi c0_i32_1592 v1428
  v1429.toNat
def k0_dev41 (d0 : Dev nD) : Nat :=
  let c0_i32_1674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1673 : BitVec 32 := 1#32
  let v1495 : BitVec 32 := Scalar.muli v48 c1_i32_1673
  let v1496 : BitVec 32 := Scalar.addi c0_i32_1674 v1495
  v1496.toNat
def k0_dev42 (d0 : Dev nD) : Nat :=
  let c0_i32_1685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_1684 : BitVec 32 := 1#32
  let v1505 : BitVec 32 := Scalar.muli v58 c1_i32_1684
  let v1506 : BitVec 32 := Scalar.addi c0_i32_1685 v1505
  v1506.toNat
def k0_off14 (d0 : Dev nD) (c4_i32_1736 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1024_i32 : BitVec 32 := 1024#32
  let v77 : BitVec 32 := Scalar.muli v42 c1024_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1543 : BitVec 32 := Scalar.addi v37 c4_i32_1736
  let c4_i32_1737 : BitVec 32 := 4#32
  let v1544 : BitVec 32 := Scalar.remsi v1543 c4_i32_1737
  let c256_i32_1742 : BitVec 32 := 256#32
  let v1548 : BitVec 32 := Scalar.muli v1544 c256_i32_1742
  let v1549 : BitVec 32 := Scalar.addi v77 v1548
  let v1550 : Index := Scalar.indexCast v1549
  let c1024_1743 : Index := 1024#32
  ![v1550.toNat, 1024]
def k0_off15 (d0 : Dev nD) (c1_i32_41 : BitVec 32) : Fin 2 → Nat :=
  let c1_i32_39 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let v78 : BitVec 32 := Scalar.subi c1_i32_39 v42
  let c1024_i32_40 : BitVec 32 := 1024#32
  let v79 : BitVec 32 := Scalar.muli v78 c1024_i32_40
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v80 : BitVec 32 := Scalar.addi v37 c1_i32_41
  let c4_i32_42 : BitVec 32 := 4#32
  let v81 : BitVec 32 := Scalar.remsi v80 c4_i32_42
  let c256_i32_1756 : BitVec 32 := 256#32
  let v1564 : BitVec 32 := Scalar.muli v81 c256_i32_1756
  let v1565 : BitVec 32 := Scalar.addi v79 v1564
  let v1566 : Index := Scalar.indexCast v1565
  let c1024_1757 : Index := 1024#32
  ![v1566.toNat, 1024]
def k0_dev43 (d0 : Dev nD) : Nat :=
  let c0_i32_1787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1786 : BitVec 32 := 1#32
  let v1582 : BitVec 32 := Scalar.muli v48 c1_i32_1786
  let v1583 : BitVec 32 := Scalar.addi c0_i32_1787 v1582
  v1583.toNat
def k0_dev44 (d0 : Dev nD) : Nat :=
  let c0_i32_1798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_1797 : BitVec 32 := 1#32
  let v1592 : BitVec 32 := Scalar.muli v58 c1_i32_1797
  let v1593 : BitVec 32 := Scalar.addi c0_i32_1798 v1592
  v1593.toNat
def k0_dev45 (d0 : Dev nD) : Nat :=
  let c0_i32_1879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1878 : BitVec 32 := 1#32
  let v1657 : BitVec 32 := Scalar.muli v48 c1_i32_1878
  let v1658 : BitVec 32 := Scalar.addi c0_i32_1879 v1657
  v1658.toNat
def k0_dev46 (d0 : Dev nD) : Nat :=
  let c0_i32_1948_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v43 : BitVec 32 := Scalar.muli v19 c8_i32_16
  let c8_i32_5 : BitVec 32 := 8#32
  let v20 : BitVec 32 := Scalar.remsi v2 c8_i32_5
  let c1_i32_17 : BitVec 32 := 1#32
  let v44 : BitVec 32 := Scalar.addi v20 c1_i32_17
  let c2_i32_19 : BitVec 32 := 2#32
  let c2_i32_18 : BitVec 32 := 2#32
  let v45 : BitVec 32 := Scalar.remsi v20 c2_i32_18
  let v46 : BitVec 32 := Scalar.muli c2_i32_19 v45
  let v47 : BitVec 32 := Scalar.subi v44 v46
  let v48 : BitVec 32 := Scalar.addi v43 v47
  let c1_i32_1947_r0 : BitVec 32 := 1#32
  let v1714_r0 : BitVec 32 := Scalar.muli v48 c1_i32_1947_r0
  let v1715_r0 : BitVec 32 := Scalar.addi c0_i32_1948_r0 v1714_r0
  v1715_r0.toNat
def k0_dev47 (d0 : Dev nD) : Nat :=
  let c0_i32_1951_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v49 : BitVec 32 := Scalar.muli v19 c8_i32_20
  let c2_i32_23 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_21 : BitVec 32 := 1#32
  let v50 : BitVec 32 := Scalar.addi v37 c1_i32_21
  let c4_i32_22 : BitVec 32 := 4#32
  let v51 : BitVec 32 := Scalar.remsi v50 c4_i32_22
  let v52 : BitVec 32 := Scalar.muli c2_i32_23 v51
  let c2_i32_24 : BitVec 32 := 2#32
  let v53 : BitVec 32 := Scalar.remsi v51 c2_i32_24
  let c0_i32_25 : BitVec 32 := 0#32
  let v54 : BitVec 1 := Scalar.cmpi .eq v53 c0_i32_25
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_26 : BitVec 32 := 1#32
  let v55 : BitVec 32 := Scalar.subi c1_i32_26 v42
  let v56 : BitVec 32 := Scalar.select v54 v42 v55
  let v57 : BitVec 32 := Scalar.addi v52 v56
  let v58 : BitVec 32 := Scalar.addi v49 v57
  let c1_i32_1950_r0 : BitVec 32 := 1#32
  let v1716_r0 : BitVec 32 := Scalar.muli v58 c1_i32_1950_r0
  let v1717_r0 : BitVec 32 := Scalar.addi c0_i32_1951_r0 v1716_r0
  v1717_r0.toNat
def k0_dev48 (d0 : Dev nD) : Nat :=
  let c0_i32_1954_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v59 : BitVec 32 := Scalar.muli v19 c8_i32_27
  let c2_i32_29 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v60 : BitVec 32 := Scalar.addi v37 c3_i32
  let c4_i32_28 : BitVec 32 := 4#32
  let v61 : BitVec 32 := Scalar.remsi v60 c4_i32_28
  let v62 : BitVec 32 := Scalar.muli c2_i32_29 v61
  let c2_i32_30 : BitVec 32 := 2#32
  let v63 : BitVec 32 := Scalar.remsi v61 c2_i32_30
  let c0_i32_31 : BitVec 32 := 0#32
  let v64 : BitVec 1 := Scalar.cmpi .eq v63 c0_i32_31
  let c4_i32 : BitVec 32 := 4#32
  let v38 : BitVec 32 := Scalar.remsi v20 c4_i32
  let c1_i32_12 : BitVec 32 := 1#32
  let v39 : BitVec 1 := Scalar.cmpi .eq v38 c1_i32_12
  let c2_i32_13 : BitVec 32 := 2#32
  let v40 : BitVec 1 := Scalar.cmpi .eq v38 c2_i32_13
  let v41 : BitVec 1 := Scalar.ori v39 v40
  let c1_i32_14 : BitVec 32 := 1#32
  let c0_i32_15 : BitVec 32 := 0#32
  let v42 : BitVec 32 := Scalar.select v41 c1_i32_14 c0_i32_15
  let c1_i32_32 : BitVec 32 := 1#32
  let v65 : BitVec 32 := Scalar.subi c1_i32_32 v42
  let v66 : BitVec 32 := Scalar.select v64 v42 v65
  let v67 : BitVec 32 := Scalar.addi v62 v66
  let v68 : BitVec 32 := Scalar.addi v59 v67
  let c1_i32_1953_r0 : BitVec 32 := 1#32
  let v1718_r0 : BitVec 32 := Scalar.muli v68 c1_i32_1953_r0
  let v1719_r0 : BitVec 32 := Scalar.addi c0_i32_1954_r0 v1718_r0
  v1719_r0.toNat
def k0_dev49 (d0 : Dev nD) : Nat :=
  let c0_i32_1957_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v69 : BitVec 32 := Scalar.addi v19 c1_i32_33
  let c4_i32_34 : BitVec 32 := 4#32
  let v70 : BitVec 32 := Scalar.remsi v69 c4_i32_34
  let c8_i32_35 : BitVec 32 := 8#32
  let v71 : BitVec 32 := Scalar.muli v70 c8_i32_35
  let c8_i32_5 : BitVec 32 := 8#32
  let v20 : BitVec 32 := Scalar.remsi v2 c8_i32_5
  let v72 : BitVec 32 := Scalar.addi v71 v20
  let c1_i32_1956_r0 : BitVec 32 := 1#32
  let v1720_r0 : BitVec 32 := Scalar.muli v72 c1_i32_1956_r0
  let v1721_r0 : BitVec 32 := Scalar.addi c0_i32_1957_r0 v1720_r0
  v1721_r0.toNat
def k0_dev50 (d0 : Dev nD) : Nat :=
  let c0_i32_1960_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_36 : BitVec 32 := 3#32
  let v73 : BitVec 32 := Scalar.addi v19 c3_i32_36
  let c4_i32_37 : BitVec 32 := 4#32
  let v74 : BitVec 32 := Scalar.remsi v73 c4_i32_37
  let c8_i32_38 : BitVec 32 := 8#32
  let v75 : BitVec 32 := Scalar.muli v74 c8_i32_38
  let c8_i32_5 : BitVec 32 := 8#32
  let v20 : BitVec 32 := Scalar.remsi v2 c8_i32_5
  let v76 : BitVec 32 := Scalar.addi v75 v20
  let c1_i32_1959_r0 : BitVec 32 := 1#32
  let v1722_r0 : BitVec 32 := Scalar.muli v76 c1_i32_1959_r0
  let v1723_r0 : BitVec 32 := Scalar.addi c0_i32_1960_r0 v1722_r0
  v1723_r0.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32768x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Topology.lean ====
/-
The 32 devices as a 2 × 4 × 4 torus, the neighbours each device talks to, and closed forms of the row and
column offsets the kernel computes from its device number.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MeshProof

open Cert.KernelIdeal Cert.KernelIdeal.Gen
open Idealize.ShloMosaic

/-! ## Coordinates -/

/-- The plane of a device, its row in the plane's ring, and its side of the pair. -/
def zz (c : Dev nD) : ℕ := c.val / 8
def yy (c : Dev nD) : ℕ := c.val % 8 / 2
def xx (c : Dev nD) : ℕ := if c.val % 4 = 1 ∨ c.val % 4 = 2 then 1 else 0

/-- There are four planes. -/
theorem zz_lt (c : Dev nD) : zz c < 4 := by revert c; decide
/-- There are four rows. -/
theorem yy_lt (c : Dev nD) : yy c < 4 := by revert c; decide
/-- A pair has two sides. -/
theorem xx_lt (c : Dev nD) : xx c < 2 := by revert c; decide

/-- The device at given coordinates (each taken modulo its extent). -/
def devAt (x y z : ℕ) : Dev nD :=
  ⟨(8 * (z % 4) + 2 * (y % 4) + (if y % 2 = 0 then x % 2 else 1 - x % 2)) % 32, Nat.mod_lt _ (by decide)⟩

/-- The neighbours: across the pair, along the row ring, along the plane ring. -/
def xp (c : Dev nD) : Dev nD := devAt (xx c + 1) (yy c) (zz c)
def yn (c : Dev nD) : Dev nD := devAt (xx c) (yy c + 1) (zz c)
def yp (c : Dev nD) : Dev nD := devAt (xx c) (yy c + 3) (zz c)
def zn (c : Dev nD) : Dev nD := devAt (xx c) (yy c) (zz c + 1)
def zp (c : Dev nD) : Dev nD := devAt (xx c) (yy c) (zz c + 3)

/-- The partner's partner is the device itself. -/
theorem xp_xp (c : Dev nD) : xp (xp c) = c := by revert c; decide +kernel
/-- A step forward along the row ring and one back. -/
theorem yp_yn (c : Dev nD) : yp (yn c) = c := by revert c; decide +kernel
/-- A step back along the row ring and one forward. -/
theorem yn_yp (c : Dev nD) : yn (yp c) = c := by revert c; decide +kernel
/-- A step forward along the plane ring and one back. -/
theorem zp_zn (c : Dev nD) : zp (zn c) = c := by revert c; decide +kernel
/-- A step back along the plane ring and one forward. -/
theorem zn_zp (c : Dev nD) : zn (zp c) = c := by revert c; decide +kernel

def xPerm : Dev nD ≃ Dev nD := ⟨xp, xp, xp_xp, xp_xp⟩
def yPerm : Dev nD ≃ Dev nD := ⟨yn, yp, yp_yn, yn_yp⟩
def zPerm : Dev nD ≃ Dev nD := ⟨zn, zp, zp_zn, zn_zp⟩

/-- The coordinates of the neighbours. -/
theorem coords_xp (c : Dev nD) : xx (xp c) = 1 - xx c ∧ yy (xp c) = yy c ∧ zz (xp c) = zz c := by revert c; decide +kernel
/-- One step back along the row ring. -/
theorem coords_yp (c : Dev nD) : xx (yp c) = xx c ∧ yy (yp c) = (yy c + 3) % 4 ∧ zz (yp c) = zz c := by revert c; decide +kernel
/-- One step back along the plane ring. -/
theorem coords_zp (c : Dev nD) : xx (zp c) = xx c ∧ yy (zp c) = yy c ∧ zz (zp c) = (zz c + 3) % 4 := by revert c; decide +kernel

/-! ## The first row of a row block -/

/-- First row of this device's half, of the partner's half, of chunk `n` after its own row, of plane chunk `n` after its own. -/
def myRow (c : Dev nD) (n : ℕ) : ℕ := 1024 * xx c + 256 * ((yy c + n) % 4)
def paRow (c : Dev nD) (n : ℕ) : ℕ := 1024 * (1 - xx c) + 256 * ((yy c + n) % 4)
def zRow (c : Dev nD) (n : ℕ) : ℕ := 64 * ((zz c + n) % 4)

/-- A row block of the own half lies in the matrix. -/
theorem myRow_le (c : Dev nD) (n : ℕ) : myRow c n + 256 ≤ 2048 := by
  have := xx_lt c; unfold myRow; omega
/-- A row block of the partner's half lies in the matrix. -/
theorem paRow_le (c : Dev nD) (n : ℕ) : paRow c n + 256 ≤ 2048 := by
  unfold paRow; omega
/-- A chunk lies in its row block. -/
theorem zRow_le (c : Dev nD) (n : ℕ) : zRow c n + 64 ≤ 256 := by unfold zRow; omega

/-! ## The kernel's offsets -/

/-- The rows multiplied for the partner. -/
theorem off1_eq (c : Dev nD) : k0_off1 c 4#32 = ![paRow c 4, 0] ∧ k0_off1 c 3#32 = ![paRow c 3, 0]
    ∧ k0_off1 c 2#32 = ![paRow c 2, 0] ∧ k0_off1 c 1#32 = ![paRow c 1, 0] := by revert c; decide +kernel
/-- The rows multiplied first for the row ring. -/
theorem off2_eq (c : Dev nD) : k0_off2 c = ![myRow c 0, 0] := by revert c; decide +kernel
/-- The rows multiplied at the row ring's further steps. -/
theorem off3_eq (c : Dev nD) : k0_off3 c 3#32 = ![myRow c 3, 0] ∧ k0_off3 c 2#32 = ![myRow c 2, 0]
    ∧ k0_off3 c 1#32 = ![myRow c 1, 0] := by revert c; decide +kernel
/-- The chunk that starts the plane ring, left column half. -/
theorem off4_eq (c : Dev nD) : k0_off4 c = ![0, zRow c 0, 0] := by revert c; decide +kernel
/-- The chunks added along the plane ring, left column half. -/
theorem off5_eq (c : Dev nD) : k0_off5 c 3#32 = ![0, zRow c 3, 0] ∧ k0_off5 c 2#32 = ![0, zRow c 2, 0]
    ∧ k0_off5 c 1#32 = ![0, zRow c 1, 0] := by revert c; decide +kernel
/-- The chunk that starts the plane ring, right column half. -/
theorem off7_eq (c : Dev nD) : k0_off7 c = ![1, zRow c 0, 0] := by revert c; decide +kernel
/-- The chunks added along the plane ring, right column half. -/
theorem off8_eq (c : Dev nD) : k0_off8 c 3#32 = ![1, zRow c 3, 0] ∧ k0_off8 c 2#32 = ![1, zRow c 2, 0]
    ∧ k0_off8 c 1#32 = ![1, zRow c 1, 0] := by revert c; decide +kernel
/-- Where the finished and the gathered chunks are stored, left column half. -/
theorem off6_eq (c : Dev nD) : k0_off6 c 1#32 = ![myRow c 1 + zRow c 1, 0] ∧ k0_off6 c 4#32 = ![myRow c 1 + zRow c 4, 0]
    ∧ k0_off6 c 3#32 = ![myRow c 1 + zRow c 3, 0] ∧ k0_off6 c 2#32 = ![myRow c 1 + zRow c 2, 0] := by revert c; decide +kernel
/-- Where the finished and the gathered chunks are stored, right column half. -/
theorem off10_eq (c : Dev nD) : k0_off10 c 1#32 = ![myRow c 1 + zRow c 1, 1024] ∧ k0_off10 c 4#32 = ![myRow c 1 + zRow c 4, 1024]
    ∧ k0_off10 c 3#32 = ![myRow c 1 + zRow c 3, 1024] ∧ k0_off10 c 2#32 = ![myRow c 1 + zRow c 2, 1024] := by
  revert c; decide +kernel
/-- Where the gathered chunks stand in their row block, left column half. -/
theorem off9_eq (c : Dev nD) : k0_off9 c 1#32 = ![0, 0, zRow c 1, 0] ∧ k0_off9 c 0#32 = ![0, 0, zRow c 4, 0]
    ∧ k0_off9 c 4294967295#32 = ![0, 0, zRow c 3, 0] ∧ k0_off9 c 4294967294#32 = ![0, 0, zRow c 2, 0] := by
  revert c; decide +kernel
/-- Where the gathered chunks stand in their row block, right column half. -/
theorem off13_eq (c : Dev nD) : k0_off13 c 1#32 = ![1, 0, zRow c 1, 0] ∧ k0_off13 c 0#32 = ![1, 0, zRow c 4, 0]
    ∧ k0_off13 c 4294967295#32 = ![1, 0, zRow c 3, 0] ∧ k0_off13 c 4294967294#32 = ![1, 0, zRow c 2, 0] := by
  revert c; decide +kernel
/-- Where the row ring's gathered blocks are stored, left column half. -/
theorem off11_eq (c : Dev nD) : k0_off11 c 4#32 = ![myRow c 4, 0] ∧ k0_off11 c 3#32 = ![myRow c 3, 0]
    ∧ k0_off11 c 2#32 = ![myRow c 2, 0] := by revert c; decide +kernel
/-- Where the row ring's gathered blocks are stored, right column half. -/
theorem off14_eq (c : Dev nD) : k0_off14 c 4#32 = ![myRow c 4, 1024] ∧ k0_off14 c 3#32 = ![myRow c 3, 1024]
    ∧ k0_off14 c 2#32 = ![myRow c 2, 1024] := by revert c; decide +kernel
/-- Where the partner's blocks are stored, left column half. -/
theorem off12_eq (c : Dev nD) : k0_off12 c 1#32 = ![paRow c 1, 0] ∧ k0_off12 c 4#32 = ![paRow c 4, 0]
    ∧ k0_off12 c 3#32 = ![paRow c 3, 0] ∧ k0_off12 c 2#32 = ![paRow c 2, 0] := by revert c; decide +kernel
/-- Where the partner's blocks are stored, right column half. -/
theorem off15_eq (c : Dev nD) : k0_off15 c 1#32 = ![paRow c 1, 1024] ∧ k0_off15 c 4#32 = ![paRow c 4, 1024]
    ∧ k0_off15 c 3#32 = ![paRow c 3, 1024] ∧ k0_off15 c 2#32 = ![paRow c 2, 1024] := by revert c; decide +kernel

end Cert.MeshProof

end
-- ==== Proof.Values.lean ====
/-
What the kernel computes, as plain functions of the 32 devices' blocks `A d` (2048 × 1024) and `B d` (1024 × 2048):
the partial products, the three reduction rings and the three gather stages, with the kernel's own roundings.
-/
module

public import proofs.«01_k».proof.Proof.Topology

@[expose] public section

noncomputable section

namespace Cert.MeshProof

open Cert.KernelIdeal Cert.KernelIdeal.Gen
open Idealize.ShloMosaic

variable {F : FTy → Type} [FloatOps F]

section Vals
variable (A : Dev nD → Vec F S2048x1024 .f32) (B : Dev nD → Vec F S1024x2048 .f32)

/-- The 256 rows of a device's `A` from row `r` on. -/
def aRows (c : Dev nD) (r : ℕ) : Vec F S256x1024 .f32 :=
  fun i => A c (Fin.cons ⟨(r + (i 0).val) % 2048, Nat.mod_lt _ (by decide)⟩ (Fin.cons ⟨(i 1).val, (i 1).isLt⟩ (fun a => a.elim0)))
/-- The 1024 columns of a device's `B` in column half `p`. -/
def bCols (c : Dev nD) (p : Fin 2) : Vec F S1024x1024 .f32 :=
  fun i => B c (Fin.cons ⟨(i 0).val, (i 0).isLt⟩ (Fin.cons ⟨(1024 * p.val + (i 1).val) % 2048, Nat.mod_lt _ (by decide)⟩ (fun a => a.elim0)))

/-- The device's partial product of a row block and a column half. -/
def part (c : Dev nD) (r : ℕ) (p : Fin 2) : FVec F S256x1024 .f32 :=
  matmul dot_S256x1024_S1024x1024_S256x1024_1_0_0_1_n_n none (aRows A c r) (bCols B c p) (constant S256x1024 .f32 0x00000000#32)

/-- Sent across the pair: the partial products of the partner's rows, block `j` in the order they are sent. -/
def xsV (c : Dev nD) (p : Fin 2) (j : ℕ) : FVec F S256x1024 .bf16 := truncf .bf16 (part A B c (paRow c (4 - j)) p) bitsLt_bf16_f32
/-- Received from across the pair. -/
def xrV (c : Dev nD) (p : Fin 2) (j : ℕ) : FVec F S256x1024 .bf16 := xsV A B (xp c) p j

/-- What is sent along the row ring at step `s`, and, at step 3, the device's own row block. -/
def yAcc : ℕ → Dev nD → Fin 2 → FVec F S256x1024 .f32
  | 0, c, p => addf (extf .f32 (xrV A B c p 0) bitsLt_bf16_f32) (part A B c (myRow c 0) p)
  | s + 1, c, p => addf (addf (extf .f32 (truncf .bf16 (yAcc s (yp c) p) bitsLt_bf16_f32 : FVec F S256x1024 .bf16) bitsLt_bf16_f32)
      (extf .f32 (xrV A B c p (s + 1)) bitsLt_bf16_f32)) (part A B c (myRow c (3 - s)) p)
def ysV (c : Dev nD) (p : Fin 2) (s : ℕ) : FVec F S256x1024 .bf16 := truncf .bf16 (yAcc A B s c p) bitsLt_bf16_f32
def yrV (c : Dev nD) (p : Fin 2) (s : ℕ) : FVec F S256x1024 .bf16 := ysV A B (yp c) p s
/-- The row block kept in single precision, and its chunks of 64 rows. -/
def qV (c : Dev nD) (p : Fin 2) : FVec F S256x1024 .f32 := yAcc A B 3 c p
def qChunk (c : Dev nD) (p : Fin 2) (r : ℕ) : FVec F S64x1024 .f32 :=
  fun i => qV A B c p (Fin.cons ⟨(r + (i 0).val) % 256, Nat.mod_lt _ (by decide)⟩ (Fin.cons ⟨(i 1).val, (i 1).isLt⟩ (fun a => a.elim0)))

/-- What is sent along the plane ring at step `s`, and, at step 3, the device's own chunk. -/
def zAcc : ℕ → Dev nD → Fin 2 → FVec F S64x1024 .f32
  | 0, c, p => qChunk A B c p (zRow c 0)
  | s + 1, c, p => addf (extf .f32 (truncf .bf16 (zAcc s (zp c) p) bitsLt_bf16_f32 : FVec F S64x1024 .bf16) bitsLt_bf16_f32)
      (qChunk A B c p (zRow c (3 - s)))
def zsV (c : Dev nD) (p : Fin 2) (s : ℕ) : FVec F S64x1024 .bf16 := truncf .bf16 (zAcc A B s c p) bitsLt_bf16_f32
def zrV (c : Dev nD) (p : Fin 2) (s : ℕ) : FVec F S64x1024 .bf16 := zsV A B (zp c) p s

/-- The device's own finished chunk. -/
def finV (c : Dev nD) (p : Fin 2) : FVec F S64x1024 .f32 :=
  maximumf (zAcc A B 3 c p) (broadcast S64x1024 (Scalar.ofBits .f32 0x00000000#32 : F .f32))

/-- The gather along the plane ring: slot 0 is the own chunk, slot `t + 1` what the previous plane held in slot `t`. -/
def zaV : ℕ → Dev nD → Fin 2 → FVec F S64x1024 .bf16
  | 0, c, p => truncf .bf16 (finV A B c p) bitsLt_bf16_f32
  | t + 1, c, p => zaV t (zp c) p

/-- The gathered row block: its chunk `(z + 1 − k) mod 4` is gather slot `k`. -/
def yaOwn (c : Dev nD) (p : Fin 2) : FVec F S256x1024 .bf16 :=
  fun i => zaV A B ((zz c + 5 - (i 0).val / 64) % 4) c p
    (Fin.cons ⟨(i 0).val % 64, Nat.mod_lt _ (by decide)⟩ (Fin.cons ⟨(i 1).val, (i 1).isLt⟩ (fun a => a.elim0)))

/-- The gather along the row ring. -/
def yaV : ℕ → Dev nD → Fin 2 → FVec F S256x1024 .bf16
  | 0, c, p => yaOwn A B c p
  | t + 1, c, p => yaV t (yp c) p
/-- The gather across the pair. -/
def xaV (t : ℕ) (c : Dev nD) (p : Fin 2) : FVec F S256x1024 .bf16 := yaV A B t (xp c) p

/-- Which piece of the result an element belongs to. -/
inductive Rg
  | fin (p : Fin 2) | zg (p : Fin 2) (t : Fin 3) | yg (p : Fin 2) (t : Fin 3) | xg (p : Fin 2) (t : Fin 4)
  deriving DecidableEq

/-- The piece the element in row `r`, column half `p` belongs to. -/
def rgOf (c : Dev nD) (r : ℕ) (p : Fin 2) : Rg :=
  if r / 1024 = xx c then
    if (yy c + 5 - r % 1024 / 256) % 4 = 0 then
      if (zz c + 5 - r % 256 / 64) % 4 = 0 then .fin p
      else .zg p ⟨((zz c + 5 - r % 256 / 64) % 4 - 1) % 3, Nat.mod_lt _ (by decide)⟩
    else .yg p ⟨((yy c + 5 - r % 1024 / 256) % 4 - 1) % 3, Nat.mod_lt _ (by decide)⟩
  else .xg p ⟨(yy c + 5 - r % 1024 / 256) % 4, Nat.mod_lt _ (by decide)⟩

/-- Rows of a piece, its first row, its column half, and its vector. -/
def rgHt : Rg → ℕ | .fin _ => 64 | .zg _ _ => 64 | .yg _ _ => 256 | .xg _ _ => 256
def rgRow (c : Dev nD) : Rg → ℕ
  | .fin _ => myRow c 1 + zRow c 1
  | .zg _ t => myRow c 1 + zRow c (4 - t.val)
  | .yg _ t => myRow c (4 - t.val)
  | .xg _ t => paRow c (5 - t.val)
def rgCol : Rg → Fin 2 | .fin p => p | .zg p _ => p | .yg p _ => p | .xg p _ => p

/-- The vector of a piece of the result. -/
def rgVec (c : Dev nD) : (r : Rg) → FVec F ⟨2, ![rgHt r, 1024]⟩ .f32
  | .fin p => finV A B c p
  | .zg p t => (extf .f32 (zaV A B (t.val + 1) c p) bitsLt_bf16_f32 : FVec F S64x1024 .f32)
  | .yg p t => (extf .f32 (yaV A B (t.val + 1) c p) bitsLt_bf16_f32 : FVec F S256x1024 .f32)
  | .xg p t => (extf .f32 (xaV A B t.val c p) bitsLt_bf16_f32 : FVec F S256x1024 .f32)

/-- A piece has rows. -/
theorem rgHt_pos (r : Rg) : 0 < rgHt r := by cases r <;> exact Nat.succ_pos _

/-- The column half of a result index. -/
def colHalf (i : S2048x2048.Idx) : Fin 2 := ⟨(i 1).val / 1024 % 2, Nat.mod_lt _ (by decide)⟩

/-- The kernel's result on device `c`. -/
def outV (c : Dev nD) : FVec F S2048x2048 .f32 :=
  fun i => rgVec A B c (rgOf c (i 0).val (colHalf i))
    (Fin.cons ⟨(i 0).val % rgHt (rgOf c (i 0).val (colHalf i)), Nat.mod_lt _ (rgHt_pos _)⟩
      (Fin.cons ⟨(i 1).val % 1024, Nat.mod_lt _ (by decide)⟩ (fun a => a.elim0)))

end Vals

/-- The rows of a piece are exactly the rows that belong to it. -/
theorem rgOf_iff (c : Dev nD) (r : ℕ) (hr : r < 2048) (p : Fin 2) (g : Rg) :
    rgOf c r p = g ↔ rgCol g = p ∧ rgRow c g ≤ r ∧ r < rgRow c g + rgHt g := by
  have hx := xx_lt c
  have hy := yy_lt c
  have hz := zz_lt c
  unfold rgOf
  rcases g with q | ⟨q, t, ht⟩ | ⟨q, t, ht⟩ | ⟨q, t, ht⟩ <;>
    simp only [rgCol, rgRow, rgHt, myRow, paRow, zRow] <;>
    split_ifs with h1 h2 h3 <;>
    simp only [Rg.fin.injEq, Rg.zg.injEq, Rg.yg.injEq, Rg.xg.injEq, Fin.mk.injEq, reduceCtorEq, false_iff, eq_comm (a := q)] <;>
    first
      | (intro h; omega)
      | (refine and_congr_right fun _ => ?_; omega)
      | (refine (and_iff_left ?_).symm; omega)

end Cert.MeshProof

end
-- ==== Proof.Cells.lean ====
/-
The forty copies of the kernel: their source and destination slots, their semaphores, and the schedule of
what each semaphore hands over.
-/
module

public import proofs.«01_k».proof.Proof.Values

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The slots of the scratch buffers -/

/-- A slot: one copy's worth of a scratch buffer, by column half `p` and position. -/
inductive Sl
  | xs (p : Fin 2) (j : Fin 4) | xr (p : Fin 2) (j : Fin 4)
  | ys (p : Fin 2) | yr (p : Fin 2) (s : Fin 3)
  | zs (p : Fin 2) | zr (p : Fin 2) (s : Fin 3)
  | za (p : Fin 2) (t : Fin 4) | ya (p : Fin 2) (t : Fin 4) | xa (p : Fin 2) (t : Fin 4)
  deriving DecidableEq

/-- A copy: across the pair, along the row ring, along the plane ring, and the three gathers back. -/
inductive Ch
  | x (p : Fin 2) (j : Fin 4) | y (p : Fin 2) (s : Fin 3) | z (p : Fin 2) (s : Fin 3)
  | zg (p : Fin 2) (t : Fin 3) | yg (p : Fin 2) (t : Fin 3) | xg (p : Fin 2) (t : Fin 4)
  deriving DecidableEq

instance : Fintype Sl where
  elems := (Finset.univ.image fun a : Fin 2 × Fin 4 => Sl.xs a.1 a.2) ∪ (Finset.univ.image fun a : Fin 2 × Fin 4 => Sl.xr a.1 a.2)
    ∪ (Finset.univ.image Sl.ys) ∪ (Finset.univ.image fun a : Fin 2 × Fin 3 => Sl.yr a.1 a.2)
    ∪ (Finset.univ.image Sl.zs) ∪ (Finset.univ.image fun a : Fin 2 × Fin 3 => Sl.zr a.1 a.2)
    ∪ (Finset.univ.image fun a : Fin 2 × Fin 4 => Sl.za a.1 a.2) ∪ (Finset.univ.image fun a : Fin 2 × Fin 4 => Sl.ya a.1 a.2)
    ∪ (Finset.univ.image fun a : Fin 2 × Fin 4 => Sl.xa a.1 a.2)
  complete s := by cases s <;> simp

instance : Fintype Ch where
  elems := (Finset.univ.image fun a : Fin 2 × Fin 4 => Ch.x a.1 a.2) ∪ (Finset.univ.image fun a : Fin 2 × Fin 3 => Ch.y a.1 a.2)
    ∪ (Finset.univ.image fun a : Fin 2 × Fin 3 => Ch.z a.1 a.2) ∪ (Finset.univ.image fun a : Fin 2 × Fin 3 => Ch.zg a.1 a.2)
    ∪ (Finset.univ.image fun a : Fin 2 × Fin 3 => Ch.yg a.1 a.2) ∪ (Finset.univ.image fun a : Fin 2 × Fin 4 => Ch.xg a.1 a.2)
  complete s := by cases s <;> simp

abbrev shp : Sl → Shape
  | .xs _ _ => S256x1024 | .xr _ _ => S256x1024 | .ys _ => S256x1024 | .yr _ _ => S256x1024
  | .zs _ => S64x1024 | .zr _ _ => S64x1024 | .za _ _ => S64x1024 | .ya _ _ => S256x1024 | .xa _ _ => S256x1024

/-- A block of a `[2, 4, 256, 1024]` buffer lies inside it. -/
theorem inb_a4 (p : Fin 2) (j : Fin 4) : ∀ a, (![p.val, j.val, 0, 0] : Fin 4 → ℕ) a + S1x1x256x1024.size a ≤ S2x4x256x1024.size a := by
  revert p j; decide
/-- A block of a `[2, 3, 256, 1024]` buffer lies inside it. -/
theorem inb_a3 (p : Fin 2) (j : Fin 3) : ∀ a, (![p.val, j.val, 0, 0] : Fin 4 → ℕ) a + S1x1x256x1024.size a ≤ S2x3x256x1024.size a := by
  revert p j; decide
/-- A block of a `[2, 4, 64, 1024]` buffer lies inside it. -/
theorem inb_b4 (p : Fin 2) (j : Fin 4) : ∀ a, (![p.val, j.val, 0, 0] : Fin 4 → ℕ) a + S1x1x64x1024.size a ≤ S2x4x64x1024.size a := by
  revert p j; decide
/-- A block of a `[2, 3, 64, 1024]` buffer lies inside it. -/
theorem inb_b3 (p : Fin 2) (j : Fin 3) : ∀ a, (![p.val, j.val, 0, 0] : Fin 4 → ℕ) a + S1x1x64x1024.size a ≤ S2x3x64x1024.size a := by
  revert p j; decide
/-- A block of a `[2, 256, 1024]` buffer lies inside it. -/
theorem inb_a (p : Fin 2) : ∀ a, (![p.val, 0, 0] : Fin 3 → ℕ) a + S1x256x1024.size a ≤ S2x256x1024.size a := by
  revert p; decide
/-- A block of a `[2, 64, 1024]` buffer lies inside it. -/
theorem inb_b (p : Fin 2) : ∀ a, (![p.val, 0, 0] : Fin 3 → ℕ) a + S1x64x1024.size a ≤ S2x64x1024.size a := by
  revert p; decide

/-- A block of a `[2, n, 256, 1024]` or `[2, n, 64, 1024]` buffer, and of a `[2, 256, 1024]` or `[2, 64, 1024]` one, by its first two
    (its first) coordinates. -/
abbrev blkA4 (m : Memref sig .tc .vmem S2x4x256x1024 .bf16) (p : Fin 2) (j : Fin 4) : Memref sig .tc .vmem S256x1024 .bf16 :=
  (m.slice (Rect.unit (s := S2x4x256x1024) ![p.val, j.val, 0, 0] S1x1x256x1024.size (inb_a4 p j)) (fun _ => rfl)).squeeze S256x1024
    squeezes_S1x1x256x1024_S256x1024
abbrev blkA3 (m : Memref sig .tc .vmem S2x3x256x1024 .bf16) (p : Fin 2) (j : Fin 3) : Memref sig .tc .vmem S256x1024 .bf16 :=
  (m.slice (Rect.unit (s := S2x3x256x1024) ![p.val, j.val, 0, 0] S1x1x256x1024.size (inb_a3 p j)) (fun _ => rfl)).squeeze S256x1024
    squeezes_S1x1x256x1024_S256x1024
abbrev blkB4 (m : Memref sig .tc .vmem S2x4x64x1024 .bf16) (p : Fin 2) (j : Fin 4) : Memref sig .tc .vmem S64x1024 .bf16 :=
  (m.slice (Rect.unit (s := S2x4x64x1024) ![p.val, j.val, 0, 0] S1x1x64x1024.size (inb_b4 p j)) (fun _ => rfl)).squeeze S64x1024
    squeezes_S1x1x64x1024_S64x1024
abbrev blkB3 (m : Memref sig .tc .vmem S2x3x64x1024 .bf16) (p : Fin 2) (j : Fin 3) : Memref sig .tc .vmem S64x1024 .bf16 :=
  (m.slice (Rect.unit (s := S2x3x64x1024) ![p.val, j.val, 0, 0] S1x1x64x1024.size (inb_b3 p j)) (fun _ => rfl)).squeeze S64x1024
    squeezes_S1x1x64x1024_S64x1024
abbrev blkA (m : Memref sig .tc .vmem S2x256x1024 .bf16) (p : Fin 2) : Memref sig .tc .vmem S256x1024 .bf16 :=
  (m.slice (Rect.unit (s := S2x256x1024) ![p.val, 0, 0] S1x256x1024.size (inb_a p)) (fun _ => rfl)).squeeze S256x1024
    squeezes_S1x256x1024_S256x1024
abbrev blkB (m : Memref sig .tc .vmem S2x64x1024 .bf16) (p : Fin 2) : Memref sig .tc .vmem S64x1024 .bf16 :=
  (m.slice (Rect.unit (s := S2x64x1024) ![p.val, 0, 0] S1x64x1024.size (inb_b p)) (fun _ => rfl)).squeeze S64x1024
    squeezes_S1x64x1024_S64x1024

/-- The memref of a slot. -/
abbrev slM : (s : Sl) → Memref sig .tc .vmem (shp s) .bf16
  | .xs p j => blkA4 (Memref.whole cc0_scratch0) p j
  | .xr p j => blkA4 (Memref.whole cc0_scratch1) p j
  | .ys p => blkA (Memref.whole cc0_scratch2) p
  | .yr p s => blkA3 (Memref.whole cc0_scratch3) p s
  | .zs p => blkB (Memref.whole cc0_scratch5) p
  | .zr p s => blkB3 (Memref.whole cc0_scratch6) p s
  | .za p t => blkB4 (Memref.whole cc0_scratch7) p t
  | .ya p t => blkA4 (Memref.whole cc0_scratch8) p t
  | .xa p t => blkA4 (Memref.whole cc0_scratch9) p t

/-! ## The copies -/

abbrev src : Ch → Sl
  | .x p j => .xs p j | .y p _ => .ys p | .z p _ => .zs p
  | .zg p t => .za p t.castSucc | .yg p t => .ya p t.castSucc | .xg p t => .ya p t
abbrev dst : Ch → Sl
  | .x p j => .xr p j | .y p s => .yr p s | .z p s => .zr p s
  | .zg p t => .za p t.succ | .yg p t => .ya p t.succ | .xg p t => .xa p t
/-- Which filling of the source slot a copy sends (the two ring buffers are filled three times). -/
abbrev ver : Ch → ℕ
  | .y _ s => s.val | .z _ s => s.val | _ => 0
/-- A gathered row block is read by two copies at once; each takes its own share of it. -/
abbrev second : Ch → Bool
  | .xg _ _ => true | _ => false

abbrev chShp : Ch → Shape
  | .x _ _ => S256x1024 | .y _ _ => S256x1024 | .z _ _ => S64x1024 | .zg _ _ => S64x1024 | .yg _ _ => S256x1024 | .xg _ _ => S256x1024

abbrev srcM : (k : Ch) → Memref sig .tc .vmem (chShp k) .bf16
  | .x p j => slM (.xs p j) | .y p _ => slM (.ys p) | .z p _ => slM (.zs p)
  | .zg p t => slM (.za p t.castSucc) | .yg p t => slM (.ya p t.castSucc) | .xg p t => slM (.ya p t)
abbrev dstM : (k : Ch) → Memref sig .tc .vmem (chShp k) .bf16
  | .x p j => slM (.xr p j) | .y p s => slM (.yr p s) | .z p s => slM (.zr p s)
  | .zg p t => slM (.za p t.succ) | .yg p t => slM (.ya p t.succ) | .xg p t => slM (.xa p t)

/-- The number of a copy: the position of its two semaphores. -/
abbrev num : Ch → ℕ
  | .x p j => 20 * p.val + j.val | .y p s => 20 * p.val + 4 + s.val | .z p s => 20 * p.val + 7 + s.val
  | .zg p t => 20 * p.val + 10 + t.val | .yg p t => 20 * p.val + 13 + t.val | .xg p t => 20 * p.val + 16 + t.val

/-- A copy's number is the position of one of the forty semaphores of an array. -/
theorem num_lt (k : Ch) : ∀ a, (![num k] : Fin 1 → ℕ) a + S1.size a ≤ S40.size a := by revert k; decide +kernel

/-- The five neighbours, in the order they are signalled. -/
def nb (i : Fin 5) (c : Dev nD) : Dev nD := match i with | 0 => xp c | 1 => yn c | 2 => yp c | 3 => zn c | 4 => zp c
def nbInv (i : Fin 5) (c : Dev nD) : Dev nD := match i with | 0 => xp c | 1 => yp c | 2 => yn c | 3 => zp c | 4 => zn c
/-- Going to a neighbour and back ends where it began. -/
theorem nbInv_nb (i : Fin 5) (c : Dev nD) : nbInv i (nb i c) = c := by revert i c; decide +kernel
/-- And so does coming from a neighbour and going back. -/
theorem nb_nbInv (i : Fin 5) (c : Dev nD) : nb i (nbInv i c) = c := by revert i c; decide +kernel
def nbPerm (i : Fin 5) : Dev nD ≃ Dev nD := ⟨nb i, nbInv i, nbInv_nb i, nb_nbInv i⟩

/-- The neighbour a copy goes to, and the entry signal with which that neighbour hands over its destination slot. -/
abbrev dir : Ch → Fin 5
  | .x _ _ => 0 | .xg _ _ => 0 | .y _ _ => 1 | .yg _ _ => 1 | .z _ _ => 3 | .zg _ _ => 3
abbrev giv : Ch → Fin 5
  | .x _ _ => 0 | .xg _ _ => 0 | .y _ _ => 2 | .yg _ _ => 2 | .z _ _ => 4 | .zg _ _ => 4
abbrev tgt (k : Ch) (c : Dev nD) : Dev nD := nb (dir k) c
/-- The neighbour that hands over the destination slots of a copy is the one the copy goes to. -/
theorem tgt_giv (k : Ch) (c : Dev nD) : tgt k (nb (giv k) c) = c := by revert k c; decide +kernel

/-! ## The semaphores -/

/-- The semaphores of the protocol: the two barriers, and two per copy. -/
inductive Cl
  | bar | bar2 | snd (k : Ch) | rcv (k : Ch)
  deriving DecidableEq

instance : Fintype Cl where
  elems := {.bar, .bar2} ∪ (Finset.univ.image Cl.snd) ∪ (Finset.univ.image Cl.rcv)
  complete s := by cases s <;> simp

abbrev barS : Sem sig := (SemArray.scalar (sig.barrier 0 rfl) : Sems sig S_).sem
abbrev bar2S : Sem sig := (cc0_scoped0 : Sems sig S_).sem
abbrev sndS (k : Ch) : DmaSem sig :=
  ((cc0_scratch10.slice (Rect.unit (s := S40) ![num k] S1.size (num_lt k))).squeeze S_ squeezes_S1_S_).sem
abbrev rcvS (k : Ch) : DmaSem sig :=
  ((cc0_scratch11.slice (Rect.unit (s := S40) ![num k] S1.size (num_lt k))).squeeze S_ squeezes_S1_S_).sem

abbrev csem : Cl → SemLoc sig
  | .bar => .reg barS | .bar2 => .reg bar2S | .snd k => .dma (sndS k) | .rcv k => .dma (rcvS k)

/-- Different names of the protocol are different semaphores. -/
theorem csem_inj : Function.Injective csem := by
  have h : ∀ a b, csem a = csem b → a = b := by decide +kernel
  exact fun a b => h a b

abbrev kcell (ck : Dev nD × Cl) : GSem nD τ sig := ((ck.1 : Thread nD τ), csem ck.2)

open Classical in
/-- The protocol's name for a semaphore, if it has one. -/
def decode (sm : SemLoc sig) : Option Cl := if h : ∃ j, csem j = sm then some h.choose else none
/-- The name of a named semaphore is its name. -/
theorem decode_csem (j : Cl) : decode (csem j) = some j := by
  unfold decode
  have h : ∃ j', csem j' = csem j := ⟨j, rfl⟩
  rw [dif_pos h]; exact congrArg some (csem_inj h.choose_spec)
/-- Any other semaphore has no name. -/
theorem decode_none {sm : SemLoc sig} (h : ∀ j, csem j ≠ sm) : decode sm = none := by
  unfold decode; exact dif_neg fun ⟨j, hj⟩ => h j hj

/-! ## The resource algebra -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What a slot holds -/

/-- The three shares a filled slot is cut into: two for copies out of it, one kept for the device's own reads. -/
def shA : PosShare TreeShare := fullShare.left
def shB : PosShare TreeShare := fullShare.right.left
def shC : PosShare TreeShare := fullShare.right.right
abbrev shOf (b : Bool) : PosShare TreeShare := if b then shB else shA

section Hold
variable (A : Dev nD → Vec F S2048x1024 .f32) (B : Dev nD → Vec F S1024x2048 .f32)

/-- What a filled slot of device `c` holds. -/
abbrev slV (c : Dev nD) (v : ℕ) : (s : Sl) → FVec F (shp s) .bf16
  | .xs p j => xsV A B c p j.val | .xr p j => xrV A B c p j.val
  | .ys p => ysV A B c p v | .yr p s => yrV A B c p s.val
  | .zs p => zsV A B c p v | .zr p s => zrV A B c p s.val
  | .za p t => zaV A B t.val c p | .ya p t => yaV A B t.val c p | .xa p t => xaV A B t.val c p

/-- A memref of device `c` owned at share `q` and contents `f`, on its own elements. -/
abbrev pts (c : Dev nD) {s : Shape} (m : Memref sig .tc .vmem s .bf16) (q : PosShare TreeShare) (f : Buf (Elt F) (m.view.loc (c : Thread nD τ))) : sProp 𝕄 :=
  m.view.loc (c : Thread nD τ) ↦[m.view.set]{q} f

/-- A slot of device `c` owned at share `q`, holding `V`; and owned whole, holding anything. -/
def hold (c : Dev nD) (s : Sl) (q : PosShare TreeShare) (V : FVec F (shp s) .bf16) : sProp 𝕄 :=
  pts c (slM s) q ((slM s).view.rep V)
def junk (c : Dev nD) (s : Sl) : sProp 𝕄 := iprop(∃ f, pts (F := F) c (slM s) fullShare f)

/-- What copy `k` of device `c` sends. -/
abbrev chV (c : Dev nD) : (k : Ch) → FVec F (chShp k) .bf16
  | .x p j => slV A B c 0 (.xs p j) | .y p s => slV A B c s.val (.ys p) | .z p s => slV A B c s.val (.zs p)
  | .zg p t => slV A B c 0 (.za p t.castSucc) | .yg p t => slV A B c 0 (.ya p t.castSucc) | .xg p t => slV A B c 0 (.ya p t)

/-- The filled source slot of a copy, as the memref that the copy reads. -/
theorem hold_src (c : Dev nD) (k : Ch) (q : PosShare TreeShare) :
    hold (F := F) c (src k) q (slV A B c (ver k) (src k)) = pts c (srcM k) q ((srcM k).view.rep (chV A B c k)) := by
  cases k <;> rfl

/-- The target's filled destination slot holds what the copy sends: the same contents, as the memref that the copy writes. -/
theorem hold_dst (c : Dev nD) (k : Ch) (q : PosShare TreeShare) :
    hold (F := F) (tgt k c) (dst k) q (slV A B (tgt k c) 0 (dst k)) = pts (tgt k c) (dstM k) q ((dstM k).view.rep (chV A B c k)) := by
  cases k with
  | x p j => simp only [slV, xrV, tgt, nb, dir, xp_xp, hold]
  | y p s => simp only [slV, yrV, tgt, nb, dir, yp_yn, hold]
  | z p s => simp only [slV, zrV, tgt, nb, dir, zp_zn, hold]
  | zg p t => simp only [slV, Fin.val_succ, zaV, tgt, nb, dir, zp_zn, hold, Fin.val_castSucc]; rfl
  | yg p t => simp only [slV, Fin.val_succ, yaV, tgt, nb, dir, yp_yn, hold, Fin.val_castSucc]; rfl
  | xg p t => simp only [slV, xaV, tgt, nb, dir, xp_xp, hold]

/-- The destination slot holding anything, as the memref that the copy writes. -/
theorem junk_dst (c : Dev nD) (k : Ch) : junk (F := F) c (dst k) = iprop(∃ f, pts (F := F) c (dstM k) fullShare f) := by
  cases k <;> rfl

instance hold_storable (c : Dev nD) (s : Sl) (q V) : BI.Storable (upEmb : UEmb _ 𝕄) (hold (F := F) c s q V) := by unfold hold; infer_instance
instance junk_storable (c : Dev nD) (s : Sl) : BI.Storable (upEmb : UEmb _ 𝕄) (junk (F := F) c s) := by unfold junk; infer_instance

/-! ## The schedule -/

/-- What the entry signal `d` of device `c`'s barrier hands over: the neighbour's destination slots of `c`'s copies to it. -/
def barPay (c : Dev nD) (d : Fin 5) : sProp 𝕄 :=
  bigSep (Finset.univ.filter fun k : Ch => giv k = d) fun k => junk (F := F) (tgt k c) (dst k)

instance barPay_storable (c : Dev nD) (d) : BI.Storable (upEmb : UEmb _ 𝕄) (barPay (F := F) c d) := by unfold barPay; infer_instance

/-- The credit of a copy. -/
def amt (k : Ch) : ℕ := (dstM k).view.dmaCredit

/-- What a semaphore of device `c` hands over, by its name. -/
def pay (c : Dev nD) (d : Fin 5) : Option Cl → sProp 𝕄
  | some .bar => barPay c d
  | some (.snd k) => hold c (src k) (shOf (second k)) (slV A B c (ver k) (src k))
  | some (.rcv k) => hold c (dst k) fullShare (slV A B c 0 (dst k))
  | _ => iprop(emp)

instance pay_storable (c : Dev nD) (d o) : BI.Storable (upEmb : UEmb _ 𝕄) (pay A B c d o) := by unfold pay; split <;> infer_instance

abbrev dutyC : Option Cl → Finset (Fin 5)
  | some .bar => Finset.univ | some .bar2 => Finset.univ | some _ => {0} | none => ∅
abbrev amtC : Option Cl → ℕ
  | some (.snd k) => amt k | some (.rcv k) => amt k | _ => 1

/-- A copy moves something. -/
theorem amt_pos (k : Ch) : 0 < amt k := View.dmaCredit_pos _ (by cases k <;> exact Nat.succ_pos _)

/-- One round: a barrier has five duties of one unit, a copy's two semaphores one duty of the copy's credit. -/
def Rd : Rounds.Schedule (GSem nD τ sig) (Fin 5) 𝕄 where
  duties g r := if r = 0 ∧ g.1.2 = .tc then dutyC (decode g.2) else ∅
  unitless _ := False
  amount g _ _ := amtC (decode g.2)
  payload g _ d := pay A B g.1.1 d (decode g.2)
  amount_pos g _ _ _ := by
    unfold amtC; split <;> first | exact amt_pos _ | exact Nat.one_pos

instance Rd_payload_storable (g : GSem nD τ sig) (r : ℕ) (d : Fin 5) : BI.Storable (upEmb : UEmb _ 𝕄) ((Rd A B).payload g r d) := by
  unfold Rd; infer_instance

/-- The duties of a named semaphore's one round. -/
theorem duties_cell (c : Dev nD) (j : Cl) : (Rd A B).duties (kcell (c, j)) 0 = dutyC (some j) := by
  show (if (0 : ℕ) = 0 ∧ (kcell (c, j)).1.2 = .tc then dutyC (decode (csem j)) else ∅) = _
  rw [decode_csem, if_pos ⟨rfl, rfl⟩]
/-- The amount of one duty of a named semaphore. -/
theorem amount_cell (c : Dev nD) (j : Cl) (r : ℕ) (d : Fin 5) : (Rd A B).amount (kcell (c, j)) r d = amtC (some j) := by
  show amtC (decode (csem j)) = _
  rw [decode_csem]
/-- What a duty of a named semaphore hands over. -/
theorem payload_cell (c : Dev nD) (j : Cl) (r : ℕ) (d : Fin 5) : (Rd A B).payload (kcell (c, j)) r d = pay A B c d (some j) := by
  show pay A B c d (decode (csem j)) = _
  rw [decode_csem]
/-- There is only one round. -/
theorem duties_later (g : GSem nD τ sig) : ∀ r, 1 ≤ r → (Rd A B).duties g r = ∅ := fun r hr => by
  show (if r = 0 ∧ g.1.2 = .tc then dutyC (decode g.2) else ∅) = _
  exact if_neg fun h => by omega

/-- The first barrier waits for five units. -/
theorem expect_bar (c : Dev nD) : (Rd A B).expect (kcell (c, .bar)) 0 = 5 := by
  unfold Schedule.expect Schedule.amountOf
  rw [duties_cell, Finset.sum_congr rfl fun d _ => amount_cell A B c .bar 0 d]; rfl
/-- The second barrier waits for five units. -/
theorem expect_bar2 (c : Dev nD) : (Rd A B).expect (kcell (c, .bar2)) 0 = 5 := by
  unfold Schedule.expect Schedule.amountOf
  rw [duties_cell, Finset.sum_congr rfl fun d _ => amount_cell A B c .bar2 0 d]; rfl
/-- A copy's send semaphore waits for the copy's credit. -/
theorem expect_snd (c : Dev nD) (k : Ch) : (Rd A B).expect (kcell (c, .snd k)) 0 = amt k := by
  unfold Schedule.expect Schedule.amountOf
  rw [duties_cell, Finset.sum_congr rfl fun d _ => amount_cell A B c (.snd k) 0 d]; exact Finset.sum_singleton _ _
/-- A copy's receive semaphore waits for the copy's credit. -/
theorem expect_rcv (c : Dev nD) (k : Ch) : (Rd A B).expect (kcell (c, .rcv k)) 0 = amt k := by
  unfold Schedule.expect Schedule.amountOf
  rw [duties_cell, Finset.sum_congr rfl fun d _ => amount_cell A B c (.rcv k) 0 d]; exact Finset.sum_singleton _ _

/-- The wait for a send hands back the share of the source slot. -/
theorem rest_snd (c : Dev nD) (k : Ch) : bigSep ((Rd A B).duties (kcell (c, .snd k)) 0 \ ∅) (fun d => (Rd A B).payload (kcell (c, .snd k)) 0 d)
    = hold c (src k) (shOf (second k)) (slV A B c (ver k) (src k)) := by
  rw [Finset.sdiff_empty, duties_cell, bigSep_singleton, payload_cell]; rfl
/-- The wait for an arrival hands over the filled destination slot. -/
theorem rest_rcv (c : Dev nD) (k : Ch) : bigSep ((Rd A B).duties (kcell (c, .rcv k)) 0 \ ∅) (fun d => (Rd A B).payload (kcell (c, .rcv k)) 0 d)
    = hold c (dst k) fullShare (slV A B c 0 (dst k)) := by
  rw [Finset.sdiff_empty, duties_cell, bigSep_singleton, payload_cell]; rfl

end Hold

/-! ## What a device owes, and the levels -/

/-- What a device still has to pay: an entry signal, a copy's arrival, an exit signal. -/
inductive Du
  | bar (i : Fin 5) | rcv (k : Ch) | bar2 (i : Fin 5)
  deriving DecidableEq

abbrev duTgt (c : Dev nD) : Du → Dev nD
  | .bar i => nb i c | .rcv k => tgt k c | .bar2 i => nb i c
abbrev duCl : Du → Cl
  | .bar _ => .bar | .rcv k => .rcv k | .bar2 _ => .bar2

/-- The copies in the order they are started. -/
abbrev starts : List Ch :=
  [.x 0 0, .x 0 1, .x 0 2, .x 0 3, .x 1 0, .x 1 1, .x 1 2, .x 1 3, .y 0 0, .y 0 1, .y 0 2, .z 0 0, .y 1 0, .z 0 1, .y 1 1, .z 0 2, .y 1 2,
   .zg 0 0, .z 1 0, .zg 0 1, .z 1 1, .zg 0 2, .z 1 2, .xg 0 0, .yg 0 0, .zg 1 0, .zg 1 1, .xg 0 1, .yg 0 1, .zg 1 2, .xg 0 2, .yg 0 2,
   .yg 1 0, .xg 1 0, .xg 0 3, .xg 1 1, .yg 1 1, .xg 1 2, .yg 1 2, .xg 1 3]

/-- All a device pays, in program order. -/
abbrev todo : List Du :=
  [.bar 0, .bar 1, .bar 2, .bar 3, .bar 4] ++ starts.map .rcv ++ [.bar2 0, .bar2 1, .bar2 2, .bar2 3, .bar2 4]

/-- The sum of a list of payments. -/
def tally (c : Dev nD) : List Du → CellTallies nD τ sig Unit
  | [] => 0
  | d :: l => tally c l + tallyAt (kcell (duTgt c d, duCl d)) () (amtC (some (duCl d)))

def lvC : Cl → ℕ
  | .bar => 1 | .snd _ => 0 | .rcv k => 2 + starts.idxOf k | .bar2 => 100

def L (g : GSem nD τ sig) : Finset Unit := if g.1.2 = .tc then {()} else ∅
def lv (g : GSem nD τ sig) (_ : Unit) : ℕ := match decode g.2 with | some j => lvC j | none => 0

/-- Only the main threads have levels. -/
theorem L_of_ne (g : GSem nD τ sig) (h : g.1.2 ≠ .tc) : L g = ∅ := if_neg h
/-- A semaphore of a main thread has one level. -/
theorem L_tc (c : Dev nD) (sm : SemLoc sig) : L ((c : Thread nD τ), sm) = {()} := if_pos rfl
/-- The level of a named semaphore. -/
theorem lv_cell (c : Dev nD) (j : Cl) (u : Unit) : lv (kcell (c, j)) u = lvC j := by
  show (match decode (csem j) with | some j => lvC j | none => 0) = _
  rw [decode_csem]

/-- Only listed payments are owed. -/
theorem tally_pos {c : Dev nD} {l : List Du} {g : GSem nD τ sig} {u : Unit} (h : 0 < tally c l g u) :
    ∃ d ∈ l, g = kcell (duTgt c d, duCl d) := by
  induction l with
  | nil => exact absurd h (Nat.lt_irrefl 0)
  | cons d l ih =>
    unfold tally at h
    rw [Pi.add_apply, Finsupp.add_apply, tallyAt_apply] at h
    by_cases hg : g = kcell (duTgt c d, duCl d) ∧ u = ()
    · exact ⟨d, List.mem_cons_self, hg.1⟩
    · rw [if_neg hg, Nat.add_zero] at h
      obtain ⟨d', hd', e⟩ := ih h
      exact ⟨d', List.mem_cons_of_mem _ hd', e⟩

/-- A device may wait on a semaphore whose level is below all it still owes. -/
theorem mayWait (c : Dev nD) (sm : SemLoc sig) (l : List Du) (n : ℕ) (hn : lv ((c : Thread nD τ), sm) () ≤ n)
    (h : ∀ d ∈ l, n < lvC (duCl d)) : (levAts L lv : sProp 𝕄) ⊢ MayWait (c : Thread nD τ) sm () (tally c l) :=
  MayOwe.of_cut (L := L) (lev := lv) n (fun p hp => by rw [Finset.mem_singleton.mp hp, L_tc]; exact Finset.mem_singleton_self _)
    (fun g u hg => by obtain ⟨d, hd, rfl⟩ := tally_pos hg; rw [L_tc]; exact Finset.mem_singleton_self _)
    (fun p hp => by rw [Finset.mem_singleton.mp hp]; exact hn)
    (fun g u hg => by obtain ⟨d, hd, rfl⟩ := tally_pos hg; rw [lv_cell]; exact h d hd)

end Cert.MeshProof

end
-- ==== Proof.State.lean ====
/-
What a device owns between two operations of its body: a small finite state says which copies are in flight, what each
slot of the scratch buffers holds, which pieces of the result are written and what is still to be signalled.
-/
module

public import proofs.«01_k».proof.Proof.Cells

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The finite state -/

/-- A copy: not started, in flight, its send waited for, its arrival waited for. -/
inductive CS | pre | fly | sent | done
  deriving DecidableEq

/-- A slot: with another device, holding anything, part filled, or holding filling `v`, the two copies' shares present or not. -/
inductive SS | gone | junk | part (n : ℕ) | val (v : ℕ) (a b : Bool)
  deriving DecidableEq

def SS.isV (v : ℕ) : SS → Bool | .val w _ _ => w == v | _ => false
def SS.has (x : Bool) : SS → Bool | .val _ a b => bif x then b else a | _ => false
def SS.set (x y : Bool) : SS → SS | .val v a b => (bif x then .val v a y else .val v y b) | s => s
/-- The device may overwrite the slot. -/
def SS.free : SS → Bool | .junk => true | .val _ a b => a && b | _ => false
/-- The device may read the slot, whatever it holds. -/
def SS.here : SS → Bool | .gone => false | _ => true

structure Sg where
  ch : Ch → CS
  sl : Sl → SS
  q : Fin 2 → Bool
  out : Rg → Bool
  paid : ℕ
  exits : ℕ

namespace Sg
def setCh (σ : Sg) (k : Ch) (x : CS) : Sg := { σ with ch := fun j => if j = k then x else σ.ch j }
def setSl (σ : Sg) (s : Sl) (x : SS) : Sg := { σ with sl := fun j => if j = s then x else σ.sl j }
def setQ (σ : Sg) (p : Fin 2) : Sg := { σ with q := fun j => if j = p then true else σ.q j }
def setOut (σ : Sg) (g : Rg) : Sg := { σ with out := fun j => if j = g then true else σ.out j }
def pay1 (σ : Sg) : Sg := { σ with paid := σ.paid + 1 }

/-- A slot filled with filling `v`; one more chunk of a gathered row block written; a copy started, its source share back, its arrival. -/
def fill (σ : Sg) (s : Sl) (v : ℕ) : Sg := σ.setSl s (.val v true true)
def fillPart (σ : Sg) (s : Sl) (n : ℕ) : Sg := σ.setSl s (.part (n + 1))
def start (σ : Sg) (k : Ch) : Sg := ((σ.setCh k .fly).setSl (src k) ((σ.sl (src k)).set (second k) false)).pay1
def wsnd (σ : Sg) (k : Ch) : Sg := (σ.setCh k .sent).setSl (src k) ((σ.sl (src k)).set (second k) true)
def wrcv (σ : Sg) (k : Ch) : Sg := (σ.setCh k .done).setSl (dst k) (.val 0 true true)
def exit1 (σ : Sg) : Sg := { σ.pay1 with exits := σ.exits + 1 }

/-- When each step may be taken. -/
def okStart (σ : Sg) (k : Ch) : Bool :=
  decide (σ.ch k = .pre) && (σ.sl (src k)).isV (ver k) && (σ.sl (src k)).has (second k) && decide (todo[σ.paid]? = some (.rcv k))
def okSnd (σ : Sg) (k : Ch) : Bool :=
  decide (σ.ch k = .fly) && (σ.sl (src k)).isV (ver k) && !(σ.sl (src k)).has (second k)
def okRcv (σ : Sg) (k : Ch) : Bool :=
  decide (σ.ch k = .sent) && decide (σ.sl (dst k) = .gone) && (todo.drop σ.paid).all fun d => decide (lvC (.rcv k) < lvC (duCl d))
end Sg

/-! ## What the state stands for -/

section St
variable (A : Dev nD → Vec F S2048x1024 .f32) (B : Dev nD → Vec F S1024x2048 .f32) (K : Dev nD × Cl → ℕ) (c : Dev nD)

/-- Every semaphore's invariant, and that its round 0 is reached. -/
def recs : sProp 𝕄 :=
  iprop((bigSep Finset.univ fun ck : Dev nD × Cl => cellInv ER (Rd A B) (K ck) (kcell ck)) ∗ bigSep Finset.univ fun ck : Dev nD × Cl => reached (ER (F := F)) (kcell ck) 0)

instance recs_persistent : BI.Persistent (recs A B K) := by unfold recs; infer_instance

/-- One semaphore's invariant, out of the records. -/
theorem recs_inv (ck : Dev nD × Cl) : recs A B K ⊢ cellInv ER (Rd A B) (K ck) (kcell ck) := by
  unfold recs; exact (BI.Entails.trans BI.sep_and BI.and_elimL).trans (bigSep_elim (Finset.mem_univ ck))
/-- That one semaphore's round is reached, out of the records. -/
theorem recs_reached (ck : Dev nD × Cl) : recs A B K ⊢ reached (ER (F := F)) (kcell ck) 0 := by
  unfold recs; exact (BI.Entails.trans BI.sep_and BI.and_elimR).trans (bigSep_elim (Finset.mem_univ ck))

/-- What a device holds for a copy of its own, by the copy's state. -/
def chA (k : Ch) : CS → sProp 𝕄
  | .pre => iprop(dutyTok ER (kcell (c, .snd k)) 0 (0 : Fin 5) ∗ dutyTok ER (kcell (tgt k c, .rcv k)) 0 (0 : Fin 5)
      ∗ junk (F := F) (tgt k c) (dst k) ∗ atPos ER (kcell (c, .snd k)) 0 ∅ 0 ∗ atPos ER (kcell (c, .rcv k)) 0 ∅ 0 ∗ cred (tallyAt (kcell (c, .rcv k)) () (amt k)))
  | .fly => iprop(cred (tallyAt (kcell (c, .snd k)) () (amt k)) ∗ atPos ER (kcell (c, .snd k)) 0 ∅ 0
      ∗ atPos ER (kcell (c, .rcv k)) 0 ∅ 0 ∗ cred (tallyAt (kcell (c, .rcv k)) () (amt k)))
  | .sent => iprop(semVal (kcell (c, .snd k)) 0 ∗ atPos ER (kcell (c, .rcv k)) 0 ∅ 0 ∗ cred (tallyAt (kcell (c, .rcv k)) () (amt k)))
  | .done => iprop(semVal (kcell (c, .snd k)) 0 ∗ semVal (kcell (c, .rcv k)) 0)

/-- How much of a gathered row block is written after `n` of its four chunks: slots 0, 1, 2, … of the plane gather. -/
def partOk (n : ℕ) (p : Fin 2) (X : FVec F S256x1024 .bf16) : Prop :=
  ∀ i, (zz c + 5 - (i 0).val / 64) % 4 < n → X i = yaOwn A B c p i

/-- What a device holds of a slot of its own, by the slot's state. -/
def slA (s : Sl) : SS → sProp 𝕄
  | .gone => iprop(emp)
  | .junk => junk c s
  | .part n => iprop(∃ f, ⌜∀ p, (h : s = .ya p 0) → partOk A B c n p ((slM (.ya p 0)).view.read (Elt F) (h ▸ f))⌝ ∗ pts c (slM s) fullShare f)
  | .val v a b => iprop((if a then hold c s shA (slV A B c v s) else emp) ∗ (if b then hold c s shB (slV A B c v s) else emp) ∗ hold c s shC (slV A B c v s))

abbrev oM : Memref sig .tc .vmem S2048x2048 .f32 := Memref.whole cc0_stg2_0
abbrev aM : Memref sig .tc .vmem S2048x1024 .f32 := Memref.whole cc0_stg0_0
abbrev bM : Memref sig .tc .vmem S1024x2048 .f32 := Memref.whole cc0_stg1_0
abbrev qM : Memref sig .tc .vmem S2x256x1024 .f32 := Memref.whole cc0_scratch4

/-- The result buffer, right on the pieces already written. -/
def outA (d : Rg → Bool) : sProp 𝕄 :=
  iprop(∃ f : FVec F S2048x2048 .f32, ⌜∀ i, d (rgOf c (i 0).val (colHalf i)) = true → f i = outV A B c i⌝ ∗ ((c : Thread nD τ).loc cc0_stg2_0) ↦{fullShare} (f : Buf (Elt F) ((c : Thread nD τ).loc cc0_stg2_0)))

/-- An index of the row-block buffer. -/
def qIdx (p : Fin 2) (i : S256x1024.Idx) : S2x256x1024.Idx :=
  Fin.cons ⟨p.val, p.isLt⟩ (Fin.cons ⟨(i 0).val, (i 0).isLt⟩ (Fin.cons ⟨(i 1).val, (i 1).isLt⟩ (fun a => a.elim0)))

/-- The row blocks kept in single precision. -/
def qA (d : Fin 2 → Bool) : sProp 𝕄 :=
  iprop(∃ f : FVec F S2x256x1024 .f32, ⌜∀ p, d p = true → ∀ i, f (qIdx p i) = qV A B c p i⌝ ∗ ((c : Thread nD τ).loc cc0_scratch4) ↦{fullShare} (f : Buf (Elt F) ((c : Thread nD τ).loc cc0_scratch4)))

/-- The exit signals still to be sent, and the exit wait's means. -/
def exitA (n : ℕ) : sProp 𝕄 :=
  iprop((bigSep (Finset.univ.filter fun i : Fin 5 => n ≤ i.val) fun i => dutyTok ER (kcell (nb i c, .bar2)) 0 i)
    ∗ atPos ER (kcell (c, .bar2)) 0 ∅ 0 ∗ cred (tallyAt (kcell (c, .bar2)) () 5))

/-- What stays the same throughout: the invariants, the levels, the two staged operands, the closed entry barrier. -/
def baseA : sProp 𝕄 :=
  iprop((recs A B K ∗ levAts L lv) ∗ (((c : Thread nD τ).loc cc0_stg0_0) ↦{fullShare} (A c : Buf (Elt F) ((c : Thread nD τ).loc cc0_stg0_0)))
    ∗ (((c : Thread nD τ).loc cc0_stg1_0) ↦{fullShare} (B c : Buf (Elt F) ((c : Thread nD τ).loc cc0_stg1_0)))
    ∗ semVal (kcell (c, .bar)) 0)

/-- All a device holds in state `σ`. -/
def St (σ : Sg) : sProp 𝕄 :=
  iprop(baseA A B K c ∗ (bigSep Finset.univ fun k => chA (F := F) c k (σ.ch k)) ∗ (bigSep Finset.univ fun s => slA A B c s (σ.sl s))
    ∗ outA A B c σ.out ∗ qA A B c σ.q ∗ exitA (F := F) c σ.exits ∗ ∃ W, owes (c : Thread nD τ) (tally c (todo.drop σ.paid)) W)

end St

/-! ## One member of a family -/

section Focus
variable {I S : Type} [Fintype I] [DecidableEq I]

/-- A family over a state, taken apart at `i`, -/
theorem focus_out (Φ : I → S → sProp 𝕄) (f : I → S) (i : I) {x : S} (hx : f i = x) :
    bigSep Finset.univ (fun j => Φ j (f j)) ⊢ iprop(Φ i x ∗ bigSep (Finset.univ.erase i) fun j => Φ j (f j)) := by
  subst hx; exact Entails.of_eq (bigSep_univ_split i)
/-- and put together again with `i` in a new state. -/
theorem focus_in (Φ : I → S → sProp 𝕄) (f : I → S) (i : I) (x : S) :
    iprop(Φ i x ∗ bigSep (Finset.univ.erase i) fun j => Φ j (f j)) ⊢ bigSep Finset.univ (fun j => Φ j (if j = i then x else f j)) := by
  refine Entails.of_eq ?_
  rw [bigSep_univ_split (Φ := fun j => Φ j (if j = i then x else f j)) i, if_pos rfl]
  congr 1
  exact bigSep_congr fun j hj => by rw [if_neg (Finset.ne_of_mem_erase hj)]
end Focus

/-! ## Shares of a slot -/

/-- A filled slot is its three shares. -/
theorem hold_split (c : Dev nD) (s : Sl) (V : FVec F (shp s) .bf16) :
    hold c s fullShare V ⊣⊢ iprop(hold c s shA V ∗ hold c s shB V ∗ hold c s shC V) := by
  unfold hold
  have h1 := (pointsTo_share (Ix := Unit) (Name := ℕ) (U := UU) (Lvl := ℕ) (ℓ := (slM s).view.loc (c : Thread nD τ)) (I := (slM s).view.set)
    (f := ((slM s).view.rep V : Buf (Elt F) _)) (PosShare.mem_left_op_right fullShare))
  have h2 := (pointsTo_share (Ix := Unit) (Name := ℕ) (U := UU) (Lvl := ℕ) (ℓ := (slM s).view.loc (c : Thread nD τ)) (I := (slM s).view.set)
    (f := ((slM s).view.rep V : Buf (Elt F) _)) (PosShare.mem_left_op_right fullShare.right))
  constructor
  · exact h1.1.trans (sep_mono_right h2.1)
  · exact (sep_mono_right h2.2).trans h1.2

end Cert.MeshProof

end
-- ==== Proof.Steps.lean ====
/-
One rule per kind of operation of the body: the state before it, the state after it.
-/
module

public import proofs.«01_k».proof.Proof.State
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a device's program. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Slots and the memory operations -/

section Sq
variable {sM s' : Shape} (M : Memref sig .tc .vmem sM .bf16) (r : Rect sM) (hr : ∀ a, r.stride a = 1) (hq : r.shape.Squeezes s')

/-- Dropping axes of extent one does not change which elements a memref covers. -/
theorem sq_set : ((M.slice r hr).squeeze s' hq).view.set = (M.access r).set := Memref.set_view_squeeze _ _

/-- A load of a whole slot reads its contents, with the two unit axes put back. -/
theorem sq_readAt (V : FVec F s' .bf16) :
    M.view.readAt (Elt F) r.toLoadRect (((M.slice r hr).squeeze s' hq).view.rep V : M.view.ty.Contents (Elt F)) = shapeCast r.shape V hq.numel_eq.symm := by
  have h := Memref.read_squeeze_slice (Val := Elt F) M r hr hq hq.numel_eq (((M.slice r hr).squeeze s' hq).view.rep V)
  rw [View.read_rep] at h
  exact ((congrArg (fun x => shapeCast r.shape x hq.numel_eq.symm) h).trans (shapeCast_shapeCast _ _ _)).symm

/-- After a store over a whole slot the slot holds what was stored. -/
theorem sq_read_write (f : M.view.ty.Contents (Elt F)) (V : FVec F s' .bf16) (w : FVec F r.shape .bf16) (hw : w = shapeCast r.shape V hq.numel_eq.symm) :
    ((M.slice r hr).squeeze s' hq).view.read (Elt F) ((M.access r).write (Elt F) f w Finset.univ) = V := by
  rw [Memref.read_squeeze_slice (Val := Elt F) M r hr hq hq.numel_eq]
  rw [View.readAt_rect]
  refine (congrArg (fun x => shapeCast s' x hq.numel_eq) (View.read_write_univ (v := M.view.slice r) f w)).trans ?_
  rw [hw, shapeCast_shapeCast]
end Sq

section Wp
variable (c : Dev nD)

/-- A load through the whole buffer, holding a slot of it. -/
theorem wp_load_sq {α : Type} {Q : α → sProp (MT nD τ sig Unit (Elt F) ℕ UU ℕ)} {sM s' : Shape} {M : Memref sig .tc .vmem sM .bf16} {r : Rect sM} {hr : ∀ a, r.stride a = 1} {hq : r.shape.Squeezes s'}
    (m : Memref sig .tc .vmem s' .bf16) (hM : (M.slice r hr).squeeze s' hq = m) {hl : M.view.LoadsAt r.toLoadRect} (q : PosShare TreeShare) (V : FVec F s' .bf16)
    {k : (Vec F r.shape .bf16) → Prog (TpuEff nD τ sig (Elt F) Λ₀ .tc) α} :
    pts (F := F) c m q (m.view.rep V) ⊢ iprop((pts c m q (m.view.rep V) -∗ wpc c (k (shapeCast r.shape V hq.numel_eq.symm)) Q) -∗ wpc c (.op (.load M r.toLoadRect hl) k) Q) := by
  subst hM
  rw [← sq_readAt M r hr hq V]
  exact wp_load 𝒱₀ (c : Thread nD τ) none Set.univ (m := M) (r := r.toLoadRect) (k := k)
    (S := ((M.slice r hr).squeeze s' hq).view.set) (by rw [sq_set, View.set_slice]; exact Finset.Subset.refl _)

/-- A load whose result is not looked at. -/
theorem wp_load_any {α : Type} {Q : α → sProp (MT nD τ sig Unit (Elt F) ℕ UU ℕ)} {sM s' : Shape} {M : Memref sig .tc .vmem sM .bf16} {r : Rect sM} {hr : ∀ a, r.stride a = 1} {hq : r.shape.Squeezes s'}
    (m : Memref sig .tc .vmem s' .bf16) (hM : (M.slice r hr).squeeze s' hq = m) {hl : M.view.LoadsAt r.toLoadRect} (q : PosShare TreeShare)
    (f : Buf (Elt F) (m.view.loc (c : Thread nD τ))) {k : (Vec F r.shape .bf16) → Prog (TpuEff nD τ sig (Elt F) Λ₀ .tc) α} :
    pts (F := F) c m q f ⊢ iprop((∀ v, pts c m q f -∗ wpc c (k v) Q) -∗ wpc c (.op (.load M r.toLoadRect hl) k) Q) := by
  subst hM
  iintro H Hk
  iapply (wp_load 𝒱₀ (c : Thread nD τ) none Set.univ (m := M) (r := r.toLoadRect) (k := k)
    (S := ((M.slice r hr).squeeze s' hq).view.set) (by rw [sq_set, View.set_slice]; exact Finset.Subset.refl _)) $$ H
  iintro H
  iapply Hk
  iexact H

/-- A store over a whole slot. -/
theorem wp_store_sq {α : Type} {Q : α → sProp (MT nD τ sig Unit (Elt F) ℕ UU ℕ)} {sM s' : Shape} {M : Memref sig .tc .vmem sM .bf16} {r : Rect sM} {hr : ∀ a, r.stride a = 1} {hq : r.shape.Squeezes s'}
    (m : Memref sig .tc .vmem s' .bf16) (hM : (M.slice r hr).squeeze s' hq = m) {w : Vec F r.shape .bf16} {hx : (M.access r).Stores Finset.univ}
    {hm : (Finset.univ : Finset r.shape.Idx) = Finset.univ ∨ ∀ a, r.stride a = 1} (V : FVec F s' .bf16) (hw : w = shapeCast r.shape V hq.numel_eq.symm)
    (f : Buf (Elt F) (m.view.loc (c : Thread nD τ))) {k : PUnit → Prog (TpuEff nD τ sig (Elt F) Λ₀ .tc) α} :
    pts (F := F) c m fullShare f ⊢ iprop((pts c m fullShare (m.view.rep V) -∗ wpc c (k ⟨⟩) Q) -∗ wpc c (.op (.store M r w Finset.univ hx hm) k) Q) := by
  subst hM
  iintro H Hk
  iapply (wp_store 𝒱₀ (c : Thread nD τ) none Set.univ (m := M) (r := r) (Mk := Finset.univ) (k := k)
    (S := ((M.slice r hr).squeeze s' hq).view.set) (by rw [sq_set]; exact Finset.Subset.refl _)) $$ H
  iintro H
  iapply Hk
  iapply (pointsTo_rep_of_read (c : Thread nD τ) ((M.slice r hr).squeeze s' hq) _ fullShare V (sq_read_write M r hr hq f V w hw)) $$ H

end Wp

/-- A copy's credit, counted at its source. -/
theorem amt_src (k : Ch) : (srcM k).view.dmaCredit = amt k := by cases k <;> rfl
/-- Every duty is above the lowest level. -/
theorem lvC_pos (d : Du) : 0 < lvC (duCl d) := by
  cases d with
  | bar i => exact Nat.one_pos
  | rcv k => exact Nat.lt_of_lt_of_le Nat.two_pos (Nat.le_add_right _ _)
  | bar2 i => exact Nat.succ_pos _

/-! ## Taking the state apart -/

section Rules
variable (A : Dev nD → Vec F S2048x1024 .f32) (B : Dev nD → Vec F S1024x2048 .f32) (K : Dev nD × Cl → ℕ) (c : Dev nD)

/-- A slot taken out of the state and put back, in any state. -/
theorem St_sl (σ : Sg) (s : Sl) {x : SS} (hx : σ.sl s = x) :
    St A B K c σ ⊢ iprop(slA A B c s x ∗ ∀ y, slA A B c s y -∗ St A B K c (σ.setSl s y)) := by
  unfold St
  iintro ⟨Hb, Hch, Hsl, Ho, Hq, He, HO⟩
  ihave Hsl := (focus_out (slA A B c) σ.sl s hx) $$ Hsl
  icases Hsl with ⟨Hs, Hrest⟩
  isplitl [Hs]; · iexact Hs
  iintro %y Hy
  isplitl [Hb]; · iexact Hb
  isplitl [Hch]; · iexact Hch
  isplitl [Hy Hrest]
  · iapply (focus_in (slA A B c) σ.sl s y)
    isplitl [Hy]; · iexact Hy
    iexact Hrest
  isplitl [Ho]; · iexact Ho
  isplitl [Hq]; · iexact Hq
  isplitl [He]; · iexact He
  iexact HO

/-- A slot's own state put back changes nothing. -/
theorem setSl_self (σ : Sg) (s : Sl) : σ.setSl s (σ.sl s) = σ := by
  unfold Sg.setSl
  have : (fun j => if j = s then σ.sl s else σ.sl j) = σ.sl := funext fun j => by
    by_cases h : j = s
    · rw [if_pos h, h]
    · exact if_neg h
  rw [this]

/-- A copy and a slot taken out of the state, with what is owed, and put back in any state. -/
theorem St_ch (σ : Sg) (k : Ch) (s : Sl) {x : CS} {y : SS} (hx : σ.ch k = x) (hy : σ.sl s = y) :
    St A B K c σ ⊢ iprop((recs A B K ∗ levAts L lv) ∗ chA (F := F) c k x ∗ slA A B c s y ∗ (∃ W, owes (c : Thread nD τ) (tally c (todo.drop σ.paid)) W)
      ∗ ∀ x', ∀ y', ∀ n, (chA (F := F) c k x' ∗ slA A B c s y' ∗ ∃ W, owes (c : Thread nD τ) (tally c (todo.drop n)) W)
          -∗ St A B K c { (σ.setCh k x').setSl s y' with paid := n }) := by
  unfold St baseA
  iintro ⟨⟨⟨#HR, #HL⟩, HA, HB, Hz⟩, Hch, Hsl, Ho, Hq, He, HO⟩
  isplitr; · isplitr; · iexact HR
             iexact HL
  ihave Hch := (focus_out (chA (F := F) c) σ.ch k hx) $$ Hch
  icases Hch with ⟨Hk, Hcr⟩
  isplitl [Hk]; · iexact Hk
  ihave Hsl := (focus_out (slA A B c) σ.sl s hy) $$ Hsl
  icases Hsl with ⟨Hs, Hrest⟩
  isplitl [Hs]; · iexact Hs
  isplitl [HO]; · iexact HO
  iintro %x' %y' %n ⟨Hk, Hs, HO⟩
  isplitl [HA HB Hz]
  · isplitr; · isplitr; · iexact HR
               iexact HL
    isplitl [HA]; · iexact HA
    isplitl [HB]; · iexact HB
    iexact Hz
  isplitl [Hk Hcr]
  · iapply (focus_in (chA (F := F) c) σ.ch k x')
    isplitl [Hk]; · iexact Hk
    iexact Hcr
  isplitl [Hs Hrest]
  · iapply (focus_in (slA A B c) σ.sl s y')
    isplitl [Hs]; · iexact Hs
    iexact Hrest
  isplitl [Ho]; · iexact Ho
  isplitl [Hq]; · iexact Hq
  isplitl [He]; · iexact He
  iexact HO

variable {A B K c}

/-- A slot known to hold a filling is in the state of that filling. -/
theorem SS.isV_eq {x : SS} {v : ℕ} (h : x.isV v = true) : ∃ a b, x = .val v a b := by
  cases x with
  | val w a b => exact ⟨a, b, by rw [show w = v from beq_iff_eq.mp h]⟩
  | _ => exact absurd h Bool.false_ne_true

/-- A slot holding anything. -/
theorem slA_junk (s : Sl) : slA A B c s .junk = iprop(∃ f, pts (F := F) c (slM s) fullShare f) := rfl
/-- A slot partly filled. -/
theorem slA_part (s : Sl) (n : ℕ) : slA A B c s (.part n)
    = iprop(∃ f, ⌜∀ p, (h : s = .ya p 0) → partOk A B c n p ((slM (.ya p 0)).view.read (Elt F) (h ▸ f))⌝ ∗ pts c (slM s) fullShare f) := rfl
/-- A slot holding a filling. -/
theorem slA_val (s : Sl) (v : ℕ) (a b : Bool) : slA A B c s (.val v a b)
    = iprop((if a then hold c s shA (slV A B c v s) else emp) ∗ (if b then hold c s shB (slV A B c v s) else emp)
        ∗ pts c (slM s) shC ((slM s).view.rep (slV A B c v s))) := rfl

/-- Loading a filled slot. -/
theorem st_load {α : Type} {Q : α → sProp (MT nD τ sig Unit (Elt F) ℕ UU ℕ)} (σ : Sg) (s : Sl) (v : ℕ) {sM : Shape} {M : Memref sig .tc .vmem sM .bf16} {r : Rect sM} {hr : ∀ a, r.stride a = 1} {hq : r.shape.Squeezes (shp s)}
    (hM : (M.slice r hr).squeeze (shp s) hq = slM s) (hs : (σ.sl s).isV v = true) {hl : M.view.LoadsAt r.toLoadRect}
    {k : (Vec F r.shape .bf16) → Prog (TpuEff nD τ sig (Elt F) Λ₀ .tc) α}
    (h : St A B K c σ ⊢ wpc c (k (shapeCast r.shape (slV A B c v s) hq.numel_eq.symm)) Q) : St A B K c σ ⊢ wpc c (.op (.load M r.toLoadRect hl) k) Q := by
  obtain ⟨a, b, hx⟩ := SS.isV_eq hs
  refine (St_sl A B K c σ s hx).trans ?_
  iintro ⟨Hs, Hback⟩
  ihave Hs := (Entails.of_eq (slA_val s v a b)) $$ Hs
  icases Hs with ⟨Ha, Hb, Hc⟩
  iapply (wp_load_sq c (slM s) hM (hl := hl) shC (slV A B c v s) (k := k)) $$ Hc
  iintro Hc
  iapply h
  rw [show St A B K c σ = St A B K c (σ.setSl s (.val v a b)) by rw [← hx, setSl_self]]
  iapply Hback
  rw [slA_val]
  isplitl [Ha]; · iexact Ha
  isplitl [Hb]; · iexact Hb
  iexact Hc

/-- Loading a slot for nothing. -/
theorem st_dead {α : Type} {Q : α → sProp (MT nD τ sig Unit (Elt F) ℕ UU ℕ)} (σ : Sg) (s : Sl) {sM : Shape} {M : Memref sig .tc .vmem sM .bf16} {r : Rect sM} {hr : ∀ a, r.stride a = 1} {hq : r.shape.Squeezes (shp s)}
    (hM : (M.slice r hr).squeeze (shp s) hq = slM s) (hs : (σ.sl s).here = true) {hl : M.view.LoadsAt r.toLoadRect}
    {k : (Vec F r.shape .bf16) → Prog (TpuEff nD τ sig (Elt F) Λ₀ .tc) α}
    (h : ∀ v, St A B K c σ ⊢ wpc c (k v) Q) : St A B K c σ ⊢ wpc c (.op (.load M r.toLoadRect hl) k) Q := by
  cases hx : σ.sl s with
  | gone => rw [hx] at hs; exact absurd hs Bool.false_ne_true
  | junk =>
    refine (St_sl A B K c σ s hx).trans ?_
    iintro ⟨Hs, Hback⟩
    ihave Hs := (Entails.of_eq (slA_junk s)) $$ Hs
    icases Hs with ⟨%f, H⟩
    iapply (wp_load_any c (slM s) hM (hl := hl) fullShare f (k := k)) $$ H
    iintro %v H
    iapply (h v)
    rw [show St A B K c σ = St A B K c (σ.setSl s .junk) by rw [← hx, setSl_self]]
    iapply Hback
    rw [slA_junk]
    iexists f; iexact H
  | part n =>
    refine (St_sl A B K c σ s hx).trans ?_
    iintro ⟨Hs, Hback⟩
    ihave Hs := (Entails.of_eq (slA_part s n)) $$ Hs
    icases Hs with ⟨%f, %hf, H⟩
    iapply (wp_load_any c (slM s) hM (hl := hl) fullShare f (k := k)) $$ H
    iintro %v H
    iapply (h v)
    rw [show St A B K c σ = St A B K c (σ.setSl s (.part n)) by rw [← hx, setSl_self]]
    iapply Hback
    rw [slA_part]
    iexists f; isplitr; · ipureintro; exact hf
    iexact H
  | val v a b =>
    exact st_load σ s v hM (by rw [hx]; exact beq_self_eq_true v) (h _)

/-- A slot owned whole. -/
theorem hold_junk (c : Dev nD) (s : Sl) (V : FVec F (shp s) .bf16) : hold c s fullShare V ⊢ junk (F := F) c s := by
  unfold hold junk
  iintro H
  iexists _; iexact H

/-- The shares of a filled slot are the slot, owned whole. -/
theorem slA_free {s : Sl} {x : SS} (hx : x.free = true) : slA A B c s x ⊢ junk c s := by
  cases x with
  | junk => exact Entails.refl _
  | val v a b =>
    cases a <;> cases b <;> first | exact absurd hx Bool.false_ne_true | skip
    refine BIBase.Entails.trans ?_ (hold_junk c s (slV A B c v s))
    unfold slA
    simp only [if_true]
    exact (hold_split c s (slV A B c v s)).2
  | _ => exact absurd hx Bool.false_ne_true

/-- A slot, owned whole and holding filling `v`, as its shares. -/
theorem slA_full {s : Sl} (v : ℕ) : hold c s fullShare (slV A B c v s) ⊢ slA A B c s (.val v true true) := by
  unfold slA
  simp only [if_true]
  exact (hold_split c s (slV A B c v s)).1

/-- Storing over a whole slot. -/
theorem st_store {α : Type} {Q : α → sProp (MT nD τ sig Unit (Elt F) ℕ UU ℕ)} (σ : Sg) (s : Sl) (v : ℕ) {sM : Shape} {M : Memref sig .tc .vmem sM .bf16} {r : Rect sM} {hr : ∀ a, r.stride a = 1} {hq : r.shape.Squeezes (shp s)}
    (hM : (M.slice r hr).squeeze (shp s) hq = slM s) (hs : (σ.sl s).free = true) {w : Vec F r.shape .bf16} {hx : (M.access r).Stores Finset.univ}
    {hm : (Finset.univ : Finset r.shape.Idx) = Finset.univ ∨ ∀ a, r.stride a = 1} {k : PUnit → Prog (TpuEff nD τ sig (Elt F) Λ₀ .tc) α}
    (hw : w = shapeCast r.shape (slV A B c v s) hq.numel_eq.symm)
    (h : St A B K c (σ.fill s v) ⊢ wpc c (k ⟨⟩) Q) : St A B K c σ ⊢ wpc c (.op (.store M r w Finset.univ hx hm) k) Q := by
  refine (St_sl A B K c σ s rfl).trans ?_
  refine (sep_mono_left (slA_free hs)).trans ?_
  unfold junk
  iintro ⟨⟨%f, H⟩, Hback⟩
  iapply (wp_store_sq c (slM s) hM (hx := hx) (hm := hm) (slV A B c v s) hw f (k := k)) $$ H
  iintro H
  iapply h
  unfold Sg.fill
  iapply Hback
  iapply (slA_full v)
  unfold hold
  iexact H

/-- A copy's share of its source slot taken out, -/
theorem slA_take {s : Sl} {x : SS} {v : ℕ} {t : Bool} (hv : x.isV v = true) (ht : x.has t = true) :
    slA A B c s x ⊢ iprop(hold c s (shOf t) (slV A B c v s) ∗ slA A B c s (x.set t false)) := by
  obtain ⟨a, b, rfl⟩ := SS.isV_eq hv
  cases t
  · have ha : a = true := ht
    subst ha
    rw [show (SS.val v true b).set false false = .val v false b from rfl, slA_val, slA_val]
    simp only [if_true, Bool.false_eq_true, if_false]
    iintro ⟨H1, H2, H3⟩
    isplitl [H1]; · iexact H1
    isplitr; · iempintro
    isplitl [H2]; · iexact H2
    iexact H3
  · have hb : b = true := ht
    subst hb
    rw [show (SS.val v a true).set true false = .val v a false from rfl, slA_val, slA_val]
    simp only [if_true, Bool.false_eq_true, if_false]
    iintro ⟨H1, H2, H3⟩
    isplitl [H2]; · iexact H2
    isplitl [H1]; · iexact H1
    isplitr; · iempintro
    iexact H3

/-- and put back. -/
theorem slA_give {s : Sl} {x : SS} {v : ℕ} {t : Bool} (hv : x.isV v = true) (ht : x.has t = false) :
    iprop(hold c s (shOf t) (slV A B c v s) ∗ slA A B c s x) ⊢ slA A B c s (x.set t true) := by
  obtain ⟨a, b, rfl⟩ := SS.isV_eq hv
  cases t
  · have ha : a = false := ht
    subst ha
    rw [show (SS.val v false b).set false true = .val v true b from rfl, slA_val, slA_val]
    simp only [if_true, Bool.false_eq_true, if_false]
    iintro ⟨H1, -, H2, H3⟩
    isplitl [H1]; · iexact H1
    isplitl [H2]; · iexact H2
    iexact H3
  · have hb : b = false := ht
    subst hb
    rw [show (SS.val v a false).set true true = .val v a true from rfl, slA_val, slA_val]
    simp only [if_true, Bool.false_eq_true, if_false]
    iintro ⟨H2, H1, -, H3⟩
    isplitl [H1]; · iexact H1
    isplitl [H2]; · iexact H2
    iexact H3

/-- What is held for a copy in flight. -/
theorem chA_fly (k : Ch) : chA (F := F) c k .fly = iprop(cred (tallyAt (kcell (c, .snd k)) () (amt k)) ∗ atPos ER (kcell (c, .snd k)) 0 ∅ 0
    ∗ atPos ER (kcell (c, .rcv k)) 0 ∅ 0 ∗ cred (tallyAt (kcell (c, .rcv k)) () (amt k))) := rfl
/-- What is held for a copy whose send was waited for. -/
theorem chA_sent (k : Ch) : chA (F := F) c k .sent
    = iprop(semVal (kcell (c, .snd k)) 0 ∗ atPos ER (kcell (c, .rcv k)) 0 ∅ 0 ∗ cred (tallyAt (kcell (c, .rcv k)) () (amt k))) := rfl
/-- What is held for a copy that is over. -/
theorem chA_done (k : Ch) : chA (F := F) c k .done = iprop(semVal (kcell (c, .snd k)) 0 ∗ semVal (kcell (c, .rcv k)) 0) := rfl
/-- What is held for a copy not yet started. -/
theorem chA_pre (k : Ch) : chA (F := F) c k .pre = iprop(dutyTok ER (kcell (c, .snd k)) 0 (0 : Fin 5) ∗ dutyTok ER (kcell (tgt k c, .rcv k)) 0 (0 : Fin 5)
      ∗ junk (F := F) (tgt k c) (dst k) ∗ atPos ER (kcell (c, .snd k)) 0 ∅ 0 ∗ atPos ER (kcell (c, .rcv k)) 0 ∅ 0
      ∗ cred (tallyAt (kcell (c, .rcv k)) () (amt k))) := rfl

/-- The next thing owed, and the rest. -/
theorem todo_drop {n : ℕ} {d : Du} (h : todo[n]? = some d) : todo.drop n = d :: todo.drop (n + 1) := by
  obtain ⟨hn, rfl⟩ := List.getElem?_eq_some_iff.mp h
  exact List.drop_eq_getElem_cons hn

/-- What the copy writes is what the receiver's slot is to hold. -/
theorem landed (k : Ch) (fd : Buf (Elt F) ((dstM k).view.loc (tgt k c : Thread nD τ))) :
    ((dstM k).view.loc (tgt k c : Thread nD τ) ↦[(dstM k).view.set]{fullShare}
        ((dstM k).view.write (Elt F) fd ((srcM k).view.read (Elt F) ((srcM k).view.rep (chV A B c k))) Finset.univ) : sProp 𝕄)
      ⊢ hold (tgt k c) (dst k) fullShare (slV A B (tgt k c) 0 (dst k)) := by
  rw [hold_dst, View.read_rep]
  exact pointsTo_rep_of_read (tgt k c : Thread nD τ) (dstM k) _ fullShare _ (View.read_write_univ _ _)

/-- What is owed is the next thing and the rest. -/
theorem tally_cons (c : Dev nD) (d : Du) (l : List Du) :
    tally c (d :: l) = tally c l + tallyAt (kcell (duTgt c d, duCl d)) () (amtC (some (duCl d))) := rfl

/-- A send semaphore's one duty. -/
theorem duties_snd (c : Dev nD) (k : Ch) : (0 : Fin 5) ∈ (Rd A B).duties (kcell (c, .snd k)) 0 := by
  rw [duties_cell]; exact Finset.mem_singleton_self _
/-- A receive semaphore's one duty. -/
theorem duties_rcv (c : Dev nD) (k : Ch) : (0 : Fin 5) ∈ (Rd A B).duties (kcell (c, .rcv k)) 0 := by
  rw [duties_cell]; exact Finset.mem_singleton_self _

/-- Starting a copy between two devices, for any memrefs and semaphores. -/
theorem wp_send_gen {α : Type} {Q : α → sProp (MT nD τ sig Unit (Elt F) ℕ UU ℕ)} {s : Shape} (c n : Dev nD) (m1 m2 : Memref sig .tc .vmem s .bf16) (s1 s2 : DmaSem sig)
    (κ₁ κ₂ : ℕ) (N : ℕ) (q : PosShare TreeShare) (fs : Buf (Elt F) (m1.view.loc (c : Thread nD τ))) (fd : Buf (Elt F) (m2.view.loc (n : Thread nD τ)))
    (P1 P2 : sProp (MT nD τ sig Unit (Elt F) ℕ UU ℕ))
    (hd₁ : (0 : Fin 5) ∈ (Rd A B).duties ((c : Thread nD τ), .dma s1) 0) (hd₂ : (0 : Fin 5) ∈ (Rd A B).duties ((n : Thread nD τ), .dma s2) 0)
    (hN : m2.view.dmaCredit = N) (hk₁ : (Rd A B).amount ((c : Thread nD τ), .dma s1) 0 0 = N) (hk₂ : (Rd A B).amount ((n : Thread nD τ), .dma s2) 0 0 = N)
    (e1 : (Rd A B).payload ((c : Thread nD τ), .dma s1) 0 0 = P1) (e2 : (Rd A B).payload ((n : Thread nD τ), .dma s2) 0 0 = P2)
    (hp1 : pts c m1 q fs ⊢ P1) (hp2 : pts n m2 fullShare (m2.view.write (Elt F) fd (m1.view.read (Elt F) fs) Finset.univ) ⊢ P2)
    (O : CellTallies nD τ sig Unit) (W : Waits sig Unit)
    {hsc : m2.view.ref.isScScratch = false} {h1 : m1.view.WordExact} {h2 : m2.view.WordExact}
    {h3 : DmaTarget.Typed .vmem (.dma s2) (.remote (Dev.tc n : Thread nD τ) m2 (.dma s1) hsc)}
    {kk : PUnit → Prog (TpuEff nD τ sig (Elt F) Λ₀ .tc) α} :
    iprop(cellInv ER (Rd A B) κ₁ ((c : Thread nD τ), .dma s1) ∗ cellInv ER (Rd A B) κ₂ ((n : Thread nD τ), .dma s2)
      ∗ pts c m1 q fs ∗ pts n m2 fullShare fd ∗ owes (c : Thread nD τ) (O + tallyAt ((n : Thread nD τ), .dma s2) () N) W
      ∗ dutyTok ER ((c : Thread nD τ), .dma s1) 0 (0 : Fin 5) ∗ reached (ER (F := F)) ((c : Thread nD τ), .dma s1) 0
      ∗ dutyTok ER ((n : Thread nD τ), .dma s2) 0 (0 : Fin 5) ∗ reached (ER (F := F)) ((n : Thread nD τ), .dma s2) 0)
    ⊢ iprop(((cred (tallyAt ((c : Thread nD τ), .dma s1) () N) ∗ owes (c : Thread nD τ) O W) -∗ wpc c (kk ⟨⟩) Q)
        -∗ wpc c (.op (.enqueueDma m1 (.remote (Dev.tc n : Thread nD τ) m2 (.dma s1) hsc) (.dma s2) h1 h2 h3) kk) Q) := by
  subst e1 e2
  exact Rounds.wp_send_pointsTo 𝒱₀ ER (Rd A B) (c : Thread nD τ) none (κ₁ := κ₁) (κ₂ := κ₂)
    (r₁ := 0) (r₂ := 0) (d₁ := (0 : Fin 5)) (d₂ := (0 : Fin 5)) (fd := fd) (q := q) (fs := fs)
    hd₁ hd₂ () () N hN hk₁ hk₂ O rfl (W := W) hp1 hp2

/-- Starting a copy. -/
theorem st_start {α : Type} {Q : α → sProp 𝕄} (σ : Sg) (k : Ch) (n : Dev nD) (hn : n = tgt k c) (hok : σ.okStart k = true)
    {hsc : (dstM k).view.ref.isScScratch = false} {h1 : (srcM k).view.WordExact} {h2 : (dstM k).view.WordExact}
    {h3 : DmaTarget.Typed .vmem (.dma (rcvS k)) (.remote (Dev.tc n : Thread nD τ) (dstM k) (.dma (sndS k)) hsc)}
    {kk : PUnit → Prog (TpuEff nD τ sig (Elt F) Λ₀ .tc) α}
    (h : St A B K c (σ.start k) ⊢ wpc c (kk ⟨⟩) Q) :
    St A B K c σ ⊢ wpc c (.op (.enqueueDma (srcM k) (.remote (Dev.tc n : Thread nD τ) (dstM k) (.dma (sndS k)) hsc) (.dma (rcvS k)) h1 h2 h3) kk) Q := by
  subst hn
  unfold Sg.okStart at hok
  simp only [Bool.and_eq_true, decide_eq_true_eq] at hok
  obtain ⟨⟨⟨hc, hv⟩, ht⟩, hd⟩ := hok
  refine (St_ch A B K c σ k (src k) hc rfl).trans ?_
  iintro ⟨⟨#HR, #HL⟩, Hk, Hs, ⟨%W, HO⟩, Hback⟩
  ihave Hs := (slA_take hv ht) $$ Hs
  icases Hs with ⟨Hsrc, Hs⟩
  ihave Hsrc := (Entails.of_eq (hold_src A B c k (shOf (second k)))) $$ Hsrc
  ihave Hk := (Entails.of_eq (chA_pre k)) $$ Hk
  icases Hk with ⟨Hd1, Hd2, Hj, Ha1, Ha2, Hc2⟩
  ihave Hj := (Entails.of_eq (junk_dst (tgt k c) k)) $$ Hj
  icases Hj with ⟨%fd, Hj⟩
  ihave HO := (Entails.of_eq (congrArg (fun l => owes (c : Thread nD τ) (tally c l) W) (todo_drop hd))) $$ HO
  ihave HO := (Entails.of_eq (congrArg (fun l => owes (c : Thread nD τ) l W) (tally_cons c _ _))) $$ HO
  iapply (wp_send_gen c (tgt k c) (srcM k) (dstM k) (sndS k) (rcvS k) (K (c, .snd k)) (K (tgt k c, .rcv k)) (amt k) (shOf (second k))
    ((srcM k).view.rep (chV A B c k)) fd _ _ (duties_snd c k) (duties_rcv (tgt k c) k) rfl (amount_cell A B c (.snd k) 0 0)
    (amount_cell A B (tgt k c) (.rcv k) 0 0) (payload_cell A B c (.snd k) 0 0) (payload_cell A B (tgt k c) (.rcv k) 0 0)
    (Entails.of_eq (hold_src A B c k (shOf (second k))).symm) (landed k fd) (tally c (todo.drop (σ.paid + 1))) W) $$ [Hsrc Hj HO Hd1 Hd2]
  · isplitr; · iapply (recs_inv A B K (c, .snd k)); iexact HR
    isplitr; · iapply (recs_inv A B K (tgt k c, .rcv k)); iexact HR
    isplitl [Hsrc]; · iexact Hsrc
    isplitl [Hj]; · iexact Hj
    isplitl [HO]; · iexact HO
    isplitl [Hd1]; · iexact Hd1
    isplitr; · iapply (recs_reached A B K (c, .snd k)); iexact HR
    isplitl [Hd2]; · iexact Hd2
    iapply (recs_reached A B K (tgt k c, .rcv k)); iexact HR
  iintro ⟨Hc1, HO⟩
  iapply h
  unfold Sg.start Sg.pay1
  iapply Hback $$ %CS.fly %((σ.sl (src k)).set (second k) false) %(σ.paid + 1)
  isplitl [Hc1 Ha1 Ha2 Hc2]
  · rw [chA_fly]
    isplitl [Hc1]; · iexact Hc1
    isplitl [Ha1]; · iexact Ha1
    isplitl [Ha2]; · iexact Ha2
    iexact Hc2
  isplitl [Hs]; · iexact Hs
  iexists W; iexact HO

/-- Waiting for the own side of a copy. -/
theorem st_wsnd {α : Type} {Q : α → sProp 𝕄} (σ : Sg) (k : Ch) (hok : σ.okSnd k = true)
    {h1 : (dstM k).view.WordExact} {h2 : (srcM k).view.WordExact} {kk : PUnit → Prog (TpuEff nD τ sig (Elt F) Λ₀ .tc) α}
    (h : St A B K c (σ.wsnd k) ⊢ wpc c (kk ⟨⟩) Q) : St A B K c σ ⊢ wpc c (.op (.waitDma2 (sndS k) (dstM k) (srcM k) h1 h2) kk) Q := by
  unfold Sg.okSnd at hok
  simp only [Bool.and_eq_true, decide_eq_true_eq, Bool.not_eq_true'] at hok
  obtain ⟨⟨hc, hv⟩, ht⟩ := hok
  refine (St_ch A B K c σ k (src k) hc rfl).trans ?_
  iintro ⟨⟨#HR, #HL⟩, Hk, Hs, ⟨%W, HO⟩, Hback⟩
  ihave Hk := (Entails.of_eq (chA_fly k)) $$ Hk
  icases Hk with ⟨Hc1, Ha1, Ha2, Hc2⟩
  iapply (Rounds.wp_wait_rest_token 𝒱₀ ER (Rd A B) (c : Thread nD τ) none (κ := K (c, .snd k))
      (wpE_waitDma2_eq 𝒱₀ (c : Thread nD τ) none Set.univ) (Set.mem_univ _) () (O := tally c (todo.drop σ.paid)) (W := W) (R := 0) (m := 0) (T := ∅)
      (by rw [Nat.zero_add]; exact (amt_src k).trans (expect_snd A B c k).symm)) $$ [Hc1 HO Ha1]
  · isplitr; · iapply (recs_inv A B K (c, .snd k)); iexact HR
    isplitl [Hc1]; · rw [amt_src]; iexact Hc1
    isplitl [HO]; · iexact HO
    isplitr; · iapply (mayWait c (csem (.snd k)) (todo.drop σ.paid) 0 (Nat.le_of_eq (lv_cell c (.snd k) ())) (fun d _ => lvC_pos d)); iexact HL
    iexact Ha1
  iintro ⟨HO, Ha1, -, Hpay⟩
  ihave Hpay := (Entails.of_eq (rest_snd A B c k)) $$ Hpay
  imod (Rounds.cell_close ER (Rd A B) (Set.mem_univ (K (c, .snd k))) (fun h => h) (R := 0 + 1) (duties_later A B (kcell (c, .snd k)))) $$ [Ha1] with Hz
  · isplitr; · iapply (recs_inv A B K (c, .snd k)); iexact HR
    iexact Ha1
  iapply h
  unfold Sg.wsnd
  iapply Hback $$ %CS.sent %((σ.sl (src k)).set (second k) true) %σ.paid
  isplitl [Hz Ha2 Hc2]
  · rw [chA_sent]
    isplitl [Hz]; · iexact Hz
    isplitl [Ha2]; · iexact Ha2
    iexact Hc2
  isplitl [Hs Hpay]
  · iapply (slA_give hv ht)
    isplitl [Hpay]; · iexact Hpay
    iexact Hs
  iexists _; iexact HO

/-- Waiting for a copy's arrival. -/
theorem st_wrcv {α : Type} {Q : α → sProp 𝕄} (σ : Sg) (k : Ch) (hok : σ.okRcv k = true)
    {h1 : (srcM k).view.WordExact} {h2 : (dstM k).view.WordExact} {kk : PUnit → Prog (TpuEff nD τ sig (Elt F) Λ₀ .tc) α}
    (h : St A B K c (σ.wrcv k) ⊢ wpc c (kk ⟨⟩) Q) : St A B K c σ ⊢ wpc c (.op (.waitDma2 (rcvS k) (srcM k) (dstM k) h1 h2) kk) Q := by
  unfold Sg.okRcv at hok
  simp only [Bool.and_eq_true, decide_eq_true_eq, List.all_eq_true] at hok
  obtain ⟨⟨hc, hv⟩, hl⟩ := hok
  refine (St_ch A B K c σ k (dst k) hc hv).trans ?_
  iintro ⟨⟨#HR, #HL⟩, Hk, Hs, ⟨%W, HO⟩, Hback⟩
  ihave Hk := (Entails.of_eq (chA_sent k)) $$ Hk
  icases Hk with ⟨Hz, Ha2, Hc2⟩
  iapply (Rounds.wp_wait_rest_token 𝒱₀ ER (Rd A B) (c : Thread nD τ) none (κ := K (c, .rcv k))
      (wpE_waitDma2_eq 𝒱₀ (c : Thread nD τ) none Set.univ) (Set.mem_univ _) () (O := tally c (todo.drop σ.paid)) (W := W) (R := 0) (m := 0) (T := ∅)
      (by rw [Nat.zero_add]; exact (expect_rcv A B c k).symm)) $$ [Hc2 HO Ha2]
  · isplitr; · iapply (recs_inv A B K (c, .rcv k)); iexact HR
    isplitl [Hc2]; · iexact Hc2
    isplitl [HO]; · iexact HO
    isplitr; · iapply (mayWait c (csem (.rcv k)) (todo.drop σ.paid) (lvC (.rcv k)) (Nat.le_of_eq (lv_cell c (.rcv k) ())) hl); iexact HL
    iexact Ha2
  iintro ⟨HO, Ha2, -, Hpay⟩
  ihave Hpay := (Entails.of_eq (rest_rcv A B c k)) $$ Hpay
  imod (Rounds.cell_close ER (Rd A B) (Set.mem_univ (K (c, .rcv k))) (fun h => h) (R := 0 + 1) (duties_later A B (kcell (c, .rcv k)))) $$ [Ha2] with Hz2
  · isplitr; · iapply (recs_inv A B K (c, .rcv k)); iexact HR
    iexact Ha2
  iapply h
  unfold Sg.wrcv
  iapply Hback $$ %CS.done %(SS.val 0 true true) %σ.paid
  isplitl [Hz Hz2]
  · rw [chA_done]
    isplitl [Hz]; · iexact Hz
    iexact Hz2
  isplitl [Hs Hpay]
  · iapply (slA_full 0); iexact Hpay
  iexists _; iexact HO

end Rules

end Cert.MeshProof

end
-- ==== Proof.Steps2.lean ====
/-
The rules for the operands, the row blocks kept in single precision and the result.
-/
module

public import proofs.«01_k».proof.Proof.Steps
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading and writing a whole buffer through a rectangle -/

/-- An index of a rectangle of unit stride, placed. -/
theorem emb_unit_val {s : Shape} (off size : Fin s.rank → ℕ) (inb) (j : (Rect.unit off size inb).shape.Idx) (a : Fin s.rank) :
    ((Rect.unit off size inb).emb j a).val = off a + (j a).val := by
  show off a + 1 * (j a).val = _
  rw [Nat.one_mul]

/-- A load of the first operand, at an index. -/
theorem a_readAt (f : FVec F S2048x1024 .f32) (r : Rect S2048x1024) (x : r.shape.Idx) :
    aM.view.readAt (Elt F) r.toLoadRect (f : aM.view.ty.Contents (Elt F)) x = f (r.emb x) := rfl
/-- A load of the second operand, at an index. -/
theorem b_readAt (f : FVec F S1024x2048 .f32) (r : Rect S1024x2048) (x : r.shape.Idx) :
    bM.view.readAt (Elt F) r.toLoadRect (f : bM.view.ty.Contents (Elt F)) x = f (r.emb x) := rfl
/-- A load of the row blocks, at an index. -/
theorem q_readAt (f : FVec F S2x256x1024 .f32) (r : Rect S2x256x1024) (x : r.shape.Idx) :
    qM.view.readAt (Elt F) r.toLoadRect (f : qM.view.ty.Contents (Elt F)) x = f (r.emb x) := rfl
/-- A store into the row blocks, read where it wrote. -/
theorem q_write_in (f : FVec F S2x256x1024 .f32) (r : Rect S2x256x1024) (w : r.shape.Idx → F .f32) (x : r.shape.Idx) :
    ((qM.access r).write (Elt F) (f : qM.view.ty.Contents (Elt F)) w Finset.univ : FVec F S2x256x1024 .f32) (r.emb x) = w x :=
  View.write_emb_of_mem (Val := Elt F) (v := qM.access r) f w (Finset.mem_univ x)
/-- A store into the row blocks, read elsewhere. -/
theorem q_write_out (f : FVec F S2x256x1024 .f32) (r : Rect S2x256x1024) (w : r.shape.Idx → F .f32) (i : S2x256x1024.Idx) (h : ∀ x, r.emb x ≠ i) :
    ((qM.access r).write (Elt F) (f : qM.view.ty.Contents (Elt F)) w Finset.univ : FVec F S2x256x1024 .f32) i = f i :=
  View.write_of_not_mem (Val := Elt F) (v := qM.access r) f w Finset.univ (fun hm => by
    obtain ⟨x, -, hx⟩ := Finset.mem_map.mp hm
    exact h x hx)
/-- A store into the result, read where it wrote. -/
theorem o_write_in (f : FVec F S2048x2048 .f32) (r : Rect S2048x2048) (w : r.shape.Idx → F .f32) (x : r.shape.Idx) :
    ((oM.access r).write (Elt F) (f : oM.view.ty.Contents (Elt F)) w Finset.univ : FVec F S2048x2048 .f32) (r.emb x) = w x :=
  View.write_emb_of_mem (Val := Elt F) (v := oM.access r) f w (Finset.mem_univ x)
/-- A store into the result, read elsewhere. -/
theorem o_write_out (f : FVec F S2048x2048 .f32) (r : Rect S2048x2048) (w : r.shape.Idx → F .f32) (i : S2048x2048.Idx) (h : ∀ x, r.emb x ≠ i) :
    ((oM.access r).write (Elt F) (f : oM.view.ty.Contents (Elt F)) w Finset.univ : FVec F S2048x2048 .f32) i = f i :=
  View.write_of_not_mem (Val := Elt F) (v := oM.access r) f w Finset.univ (fun hm => by
    obtain ⟨x, -, hx⟩ := Finset.mem_map.mp hm
    exact h x hx)

/-! ## The two operands -/

/-- A load of 256 rows of the first operand. -/
theorem aRows_eq (A : Dev nD → Vec F S2048x1024 .f32) (c : Dev nD) {off : Fin 2 → ℕ} {h} (r : ℕ) (ho : off = ![r, 0]) :
    aM.view.readAt (Elt F) (Rect.unit (s := S2048x1024) off S256x1024.size h).toLoadRect (A c : aM.view.ty.Contents (Elt F)) = aRows A c r := by
  subst ho
  funext x
  rw [a_readAt]
  unfold aRows
  congr 1
  have h0 : r + (x 0).val < 2048 := by
    have h1 : r + 256 ≤ 2048 := h 0
    have h2 : (x 0).val < 256 := (x 0).isLt
    omega
  funext a
  apply Fin.ext
  match a with
  | 0 => exact (emb_unit_val _ _ _ x 0).trans (Nat.mod_eq_of_lt h0).symm
  | 1 => exact (emb_unit_val _ _ _ x 1).trans (Nat.zero_add _)

/-- A load of a column half of the second operand. -/
theorem bCols_eq (B : Dev nD → Vec F S1024x2048 .f32) (c : Dev nD) {off : Fin 2 → ℕ} {h} (p : Fin 2) (ho : off = ![0, 1024 * p.val]) :
    bM.view.readAt (Elt F) (Rect.unit (s := S1024x2048) off S1024x1024.size h).toLoadRect (B c : bM.view.ty.Contents (Elt F)) = bCols B c p := by
  subst ho
  funext x
  rw [b_readAt]
  unfold bCols
  congr 1
  have h0 : 1024 * p.val + (x 1).val < 2048 := by
    have h1 : 1024 * p.val + 1024 ≤ 2048 := h 1
    have h2 : (x 1).val < 1024 := (x 1).isLt
    omega
  funext a
  apply Fin.ext
  match a with
  | 0 => exact (emb_unit_val _ _ _ x 0).trans (Nat.zero_add _)
  | 1 => exact (emb_unit_val _ _ _ x 1).trans (Nat.mod_eq_of_lt h0).symm

/-- A row of a piece, counted from the piece's first row. -/
theorem rgMod (c : Dev nD) (r : ℕ) (hr : r < 2048) (g : Rg) (h1 : rgRow c g ≤ r) (h2 : r < rgRow c g + rgHt g) : r - rgRow c g = r % rgHt g := by
  rcases g with p | ⟨p, t, ht⟩ | ⟨p, t, ht⟩ | ⟨p, t, ht⟩ <;> simp only [rgRow, rgHt, myRow, paRow, zRow] at h1 h2 ⊢ <;> omega

/-- After the store of row block `p` the buffer is right on it, and on the other one if it was. -/
theorem qStored (A : Dev nD → Vec F S2048x1024 .f32) (B : Dev nD → Vec F S1024x2048 .f32) (c : Dev nD) (p : Fin 2)
    (hb : ∀ a, (![p.val, 0, 0] : Fin 3 → ℕ) a + S1x256x1024.size a ≤ S2x256x1024.size a) (f : FVec F S2x256x1024 .f32) (w : Vec F S1x256x1024 .f32)
    (hw : ∀ x : S1x256x1024.Idx, w x = qV A B c p (Fin.cons ⟨(x 1).val, (x 1).isLt⟩ (Fin.cons ⟨(x 2).val, (x 2).isLt⟩ (fun a => a.elim0))))
    (d : Fin 2 → Bool) (hf : ∀ p, d p = true → ∀ i, f (qIdx p i) = qV A B c p i) :
    ∀ p', (if p' = p then true else d p') = true → ∀ i,
      ((qM.access (Rect.unit (s := S2x256x1024) ![p.val, 0, 0] S1x256x1024.size hb)).write (Elt F) (f : qM.view.ty.Contents (Elt F)) w Finset.univ
        : FVec F S2x256x1024 .f32) (qIdx p' i) = qV A B c p' i := by
  intro p' hp' i
  by_cases e : p' = p
  · subst e
    have := q_write_in f (Rect.unit (s := S2x256x1024) ![p'.val, 0, 0] S1x256x1024.size hb) w
      (Fin.cons ⟨0, Nat.one_pos⟩ (Fin.cons ⟨(i 0).val, (i 0).isLt⟩ (Fin.cons ⟨(i 1).val, (i 1).isLt⟩ (fun a => a.elim0))))
    rw [hw] at this
    refine Eq.trans (congrArg _ ?_) (this.trans (congrArg _ ?_))
    · funext a
      apply Fin.ext
      match a with
      | 0 => exact Eq.symm (Eq.trans (emb_unit_val (s := S2x256x1024) ![p'.val, 0, 0] S1x256x1024.size hb _ 0) (Nat.add_zero _))
      | 1 => exact ((emb_unit_val _ _ _ _ 1).trans (Nat.zero_add _)).symm
      | 2 => exact ((emb_unit_val _ _ _ _ 2).trans (Nat.zero_add _)).symm
    · funext a
      match a with
      | 0 => rfl
      | 1 => rfl
  · refine (q_write_out f (Rect.unit (s := S2x256x1024) ![p.val, 0, 0] S1x256x1024.size hb) w _ fun x hx' => e ?_).trans (hf p' ?_ i)
    · have h1 := congrArg (fun j : S2x256x1024.Idx => (j (0 : Fin 3)).val) hx'
      have h2 : (x (0 : Fin 3)).val < 1 := (x (0 : Fin 3)).isLt
      have h3 : ((Rect.unit (s := S2x256x1024) ![p.val, 0, 0] S1x256x1024.size hb).emb x (0 : Fin 3)).val = p.val + (x (0 : Fin 3)).val := emb_unit_val _ _ _ x 0
      have h4 : (qIdx p' i (0 : Fin 3)).val = p'.val := rfl
      apply Fin.ext; omega
    · have : (if p' = p then true else d p') = true := hp'
      rwa [if_neg e] at this

section Rules
variable {A : Dev nD → Vec F S2048x1024 .f32} {B : Dev nD → Vec F S1024x2048 .f32} {K : Dev nD × Cl → ℕ} {c : Dev nD}

/-- Loading a row block of the first operand. -/
theorem st_loadA {α : Type} {Q : α → sProp (MT nD τ sig Unit (Elt F) ℕ UU ℕ)} (σ : Sg) {off : Fin 2 → ℕ} {hb} (r : ℕ) (ho : off = ![r, 0])
    {hl : aM.view.LoadsAt (Rect.unit (s := S2048x1024) off S256x1024.size hb).toLoadRect}
    {k : Vec F S256x1024 .f32 → Prog (TpuEff nD τ sig (Elt F) Λ₀ .tc) α}
    (h : St A B K c σ ⊢ wpc c (k (aRows A c r)) Q) :
    St A B K c σ ⊢ wpc c (.op (.load aM (Rect.unit (s := S2048x1024) off S256x1024.size hb).toLoadRect hl) k) Q := by
  rw [← aRows_eq A c (h := hb) r ho] at h
  unfold St baseA at h ⊢
  iintro ⟨⟨HR, HA, HB, Hz⟩, Hr⟩
  iapply (wp_load 𝒱₀ (c : Thread nD τ) none Set.univ (m := aM) (S := Finset.univ) (Finset.subset_univ _)) $$ HA
  iintro HA
  iapply h
  isplitl [HR HA HB Hz]
  · isplitl [HR]; · iexact HR
    isplitl [HA]; · iexact HA
    isplitl [HB]; · iexact HB
    iexact Hz
  iexact Hr

/-- Loading a column half of the second operand. -/
theorem st_loadB {α : Type} {Q : α → sProp (MT nD τ sig Unit (Elt F) ℕ UU ℕ)} (σ : Sg) {off : Fin 2 → ℕ} {hb} (p : Fin 2) (ho : off = ![0, 1024 * p.val])
    {hl : bM.view.LoadsAt (Rect.unit (s := S1024x2048) off S1024x1024.size hb).toLoadRect}
    {k : Vec F S1024x1024 .f32 → Prog (TpuEff nD τ sig (Elt F) Λ₀ .tc) α}
    (h : St A B K c σ ⊢ wpc c (k (bCols B c p)) Q) :
    St A B K c σ ⊢ wpc c (.op (.load bM (Rect.unit (s := S1024x2048) off S1024x1024.size hb).toLoadRect hl) k) Q := by
  rw [← bCols_eq B c (h := hb) p ho] at h
  unfold St baseA at h ⊢
  iintro ⟨⟨HR, HA, HB, Hz⟩, Hr⟩
  iapply (wp_load 𝒱₀ (c : Thread nD τ) none Set.univ (m := bM) (S := Finset.univ) (Finset.subset_univ _)) $$ HB
  iintro HB
  iapply h
  isplitl [HR HA HB Hz]
  · isplitl [HR]; · iexact HR
    isplitl [HA]; · iexact HA
    isplitl [HB]; · iexact HB
    iexact Hz
  iexact Hr

/-! ## The row blocks kept in single precision -/

/-- A load whose result is not looked at. -/
theorem st_deadQ {α : Type} {Q : α → sProp (MT nD τ sig Unit (Elt F) ℕ UU ℕ)} (σ : Sg) {r : LoadRect S2x256x1024} {hl : qM.view.LoadsAt r}
    {k : Vec F r.shape .f32 → Prog (TpuEff nD τ sig (Elt F) Λ₀ .tc) α}
    (h : ∀ v, St A B K c σ ⊢ wpc c (k v) Q) : St A B K c σ ⊢ wpc c (.op (.load qM r hl) k) Q := by
  unfold St qA at h ⊢
  iintro ⟨Hb, Hch, Hsl, Ho, ⟨%f, %hf, Hq⟩, Hr⟩
  iapply (wp_load 𝒱₀ (c : Thread nD τ) none Set.univ (m := qM) (S := Finset.univ) (Finset.subset_univ _)) $$ Hq
  iintro Hq
  iapply (h _)
  isplitl [Hb]; · iexact Hb
  isplitl [Hch]; · iexact Hch
  isplitl [Hsl]; · iexact Hsl
  isplitl [Ho]; · iexact Ho
  isplitl [Hq]
  · iexists f; isplitr; · ipureintro; exact hf
    iexact Hq
  iexact Hr

/-- Storing a row block. -/
theorem st_storeQ {α : Type} {Q : α → sProp (MT nD τ sig Unit (Elt F) ℕ UU ℕ)} (σ : Sg) (p : Fin 2) {off : Fin 3 → ℕ} {hb} (ho : off = ![p.val, 0, 0])
    {w : Vec F S1x256x1024 .f32} {hx : (qM.access (Rect.unit (s := S2x256x1024) off S1x256x1024.size hb)).Stores Finset.univ} {hm}
    {k : PUnit → Prog (TpuEff nD τ sig (Elt F) Λ₀ .tc) α}
    (hw : ∀ x : S1x256x1024.Idx, w x = qV A B c p (Fin.cons ⟨(x 1).val, (x 1).isLt⟩ (Fin.cons ⟨(x 2).val, (x 2).isLt⟩ (fun a => a.elim0))))
    (h : St A B K c (σ.setQ p) ⊢ wpc c (k ⟨⟩) Q) :
    St A B K c σ ⊢ wpc c (.op (.store qM (Rect.unit (s := S2x256x1024) off S1x256x1024.size hb) w Finset.univ hx hm) k) Q := by
  subst ho
  unfold St qA at h ⊢
  iintro ⟨Hb, Hch, Hsl, Ho, ⟨%f, %hf, Hq⟩, Hr⟩
  iapply (wp_store 𝒱₀ (c : Thread nD τ) none Set.univ (m := qM) (r := Rect.unit (s := S2x256x1024) ![p.val, 0, 0] S1x256x1024.size hb) (w := w) (f := f) (Mk := Finset.univ) (S := Finset.univ) (Finset.subset_univ _)) $$ Hq
  iintro Hq
  iapply h
  isplitl [Hb]; · iexact Hb
  isplitl [Hch]; · iexact Hch
  isplitl [Hsl]; · iexact Hsl
  isplitl [Ho]; · iexact Ho
  isplitl [Hq]
  · iexists _; isplitr
    swap; · iexact Hq
    ipureintro
    exact qStored A B c p hb f w hw σ.q hf
  iexact Hr

/-- Loading a chunk of a stored row block. -/
theorem st_chunkQ {α : Type} {Q : α → sProp (MT nD τ sig Unit (Elt F) ℕ UU ℕ)} (σ : Sg) (p : Fin 2) (r : ℕ) {off : Fin 3 → ℕ} {hb} (ho : off = ![p.val, r, 0])
    (hq : σ.q p = true) {hl : qM.view.LoadsAt (Rect.unit (s := S2x256x1024) off S1x64x1024.size hb).toLoadRect}
    {k : Vec F S1x64x1024 .f32 → Prog (TpuEff nD τ sig (Elt F) Λ₀ .tc) α}
    (h : St A B K c σ ⊢ wpc c (k (shapeCast S1x64x1024 (qChunk A B c p r) squeezes_S1x64x1024_S64x1024.numel_eq.symm)) Q) :
    St A B K c σ ⊢ wpc c (.op (.load qM (Rect.unit (s := S2x256x1024) off S1x64x1024.size hb).toLoadRect hl) k) Q := by
  subst ho
  unfold St qA at h ⊢
  iintro ⟨Hb, Hch, Hsl, Ho, ⟨%f, %hf, Hq⟩, Hr⟩
  have hv : qM.view.readAt (Elt F) (Rect.unit (s := S2x256x1024) ![p.val, r, 0] S1x64x1024.size hb).toLoadRect (f : qM.view.ty.Contents (Elt F))
      = shapeCast S1x64x1024 (qChunk A B c p r) squeezes_S1x64x1024_S64x1024.numel_eq.symm := by
    have hr1 : r + 64 ≤ 256 := hb 1
    funext x
    rw [q_readAt]
    have hx1 : (x 1).val < 64 := (x 1).isLt
    have hx0 : (x 0).val < 1 := (x 0).isLt
    refine Eq.trans ?_ (shapeCast_apply (qChunk A B c p r) _ x (Fin.cons ⟨(x 1).val, (x 1).isLt⟩ (Fin.cons ⟨(x 2).val, (x 2).isLt⟩ (fun a => a.elim0)) : S64x1024.Idx) ?_).symm
    · unfold qChunk
      rw [← hf p hq]
      congr 1
      funext a
      apply Fin.ext
      match a with
      | 0 => exact (emb_unit_val _ _ _ x 0).trans (by show p.val + (x 0).val = p.val; omega)
      | 1 => exact (emb_unit_val _ _ _ x 1).trans (by show r + (x 1).val = (r + (x 1).val) % 256; omega)
      | 2 => exact (emb_unit_val _ _ _ x 2).trans (Nat.zero_add _)
    · rw [Shape.rowMajor_val_two, Shape.rowMajor_val_three]
      show (x 1).val * 1024 + (x 2).val = ((x 0).val * 64 + (x 1).val) * 1024 + (x 2).val
      omega
  iapply (wp_load 𝒱₀ (c : Thread nD τ) none Set.univ (m := qM) (S := Finset.univ) (Finset.subset_univ _)) $$ Hq
  iintro Hq
  rw [hv]
  iapply h
  isplitl [Hb]; · iexact Hb
  isplitl [Hch]; · iexact Hch
  isplitl [Hsl]; · iexact Hsl
  isplitl [Ho]; · iexact Ho
  isplitl [Hq]
  · iexists f; isplitr; · ipureintro; exact hf
    iexact Hq
  iexact Hr

/-! ## The result -/

/-- A load of the result whose value is not looked at. -/
theorem st_deadO {α : Type} {Q : α → sProp (MT nD τ sig Unit (Elt F) ℕ UU ℕ)} (σ : Sg) {r : LoadRect S2048x2048} {hl : oM.view.LoadsAt r}
    {k : Vec F r.shape .f32 → Prog (TpuEff nD τ sig (Elt F) Λ₀ .tc) α}
    (h : ∀ v, St A B K c σ ⊢ wpc c (k v) Q) : St A B K c σ ⊢ wpc c (.op (.load oM r hl) k) Q := by
  unfold St outA at h ⊢
  iintro ⟨Hb, Hch, Hsl, ⟨%f, %hf, Ho⟩, Hr⟩
  iapply (wp_load 𝒱₀ (c : Thread nD τ) none Set.univ (m := oM) (S := Finset.univ) (Finset.subset_univ _)) $$ Ho
  iintro Ho
  iapply (h _)
  isplitl [Hb]; · iexact Hb
  isplitl [Hch]; · iexact Hch
  isplitl [Hsl]; · iexact Hsl
  isplitl [Ho]
  · iexists f; isplitr; · ipureintro; exact hf
    iexact Ho
  iexact Hr

/-- Writing a piece of the result. -/
theorem st_storeO {α : Type} {Q : α → sProp (MT nD τ sig Unit (Elt F) ℕ UU ℕ)} (σ : Sg) (g : Rg) {off : Fin 2 → ℕ} {size : Fin 2 → ℕ} {hb}
    (hsz : size = ![rgHt g, 1024]) (ho : off = ![rgRow c g, 1024 * (rgCol g).val])
    {w : Vec F (Rect.unit (s := S2048x2048) off size hb).shape .f32} {hx : (oM.access (Rect.unit (s := S2048x2048) off size hb)).Stores Finset.univ} {hm}
    {k : PUnit → Prog (TpuEff nD τ sig (Elt F) Λ₀ .tc) α}
    (hw : HEq w (rgVec A B c g))
    (h : St A B K c (σ.setOut g) ⊢ wpc c (k ⟨⟩) Q) :
    St A B K c σ ⊢ wpc c (.op (.store oM (Rect.unit (s := S2048x2048) off size hb) w Finset.univ hx hm) k) Q := by
  subst ho hsz
  have hw := eq_of_heq hw
  subst hw
  unfold St outA at h ⊢
  iintro ⟨Hb, Hch, Hsl, ⟨%f, %hf, Ho⟩, Hr⟩
  iapply (wp_store 𝒱₀ (c : Thread nD τ) none Set.univ (m := oM) (r := Rect.unit (s := S2048x2048) ![rgRow c g, 1024 * (rgCol g).val] ![rgHt g, 1024] hb) (w := rgVec A B c g) (f := f) (Mk := Finset.univ) (S := Finset.univ) (Finset.subset_univ _)) $$ Ho
  iintro Ho
  iapply h
  isplitl [Hb]; · iexact Hb
  isplitl [Hch]; · iexact Hch
  isplitl [Hsl]; · iexact Hsl
  isplitl [Ho]
  · iexists _; isplitr
    swap; · iexact Ho
    ipureintro
    intro i hi
    have hi0 : (i 0).val < 2048 := (i 0).isLt
    have hi1 : (i 1).val < 2048 := (i 1).isLt
    have hc : (colHalf i).val = (i 1).val / 1024 := Nat.mod_eq_of_lt (by omega)
    by_cases e : rgOf c (i 0).val (colHalf i) = g
    · obtain ⟨h1, h2, h3⟩ := (rgOf_iff c (i 0).val hi0 (colHalf i) g).mp e
      have h1v : (rgCol g).val = (i 1).val / 1024 := by rw [h1]; exact hc
      have := o_write_in f (Rect.unit (s := S2048x2048) ![rgRow c g, 1024 * (rgCol g).val] ![rgHt g, 1024] hb) (rgVec A B c g)
        (Fin.cons ⟨(i 0).val - rgRow c g, by show _ < rgHt g; omega⟩ (Fin.cons ⟨(i 1).val % 1024, Nat.mod_lt _ (by decide)⟩ (fun a => a.elim0)))
      refine Eq.trans (congrArg _ ?_) (this.trans ?_)
      · funext a
        apply Fin.ext
        match a with
        | 0 => exact ((emb_unit_val _ _ _ _ 0).trans (by show rgRow c g + ((i 0).val - rgRow c g) = _; omega)).symm
        | 1 => exact ((emb_unit_val _ _ _ _ 1).trans (by show 1024 * (rgCol g).val + (i 1).val % 1024 = _; omega)).symm
      · unfold outV
        subst e
        congr 1
        funext a
        match a with
        | 0 => exact Fin.ext (rgMod c _ hi0 _ h2 h3)
        | 1 => rfl
    · refine (o_write_out f _ _ _ fun x hx' => e ?_).trans (hf i ?_)
      · refine (rgOf_iff c (i 0).val hi0 (colHalf i) g).mpr ?_
        have h1 := congrArg (fun j : S2048x2048.Idx => (j 0).val) hx'
        have h2 := congrArg (fun j : S2048x2048.Idx => (j 1).val) hx'
        have h3 : ((Rect.unit (s := S2048x2048) ![rgRow c g, 1024 * (rgCol g).val] ![rgHt g, 1024] hb).emb x 0).val = rgRow c g + (x 0).val := emb_unit_val _ _ _ x 0
        have h4 : ((Rect.unit (s := S2048x2048) ![rgRow c g, 1024 * (rgCol g).val] ![rgHt g, 1024] hb).emb x 1).val = 1024 * (rgCol g).val + (x 1).val := emb_unit_val _ _ _ x 1
        have h5 : (x 0).val < rgHt g := (x 0).isLt
        have h6 : (x 1).val < 1024 := (x 1).isLt
        refine ⟨Fin.ext ?_, ?_, ?_⟩ <;> omega
      · have : (if rgOf c (i 0).val (colHalf i) = g then true else σ.out (rgOf c (i 0).val (colHalf i))) = true := hi
        rwa [if_neg e] at this
  iexact Hr

end Rules

end Cert.MeshProof

end
-- ==== Proof.Steps3.lean ====
/-
The rules for the gathered row blocks, which are filled chunk by chunk, and for the two barriers.
-/
module

public import proofs.«01_k».proof.Proof.Steps2
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A gathered row block, filled chunk by chunk -/

abbrev yM : Memref sig .tc .vmem S2x4x256x1024 .bf16 := Memref.whole cc0_scratch8

/-- An element of a gathered row block, as an index of its buffer. -/
def yIdx (p : Fin 2) (i : S256x1024.Idx) : S2x4x256x1024.Idx :=
  Fin.cons ⟨p.val, p.isLt⟩ (Fin.cons ⟨0, by decide⟩ (Fin.cons ⟨(i 0).val, (i 0).isLt⟩ (Fin.cons ⟨(i 1).val, (i 1).isLt⟩ (fun a => a.elim0))))

/-- The first slot of the row gather, read at an index. -/
theorem ya_read (p : Fin 2) (f : FVec F S2x4x256x1024 .bf16) (i : S256x1024.Idx) :
    (slM (.ya p 0)).view.read (Elt F) (f : yM.view.ty.Contents (Elt F)) i = f (yIdx p i) := by
  have h := Memref.read_squeeze_slice (Val := Elt F) yM (Rect.unit (s := S2x4x256x1024) ![p.val, (0 : Fin 4).val, 0, 0] S1x1x256x1024.size (inb_a4 p 0))
    (fun _ => rfl) squeezes_S1x1x256x1024_S256x1024 squeezes_S1x1x256x1024_S256x1024.numel_eq f
  refine (congrFun h i).trans ?_
  refine (shapeCast_apply _ _ i (Fin.cons ⟨0, Nat.one_pos⟩ (Fin.cons ⟨0, Nat.one_pos⟩ (Fin.cons ⟨(i 0).val, (i 0).isLt⟩ (Fin.cons ⟨(i 1).val, (i 1).isLt⟩
    (fun a => a.elim0)))) : S1x1x256x1024.Idx) ?_).trans ?_
  · rw [Shape.rowMajor_val_two, Shape.rowMajor_val_four]
    show ((0 * 1 + 0) * 256 + (i 0).val) * 1024 + (i 1).val = (i 0).val * 1024 + (i 1).val
    omega
  · show f ((Rect.unit (s := S2x4x256x1024) ![p.val, (0 : Fin 4).val, 0, 0] S1x1x256x1024.size (inb_a4 p 0)).emb _) = _
    congr 1
    funext a
    apply Fin.ext
    match a with
    | 0 => exact Eq.trans (emb_unit_val _ _ _ _ 0) (Nat.add_zero _)
    | 1 => exact Eq.trans (emb_unit_val _ _ _ _ 1) (Nat.add_zero _)
    | 2 => exact Eq.trans (emb_unit_val _ _ _ _ 2) (Nat.zero_add _)
    | 3 => exact Eq.trans (emb_unit_val _ _ _ _ 3) (Nat.zero_add _)

/-- A store into the row gather, read where it wrote. -/
theorem y_write_in (f : FVec F S2x4x256x1024 .bf16) (r : Rect S2x4x256x1024) (w : r.shape.Idx → F .bf16) (x : r.shape.Idx) :
    ((yM.access r).write (Elt F) (f : yM.view.ty.Contents (Elt F)) w Finset.univ : FVec F S2x4x256x1024 .bf16) (r.emb x) = w x :=
  View.write_emb_of_mem (Val := Elt F) (v := yM.access r) f w (Finset.mem_univ x)
/-- A store into the row gather, read elsewhere. -/
theorem y_write_out (f : FVec F S2x4x256x1024 .bf16) (r : Rect S2x4x256x1024) (w : r.shape.Idx → F .bf16) (i : S2x4x256x1024.Idx) (h : ∀ x, r.emb x ≠ i) :
    ((yM.access r).write (Elt F) (f : yM.view.ty.Contents (Elt F)) w Finset.univ : FVec F S2x4x256x1024 .bf16) i = f i :=
  View.write_of_not_mem (Val := Elt F) (v := yM.access r) f w Finset.univ (fun hm => by
    obtain ⟨x, -, hx⟩ := Finset.mem_map.mp hm
    exact h x hx)

/-- A chunk of a row block lies within it. -/
theorem y_sub (p : Fin 2) (r : ℕ) (hb : ∀ a, (![p.val, 0, r, 0] : Fin 4 → ℕ) a + S1x1x64x1024.size a ≤ S2x4x256x1024.size a) :
    (Rect.unit (s := S2x4x256x1024) ![p.val, 0, r, 0] S1x1x64x1024.size hb).set
      ⊆ (Rect.unit (s := S2x4x256x1024) ![p.val, (0 : Fin 4).val, 0, 0] S1x1x256x1024.size (inb_a4 p 0)).set := by
  intro i hi
  rw [Rect.mem_set_unit] at hi ⊢
  have h2 : r + 64 ≤ 256 := hb 2
  intro a
  have h := hi a
  match a with
  | 0 => exact h
  | 1 => exact h
  | 2 => exact ⟨Nat.zero_le _, by
      have h' : (i 2).val < r + 64 := h.2
      show (i 2).val < 0 + 256; omega⟩
  | 3 => exact h

/-- A chunk that is loaded lies in the first slot of the row gather. -/
theorem ySubL (p : Fin 2) (r : ℕ) (hb : ∀ a, (![p.val, 0, r, 0] : Fin 4 → ℕ) a + S1x1x64x1024.size a ≤ S2x4x256x1024.size a) :
    yM.view.setOn (Rect.unit (s := S2x4x256x1024) ![p.val, 0, r, 0] S1x1x64x1024.size hb).toLoadRect.set ⊆ (slM (.ya p 0)).view.set := by
  rw [show (slM (.ya p 0)).view.set = yM.view.setOn (Rect.unit (s := S2x4x256x1024) ![p.val, (0 : Fin 4).val, 0, 0] S1x1x256x1024.size (inb_a4 p 0)).set
    from (Memref.set_view_squeeze (m := yM.slice (Rect.unit (s := S2x4x256x1024) ![p.val, (0 : Fin 4).val, 0, 0] S1x1x256x1024.size (inb_a4 p 0)) (fun _ => rfl)) squeezes_S1x1x256x1024_S256x1024).trans (View.set_slice _ _)]
  exact Finset.map_subset_map.mpr (y_sub p r hb)
/-- A chunk that is stored lies in the first slot of the row gather. -/
theorem ySubS (p : Fin 2) (r : ℕ) (hb : ∀ a, (![p.val, 0, r, 0] : Fin 4 → ℕ) a + S1x1x64x1024.size a ≤ S2x4x256x1024.size a) :
    (yM.access (Rect.unit (s := S2x4x256x1024) ![p.val, 0, r, 0] S1x1x64x1024.size hb)).setOn Finset.univ ⊆ (slM (.ya p 0)).view.set := by
  exact Finset.Subset.trans (le_of_eq (View.set_slice yM.view (Rect.unit (s := S2x4x256x1024) ![p.val, 0, r, 0] S1x1x64x1024.size hb))) (ySubL p r hb)

/-- One more chunk stored: one more chunk right. -/
theorem yStored (A : Dev nD → Vec F S2048x1024 .f32) (B : Dev nD → Vec F S1024x2048 .f32) (c : Dev nD) (p : Fin 2) (n m : ℕ) (hn : n < 4) (hm : m + n = 5 ∨ m + n = 1)
    (hb : ∀ a, (![p.val, 0, zRow c m, 0] : Fin 4 → ℕ) a + S1x1x64x1024.size a ≤ S2x4x256x1024.size a) (f : FVec F S2x4x256x1024 .bf16) (w : Vec F S1x1x64x1024 .bf16)
    (hw : w = shapeCast S1x1x64x1024 (zaV A B n c p) squeezes_S1x1x64x1024_S64x1024.numel_eq.symm)
    (hf : partOk A B c n p ((slM (.ya p 0)).view.read (Elt F) (f : yM.view.ty.Contents (Elt F)))) :
    partOk A B c (n + 1) p ((slM (.ya p 0)).view.read (Elt F)
      ((yM.access (Rect.unit (s := S2x4x256x1024) ![p.val, 0, zRow c m, 0] S1x1x64x1024.size hb)).write (Elt F) (f : yM.view.ty.Contents (Elt F)) w Finset.univ)) := by
  intro i hi
  have hz := zz_lt c
  have hi0 : (i 0).val < 256 := (i 0).isLt
  refine (ya_read p _ i).trans ?_
  by_cases e : (zz c + 5 - (i 0).val / 64) % 4 = n
  · have hrow : zRow c m = 64 * ((i 0).val / 64) := by unfold zRow; omega
    have := y_write_in f (Rect.unit (s := S2x4x256x1024) ![p.val, 0, zRow c m, 0] S1x1x64x1024.size hb) w
      (Fin.cons ⟨0, Nat.one_pos⟩ (Fin.cons ⟨0, Nat.one_pos⟩ (Fin.cons ⟨(i 0).val % 64, Nat.mod_lt _ (by decide)⟩ (Fin.cons ⟨(i 1).val, (i 1).isLt⟩ (fun a => a.elim0)))))
    refine Eq.trans (congrArg _ ?_) (this.trans ?_)
    · funext a
      apply Fin.ext
      match a with
      | 0 => exact Eq.symm (Eq.trans (emb_unit_val _ _ _ _ 0) (Nat.add_zero _))
      | 1 => exact Eq.symm (Eq.trans (emb_unit_val _ _ _ _ 1) (Nat.add_zero _))
      | 2 => exact Eq.symm (Eq.trans (emb_unit_val _ _ _ _ 2) (by show zRow c m + (i 0).val % 64 = (i 0).val; omega))
      | 3 => exact Eq.symm (Eq.trans (emb_unit_val _ _ _ _ 3) (Nat.zero_add _))
    · rw [hw]
      refine (shapeCast_apply _ _ _ (Fin.cons ⟨(i 0).val % 64, Nat.mod_lt _ (by decide)⟩ (Fin.cons ⟨(i 1).val, (i 1).isLt⟩ (fun a => a.elim0)) : S64x1024.Idx) ?_).trans ?_
      · rw [Shape.rowMajor_val_two, Shape.rowMajor_val_four]
        show (i 0).val % 64 * 1024 + (i 1).val = ((0 * 1 + 0) * 64 + (i 0).val % 64) * 1024 + (i 1).val
        omega
      · unfold yaOwn; rw [e]
  · refine (y_write_out f (Rect.unit (s := S2x4x256x1024) ![p.val, 0, zRow c m, 0] S1x1x64x1024.size hb) w _ fun x hx' => e ?_).trans
      ((ya_read p f i).symm.trans (hf i (by omega)))
    have h1 := congrArg (fun j : S2x4x256x1024.Idx => (j (2 : Fin 4)).val) hx'
    have h2 : (x (2 : Fin 4)).val < 64 := (x (2 : Fin 4)).isLt
    have h3 : ((Rect.unit (s := S2x4x256x1024) ![p.val, 0, zRow c m, 0] S1x1x64x1024.size hb).emb x (2 : Fin 4)).val = zRow c m + (x (2 : Fin 4)).val :=
      emb_unit_val _ _ _ x (2 : Fin 4)
    have h4 : (yIdx p i (2 : Fin 4)).val = (i 0).val := rfl
    have h5 : zRow c m = 64 * ((zz c + m) % 4) := rfl
    rw [h3, h4] at h1
    omega

/-- How many chunks of a row block are written. -/
def SS.cnt : SS → Option ℕ | .junk => some 0 | .part n => some n | _ => none

section Rules
variable {A : Dev nD → Vec F S2048x1024 .f32} {B : Dev nD → Vec F S1024x2048 .f32} {K : Dev nD × Cl → ℕ} {c : Dev nD}

/-- A partly filled slot, with the number of its chunks. -/
theorem slA_cnt {p : Fin 2} {x : SS} {n : ℕ} (hx : x.cnt = some n) :
    slA A B c (.ya p 0) x ⊢ iprop(∃ f, ⌜partOk A B c n p ((slM (.ya p 0)).view.read (Elt F) f)⌝ ∗ pts c (slM (.ya p 0)) fullShare f) := by
  cases x with
  | junk =>
    have h0 : 0 = n := Option.some.inj hx
    subst h0
    rw [slA_junk]
    iintro ⟨%f, H⟩
    iexists f
    isplitr; · ipureintro; exact fun i hi => absurd hi (Nat.not_lt_zero _)
    iexact H
  | part m =>
    have h0 : m = n := Option.some.inj hx
    subst h0
    rw [slA_part]
    iintro ⟨%f, %hf, H⟩
    iexists f
    isplitr; · ipureintro; exact hf p rfl
    iexact H
  | gone => exact absurd hx (by intro h; cases h)
  | val v a b => exact absurd hx (by intro h; cases h)

/-- A slot whose first chunks are right is partly filled. -/
theorem slA_of_part {p : Fin 2} (n : ℕ) (f : Buf (Elt F) ((slM (.ya p 0)).view.loc (c : Thread nD τ)))
    (hf : partOk A B c n p ((slM (.ya p 0)).view.read (Elt F) f)) :
    pts c (slM (.ya p 0)) fullShare f ⊢ slA A B c (.ya p 0) (.part n) := by
  rw [slA_part]
  iintro H
  iexists f
  isplitr
  · ipureintro
    intro p' h
    cases h
    exact hf
  iexact H

/-- All four chunks written: the row block holds what it is to hold. -/
theorem slA_of_full {p : Fin 2} (f : Buf (Elt F) ((slM (.ya p 0)).view.loc (c : Thread nD τ)))
    (hf : partOk A B c 4 p ((slM (.ya p 0)).view.read (Elt F) f)) :
    pts c (slM (.ya p 0)) fullShare f ⊢ slA A B c (.ya p 0) (.val 0 true true) := by
  have e : slV A B c 0 (.ya p 0) = yaOwn A B c p := rfl
  refine BI.Entails.trans ?_ (slA_full (A := A) (B := B) (c := c) (s := .ya p 0) 0)
  unfold hold
  rw [e]
  exact pointsTo_rep_of_read (c : Thread nD τ) (slM (.ya p 0)) f fullShare (yaOwn A B c p) (funext fun i => hf i (Nat.mod_lt _ (by decide)))

/-- A load of a chunk whose value is not looked at. -/
theorem st_deadY {α : Type} {Q : α → sProp (MT nD τ sig Unit (Elt F) ℕ UU ℕ)} (σ : Sg) (p : Fin 2) (n m : ℕ) {off : Fin 4 → ℕ} {hb}
    (ho : off = ![p.val, 0, zRow c m, 0]) (hs : (σ.sl (.ya p 0)).cnt = some n)
    {hl : yM.view.LoadsAt (Rect.unit (s := S2x4x256x1024) off S1x1x64x1024.size hb).toLoadRect}
    {k : Vec F S1x1x64x1024 .bf16 → Prog (TpuEff nD τ sig (Elt F) Λ₀ .tc) α}
    (h : ∀ v, St A B K c σ ⊢ wpc c (k v) Q) :
    St A B K c σ ⊢ wpc c (.op (.load yM (Rect.unit (s := S2x4x256x1024) off S1x1x64x1024.size hb).toLoadRect hl) k) Q := by
  subst ho
  have key : ∀ f : Buf (Elt F) ((slM (.ya p 0)).view.loc (c : Thread nD τ)), pts c (slM (.ya p 0)) fullShare f
      ⊢ iprop((∀ v, pts c (slM (.ya p 0)) fullShare f -∗ wpc c (k v) Q)
        -∗ wpc c (.op (.load yM (Rect.unit (s := S2x4x256x1024) ![p.val, 0, zRow c m, 0] S1x1x64x1024.size hb).toLoadRect hl) k) Q) := by
    intro f
    iintro H Hk
    iapply (wp_load 𝒱₀ (c : Thread nD τ) none Set.univ (m := yM)
      (r := (Rect.unit (s := S2x4x256x1024) ![p.val, 0, zRow c m, 0] S1x1x64x1024.size hb).toLoadRect) (f := f)
      (S := (slM (.ya p 0)).view.set) (ySubL p _ hb)) $$ H
    iintro H
    iapply Hk
    iexact H
  refine (St_sl A B K c σ (.ya p 0) rfl).trans ?_
  generalize hx : σ.sl (.ya p 0) = x at hs
  cases x with
  | junk =>
    iintro ⟨Hs, Hback⟩
    ihave Hs := (Entails.of_eq (slA_junk _)) $$ Hs
    icases Hs with ⟨%f, H⟩
    iapply (key f) $$ H
    iintro %v H
    iapply (h v)
    rw [show St A B K c σ = St A B K c (σ.setSl (.ya p 0) .junk) by rw [← hx, setSl_self]]
    iapply Hback
    rw [slA_junk]
    iexists f; iexact H
  | part j =>
    iintro ⟨Hs, Hback⟩
    ihave Hs := (Entails.of_eq (slA_part _ _)) $$ Hs
    icases Hs with ⟨%f, %hf, H⟩
    iapply (key f) $$ H
    iintro %v H
    iapply (h v)
    rw [show St A B K c σ = St A B K c (σ.setSl (.ya p 0) (.part j)) by rw [← hx, setSl_self]]
    iapply Hback
    rw [slA_part]
    iexists f; isplitr; · ipureintro; exact hf
    iexact H
  | gone => exact absurd hs (by intro h; cases h)
  | val v a b => exact absurd hs (by intro h; cases h)

/-- The state after chunk `n` is stored. -/
def Sg.chunk (σ : Sg) (p : Fin 2) (n : ℕ) : Sg := σ.setSl (.ya p 0) (if n = 3 then .val 0 true true else .part (n + 1))

/-- Storing a chunk. -/
theorem st_storeY {α : Type} {Q : α → sProp (MT nD τ sig Unit (Elt F) ℕ UU ℕ)} (σ : Sg) (p : Fin 2) (n m : ℕ) (hn : n < 4) (hm : m + n = 5 ∨ m + n = 1) {off : Fin 4 → ℕ} {hb}
    (ho : off = ![p.val, 0, zRow c m, 0]) (hs : (σ.sl (.ya p 0)).cnt = some n) {w : Vec F S1x1x64x1024 .bf16}
    {hx : (yM.access (Rect.unit (s := S2x4x256x1024) off S1x1x64x1024.size hb)).Stores Finset.univ} {hmm}
    {k : PUnit → Prog (TpuEff nD τ sig (Elt F) Λ₀ .tc) α}
    (hw : w = shapeCast S1x1x64x1024 (zaV A B n c p) squeezes_S1x1x64x1024_S64x1024.numel_eq.symm)
    (h : St A B K c (σ.chunk p n) ⊢ wpc c (k ⟨⟩) Q) :
    St A B K c σ ⊢ wpc c (.op (.store yM (Rect.unit (s := S2x4x256x1024) off S1x1x64x1024.size hb) w Finset.univ hx hmm) k) Q := by
  subst ho
  refine (St_sl A B K c σ (.ya p 0) rfl).trans ?_
  refine (sep_mono_left (slA_cnt hs)).trans ?_
  iintro ⟨⟨%f, %hf, H⟩, Hback⟩
  have hf' := yStored A B c p n m hn hm hb f w hw hf
  iapply (wp_store 𝒱₀ (c : Thread nD τ) none Set.univ (m := yM) (r := Rect.unit (s := S2x4x256x1024) ![p.val, 0, zRow c m, 0] S1x1x64x1024.size hb) (w := w) (f := f)
    (Mk := Finset.univ) (S := (slM (.ya p 0)).view.set) (ySubS p _ hb)) $$ H
  iintro H
  iapply h
  unfold Sg.chunk
  iapply Hback
  by_cases e : n = 3
  · subst e
    rw [if_pos rfl]
    iapply (slA_of_full _ hf') $$ H
  · rw [if_neg e]
    iapply (slA_of_part (n + 1) _ hf') $$ H

/-! ## The exit barrier -/

/-- The exit signals from number `n` on are that one and those after it. -/
theorem exit_split (n : ℕ) (hn : n < 5) : (Finset.univ.filter fun i : Fin 5 => n ≤ i.val) = insert ⟨n, hn⟩ (Finset.univ.filter fun i : Fin 5 => n + 1 ≤ i.val) := by
  ext i
  simp only [Finset.mem_filter, Finset.mem_univ, true_and, Finset.mem_insert, Fin.ext_iff]
  omega
/-- So a family over them is the next member and the rest. -/
theorem exit_cons (Φ : Fin 5 → sProp (MT nD τ sig Unit (Elt F) ℕ UU ℕ)) (i : Fin 5) :
    bigSep (Finset.univ.filter fun j : Fin 5 => i.val ≤ j.val) Φ = iprop(Φ i ∗ bigSep (Finset.univ.filter fun j : Fin 5 => i.val + 1 ≤ j.val) Φ) := by
  rw [exit_split i.val i.isLt]
  exact bigSep_insert (by simp only [Finset.mem_filter, Finset.mem_univ, true_and]; omega)
/-- An exit signal. -/
theorem st_exit {α : Type} {Q : α → sProp (MT nD τ sig Unit (Elt F) ℕ UU ℕ)} (σ : Sg) (i : Fin 5) (n : Dev nD) (hn : n = nb i c) (hi : σ.exits = i.val)
    (hd : todo[σ.paid]? = some (.bar2 i)) {k : PUnit → Prog (TpuEff nD τ sig (Elt F) Λ₀ .tc) α}
    (h : St A B K c σ.exit1 ⊢ wpc c (k ⟨⟩) Q) :
    St A B K c σ ⊢ wpc c (.op (.semSignal (n, .tc) bar2S (1#32 : BitVec 32).toInt) k) Q := by
  subst hn
  rw [show (1#32 : BitVec 32).toInt = ((1 : ℕ) : ℤ) by decide]
  unfold St baseA exitA at h ⊢
  rw [hi, exit_cons, todo_drop hd, tally_cons]
  iintro ⟨⟨⟨#HR, #HL⟩, HA, HB, Hz⟩, Hch, Hsl, Ho, Hq, ⟨⟨Ht, Hts⟩, Hat, Hcr⟩, ⟨%W, HO⟩⟩
  iapply (Rounds.wp_signal 𝒱₀ ER (Rd A B) (c : Thread nD τ) none (dst := (nb i c : Thread nD τ)) (κ := K (nb i c, .bar2)) (r := 0) (d := i)
    (by show _ ∈ (Rd A B).duties (kcell (nb i c, .bar2)) 0; rw [duties_cell]; exact Finset.mem_univ _) (amount_cell A B (nb i c) .bar2 0 i)
    () (tally c (todo.drop (σ.paid + 1))) rfl) $$ [HO Ht]
  · isplitr; · iapply (recs_inv A B K (nb i c, .bar2)); iexact HR
    isplitl [HO]; · iexact HO
    isplitl [Ht]; · iexact Ht
    isplitr; · iapply (Entails.of_eq (payload_cell A B (nb i c) .bar2 0 i).symm); unfold pay; iempintro
    iapply (recs_reached A B K (nb i c, .bar2)); iexact HR
  iintro HO
  iapply h
  isplitl [HA HB Hz]
  · isplitr; · isplitr; · iexact HR
               iexact HL
    isplitl [HA]; · iexact HA
    isplitl [HB]; · iexact HB
    iexact Hz
  isplitl [Hch]; · iexact Hch
  isplitl [Hsl]; · iexact Hsl
  isplitl [Ho]; · iexact Ho
  isplitl [Hq]; · iexact Hq
  isplitl [Hts Hat Hcr]
  · isplitl [Hts]; · rw [← hi]; iexact Hts
    isplitl [Hat]; · iexact Hat
    iexact Hcr
  iexists W; iexact HO

/-- What a device holds when its body is done. -/
def Done (A : Dev nD → Vec F S2048x1024 .f32) (B : Dev nD → Vec F S1024x2048 .f32) (K : Dev nD × Cl → ℕ) (c : Dev nD) (σ : Sg) : sProp (MT nD τ sig Unit (Elt F) ℕ UU ℕ) :=
  iprop(baseA A B K c ∗ (bigSep Finset.univ fun k => chA (F := F) c k (σ.ch k)) ∗ (bigSep Finset.univ fun s => slA A B c s (σ.sl s))
    ∗ outA A B c σ.out ∗ qA A B c σ.q ∗ semVal (kcell (c, .bar2)) 0 ∗ ∃ W, owes (c : Thread nD τ) 0 W)

/-- The exit wait. -/
theorem st_exitWait {α : Type} {Q : α → sProp (MT nD τ sig Unit (Elt F) ℕ UU ℕ)} (σ : Sg) (hd : todo.drop σ.paid = [])
    {k : PUnit → Prog (TpuEff nD τ sig (Elt F) Λ₀ .tc) α} (h : Done A B K c σ ⊢ wpc c (k ⟨⟩) Q) :
    St A B K c σ ⊢ wpc c (.op (.semWait bar2S (5#32 : BitVec 32).toInt) k) Q := by
  rw [show (5#32 : BitVec 32).toInt = ((5 : ℕ) : ℤ) by decide]
  unfold St baseA exitA
  unfold Done baseA at h
  rw [hd]
  iintro ⟨⟨⟨#HR, #HL⟩, HA, HB, Hz⟩, Hch, Hsl, Ho, Hq, ⟨-, Hat, Hcr⟩, ⟨%W, HO⟩⟩
  iapply (Rounds.wp_wait_rest_token 𝒱₀ ER (Rd A B) (c : Thread nD τ) none (κ := K (c, .bar2))
      (wpE_semWait_eq 𝒱₀ (c : Thread nD τ) none Set.univ) (Set.mem_univ _) () (O := tally c []) (W := W) (R := 0) (m := 0) (T := ∅)
      (by rw [Nat.zero_add]; exact (expect_bar2 A B c).symm)) $$ [Hcr HO Hat]
  · isplitr; · iapply (recs_inv A B K (c, .bar2)); iexact HR
    isplitl [Hcr]; · iexact Hcr
    isplitl [HO]; · iexact HO
    isplitr; · iapply (mayWait c (csem .bar2) [] 100 (Nat.le_of_eq (lv_cell c .bar2 ())) (fun d hd => absurd hd (List.not_mem_nil))); iexact HL
    iexact Hat
  iintro ⟨HO, Hat, -, -⟩
  imod (Rounds.cell_close ER (Rd A B) (Set.mem_univ (K (c, .bar2))) (fun h => h) (R := 0 + 1) (duties_later A B (kcell (c, .bar2)))) $$ [Hat] with Hz2
  · isplitr; · iapply (recs_inv A B K (c, .bar2)); iexact HR
    iexact Hat
  iapply h
  isplitl [HA HB Hz]
  · isplitr; · isplitr; · iexact HR
               iexact HL
    isplitl [HA]; · iexact HA
    isplitl [HB]; · iexact HB
    iexact Hz
  isplitl [Hch]; · iexact Hch
  isplitl [Hsl]; · iexact Hsl
  isplitl [Ho]; · iexact Ho
  isplitl [Hq]; · iexact Hq
  isplitl [Hz2]; · iexact Hz2
  iexists _; iexact HO

/-! ## The entry barrier -/

/-- Slots filled by a copy from another device. -/
def isDst : Sl → Bool
  | .xr _ _ => true | .yr _ _ => true | .zr _ _ => true | .xa _ _ => true
  | .za _ t => decide (t ≠ 0) | .ya _ t => decide (t ≠ 0) | _ => false

/-- The state right after the entry barrier. -/
def S0 : Sg where
  ch _ := .pre
  sl s := if isDst s then .gone else .junk
  q _ := false
  out _ := false
  paid := 5
  exits := 0

/-- What a device holds for a copy before the entry barrier: all but the destination slot. -/
def chE (c : Dev nD) (k : Ch) : sProp (MT nD τ sig Unit (Elt F) ℕ UU ℕ) :=
  iprop(dutyTok ER (kcell (c, .snd k)) 0 (0 : Fin 5) ∗ dutyTok ER (kcell (tgt k c, .rcv k)) 0 (0 : Fin 5)
      ∗ atPos ER (kcell (c, .snd k)) 0 ∅ 0 ∗ atPos ER (kcell (c, .rcv k)) 0 ∅ 0 ∗ cred (tallyAt (kcell (c, .rcv k)) () (amt k)))

/-- What waits, untouched, for the entry barrier to pass. -/
def restE (A : Dev nD → Vec F S2048x1024 .f32) (B : Dev nD → Vec F S1024x2048 .f32) (c : Dev nD) : sProp (MT nD τ sig Unit (Elt F) ℕ UU ℕ) :=
  iprop((((c : Thread nD τ).loc cc0_stg0_0) ↦{fullShare} (A c : Buf (Elt F) ((c : Thread nD τ).loc cc0_stg0_0)))
    ∗ (((c : Thread nD τ).loc cc0_stg1_0) ↦{fullShare} (B c : Buf (Elt F) ((c : Thread nD τ).loc cc0_stg1_0)))
    ∗ (bigSep Finset.univ fun k => chE (F := F) c k) ∗ (bigSep Finset.univ fun s => slA A B c s (S0.sl s))
    ∗ outA A B c S0.out ∗ qA A B c S0.q ∗ exitA (F := F) c 0)

/-- What a device holds before its entry signal `n`. -/
def Ent (A : Dev nD → Vec F S2048x1024 .f32) (B : Dev nD → Vec F S1024x2048 .f32) (K : Dev nD × Cl → ℕ) (c : Dev nD) (n : ℕ) : sProp (MT nD τ sig Unit (Elt F) ℕ UU ℕ) :=
  iprop((recs A B K ∗ levAts L lv)
    ∗ (bigSep (Finset.univ.filter fun i : Fin 5 => n ≤ i.val) fun i => iprop(dutyTok ER (kcell (nb i c, .bar)) 0 i ∗ barPay (F := F) (nb i c) i))
    ∗ (∃ W, owes (c : Thread nD τ) (tally c (todo.drop n)) W)
    ∗ atPos ER (kcell (c, .bar)) 0 ∅ 0 ∗ cred (tallyAt (kcell (c, .bar)) () 5) ∗ restE A B c)

/-- An entry signal. -/
theorem st_entry {α : Type} {Q : α → sProp (MT nD τ sig Unit (Elt F) ℕ UU ℕ)} (i : Fin 5) (n : Dev nD) (hn : n = nb i c)
    (hd : todo[i.val]? = some (.bar i)) {k : PUnit → Prog (TpuEff nD τ sig (Elt F) Λ₀ .tc) α}
    (h : Ent A B K c (i.val + 1) ⊢ wpc c (k ⟨⟩) Q) :
    Ent A B K c i.val ⊢ wpc c (.op (.semSignal (n, .tc) barS (1#32 : BitVec 32).toInt) k) Q := by
  subst hn
  rw [show (1#32 : BitVec 32).toInt = ((1 : ℕ) : ℤ) by decide]
  unfold Ent at h ⊢
  rw [exit_cons, todo_drop hd, tally_cons]
  iintro ⟨⟨#HR, #HL⟩, ⟨⟨Ht, Hp⟩, Hts⟩, ⟨%W, HO⟩, Hr⟩
  iapply (Rounds.wp_signal 𝒱₀ ER (Rd A B) (c : Thread nD τ) none (dst := (nb i c : Thread nD τ)) (κ := K (nb i c, .bar)) (r := 0) (d := i)
    (by show _ ∈ (Rd A B).duties (kcell (nb i c, .bar)) 0; rw [duties_cell]; exact Finset.mem_univ _) (amount_cell A B (nb i c) .bar 0 i)
    () (tally c (todo.drop (i.val + 1))) rfl) $$ [HO Ht Hp]
  · isplitr; · iapply (recs_inv A B K (nb i c, .bar)); iexact HR
    isplitl [HO]; · iexact HO
    isplitl [Ht]; · iexact Ht
    isplitl [Hp]; · iapply (Entails.of_eq (payload_cell A B (nb i c) .bar 0 i).symm); unfold pay; iexact Hp
    iapply (recs_reached A B K (nb i c, .bar)); iexact HR
  iintro HO
  iapply h
  isplitr; · isplitr; · iexact HR
             iexact HL
  isplitl [Hts]; · iexact Hts
  isplitl [HO]; · iexists W; iexact HO
  iexact Hr

/-- The five entry signals together hand over one destination slot per copy. -/
theorem rest_bar (A : Dev nD → Vec F S2048x1024 .f32) (B : Dev nD → Vec F S1024x2048 .f32) (c : Dev nD) :
    bigSep ((Rd A B).duties (kcell (c, .bar)) 0 \ ∅) (fun d => (Rd A B).payload (kcell (c, .bar)) 0 d)
    = bigSep Finset.univ fun k => junk (F := F) (tgt k c) (dst k) := by
  rw [Finset.sdiff_empty, duties_cell, bigSep_congr fun d _ => payload_cell A B c .bar 0 d]
  have hU : (Finset.univ : Finset Ch) = (Finset.univ : Finset (Fin 5)).biUnion fun d => Finset.univ.filter fun k : Ch => giv k = d := by
    ext k
    simp only [Finset.mem_univ, Finset.mem_biUnion, Finset.mem_filter, true_and, true_iff]
    exact ⟨giv k, rfl⟩
  conv_rhs => rw [hU]
  refine (bigSep_biUnion_eq (I := Ch) (J := Fin 5) Finset.univ (fun d => Finset.univ.filter fun k : Ch => giv k = d) _ fun j _ j' _ hne => ?_).symm
  exact Finset.disjoint_filter.mpr fun i _ hi hi' => hne (hi.symm.trans hi')

/-- A copy's own pieces and its destination slot together. -/
theorem chE_join (c : Dev nD) : iprop((bigSep Finset.univ fun k => chE (F := F) c k) ∗ bigSep Finset.univ fun k => junk (F := F) (tgt k c) (dst k))
    ⊢ bigSep Finset.univ fun k => chA (F := F) c k (S0.ch k) := by
  refine (Entails.of_eq (bigSep_sep Finset.univ _ _).symm).trans ?_
  refine bigSep_mono fun k _ => ?_
  show iprop(chE c k ∗ junk (tgt k c) (dst k)) ⊢ chA c k .pre
  rw [chA_pre]
  unfold chE
  iintro ⟨⟨H1, H2, H3, H4, H5⟩, Hj⟩
  isplitl [H1]; · iexact H1
  isplitl [H2]; · iexact H2
  isplitl [Hj]; · iexact Hj
  isplitl [H3]; · iexact H3
  isplitl [H4]; · iexact H4
  iexact H5

/-- The entry wait. -/
theorem st_entryWait {α : Type} {Q : α → sProp (MT nD τ sig Unit (Elt F) ℕ UU ℕ)}
    {k : PUnit → Prog (TpuEff nD τ sig (Elt F) Λ₀ .tc) α} (h : St A B K c S0 ⊢ wpc c (k ⟨⟩) Q) :
    Ent A B K c 5 ⊢ wpc c (.op (.semWait barS (5#32 : BitVec 32).toInt) k) Q := by
  rw [show (5#32 : BitVec 32).toInt = ((5 : ℕ) : ℤ) by decide]
  unfold Ent restE
  unfold St baseA at h
  iintro ⟨⟨#HR, #HL⟩, -, ⟨%W, HO⟩, Hat, Hcr, HA, HB, Hch, Hsl, Ho, Hq, He⟩
  iapply (Rounds.wp_wait_rest_token 𝒱₀ ER (Rd A B) (c : Thread nD τ) none (κ := K (c, .bar))
      (wpE_semWait_eq 𝒱₀ (c : Thread nD τ) none Set.univ) (Set.mem_univ _) () (O := tally c (todo.drop 5)) (W := W) (R := 0) (m := 0) (T := ∅)
      (by rw [Nat.zero_add]; exact (expect_bar A B c).symm)) $$ [Hcr HO Hat]
  · isplitr; · iapply (recs_inv A B K (c, .bar)); iexact HR
    isplitl [Hcr]; · iexact Hcr
    isplitl [HO]; · iexact HO
    isplitr; · iapply (mayWait c (csem .bar) (todo.drop 5) 1 (Nat.le_of_eq (lv_cell c .bar ())) (by decide +kernel)); iexact HL
    iexact Hat
  iintro ⟨HO, Hat, -, Hpay⟩
  ihave Hpay := (Entails.of_eq (rest_bar A B c)) $$ Hpay
  imod (Rounds.cell_close ER (Rd A B) (Set.mem_univ (K (c, .bar))) (fun h => h) (R := 0 + 1) (duties_later A B (kcell (c, .bar)))) $$ [Hat] with Hz
  · isplitr; · iapply (recs_inv A B K (c, .bar)); iexact HR
    iexact Hat
  iapply h
  isplitl [HA HB Hz]
  · isplitr; · isplitr; · iexact HR
               iexact HL
    isplitl [HA]; · iexact HA
    isplitl [HB]; · iexact HB
    iexact Hz
  isplitl [Hch Hpay]
  · iapply (chE_join c)
    isplitl [Hch]; · iexact Hch
    iexact Hpay
  isplitl [Hsl]; · iexact Hsl
  isplitl [Ho]; · iexact Ho
  isplitl [Hq]; · iexact Hq
  isplitl [He]; · iexact He
  iexists _; iexact HO

end Rules

end Cert.MeshProof

end
-- ==== Proof.Moves.lean ====
/-
The rules as the body uses them: one for each kind of operation or pair of operations that occurs, and the values it computes.
-/
module

public import proofs.«01_k».proof.Proof.Steps3
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which neighbour each operation names -/

/-- The device a copy of the body names, as the body computes it. -/
def devOf : Ch → Dev nD → ℕ
  | .x p j => ![![k0_dev6, k0_dev7, k0_dev8, k0_dev9], ![k0_dev10, k0_dev11, k0_dev12, k0_dev13]] p j
  | .y p s => ![![k0_dev14, k0_dev15, k0_dev16], ![k0_dev18, k0_dev20, k0_dev22]] p s
  | .z p s => ![![k0_dev17, k0_dev19, k0_dev21], ![k0_dev24, k0_dev26, k0_dev28]] p s
  | .zg p t => ![![k0_dev23, k0_dev25, k0_dev27], ![k0_dev31, k0_dev32, k0_dev35]] p t
  | .yg p t => ![![k0_dev30, k0_dev34, k0_dev37], ![k0_dev38, k0_dev42, k0_dev44]] p t
  | .xg p t => ![![k0_dev29, k0_dev33, k0_dev36, k0_dev40], ![k0_dev39, k0_dev41, k0_dev43, k0_dev45]] p t
/-- The device number printed for a copy is its target. -/
theorem devOf_eq (k : Ch) (c : Dev nD) : devOf k c = (tgt k c).val := by revert k c; decide +kernel
/-- The devices the two barriers' signals name. -/
theorem bar_eq (i : Fin 5) (c : Dev nD) : (![k0_dev1, k0_dev2, k0_dev3, k0_dev4, k0_dev5] : Fin 5 → Dev nD → ℕ) i c = (nb i c).val := by
  revert i c; decide +kernel
/-- The device numbers printed for the last five signals are the neighbours'. -/
theorem bar2_eq (i : Fin 5) (c : Dev nD) : (![k0_dev46, k0_dev47, k0_dev48, k0_dev49, k0_dev50] : Fin 5 → Dev nD → ℕ) i c = (nb i c).val := by
  revert i c; decide +kernel

/-! ## A slot as a block of its buffer -/

/-- The buffer a slot is a block of: its shape, itself, the block. -/
abbrev psh : Sl → Shape
  | .xs _ _ => S2x4x256x1024 | .xr _ _ => S2x4x256x1024 | .ys _ => S2x256x1024 | .yr _ _ => S2x3x256x1024
  | .zs _ => S2x64x1024 | .zr _ _ => S2x3x64x1024 | .za _ _ => S2x4x64x1024 | .ya _ _ => S2x4x256x1024 | .xa _ _ => S2x4x256x1024
abbrev parM : (s : Sl) → Memref sig .tc .vmem (psh s) .bf16
  | .xs _ _ => Memref.whole cc0_scratch0 | .xr _ _ => Memref.whole cc0_scratch1 | .ys _ => Memref.whole cc0_scratch2
  | .yr _ _ => Memref.whole cc0_scratch3 | .zs _ => Memref.whole cc0_scratch5 | .zr _ _ => Memref.whole cc0_scratch6
  | .za _ _ => Memref.whole cc0_scratch7 | .ya _ _ => Memref.whole cc0_scratch8 | .xa _ _ => Memref.whole cc0_scratch9
abbrev rct : (s : Sl) → Rect (psh s)
  | .xs p j => Rect.unit (s := S2x4x256x1024) ![p.val, j.val, 0, 0] S1x1x256x1024.size (inb_a4 p j)
  | .xr p j => Rect.unit (s := S2x4x256x1024) ![p.val, j.val, 0, 0] S1x1x256x1024.size (inb_a4 p j)
  | .ys p => Rect.unit (s := S2x256x1024) ![p.val, 0, 0] S1x256x1024.size (inb_a p)
  | .yr p s => Rect.unit (s := S2x3x256x1024) ![p.val, s.val, 0, 0] S1x1x256x1024.size (inb_a3 p s)
  | .zs p => Rect.unit (s := S2x64x1024) ![p.val, 0, 0] S1x64x1024.size (inb_b p)
  | .zr p s => Rect.unit (s := S2x3x64x1024) ![p.val, s.val, 0, 0] S1x1x64x1024.size (inb_b3 p s)
  | .za p t => Rect.unit (s := S2x4x64x1024) ![p.val, t.val, 0, 0] S1x1x64x1024.size (inb_b4 p t)
  | .ya p t => Rect.unit (s := S2x4x256x1024) ![p.val, t.val, 0, 0] S1x1x256x1024.size (inb_a4 p t)
  | .xa p t => Rect.unit (s := S2x4x256x1024) ![p.val, t.val, 0, 0] S1x1x256x1024.size (inb_a4 p t)
/-- A slot's rectangle has stride one. -/
theorem rct_stride (s : Sl) : ∀ a, (rct s).stride a = 1 := by cases s <;> exact fun _ => rfl
/-- A slot's rectangle has the slot's shape, apart from axes of extent one. -/
theorem rct_squeezes (s : Sl) : (rct s).shape.Squeezes (shp s) := by
  cases s
  case xs => exact squeezes_S1x1x256x1024_S256x1024
  case xr => exact squeezes_S1x1x256x1024_S256x1024
  case ys => exact squeezes_S1x256x1024_S256x1024
  case yr => exact squeezes_S1x1x256x1024_S256x1024
  case zs => exact squeezes_S1x64x1024_S64x1024
  case zr => exact squeezes_S1x1x64x1024_S64x1024
  case za => exact squeezes_S1x1x64x1024_S64x1024
  case ya => exact squeezes_S1x1x256x1024_S256x1024
  case xa => exact squeezes_S1x1x256x1024_S256x1024
/-- A slot is its rectangle of the buffer it lies in. -/
theorem par_eq (s : Sl) : ((parM s).slice (rct s) (rct_stride s)).squeeze (shp s) (rct_squeezes s) = slM s := by cases s <;> rfl

/-- What may be overwritten may be read. -/
theorem SS.here_of_free {x : SS} (h : x.free = true) : x.here = true := by cases x <;> first | rfl | exact absurd h Bool.false_ne_true

/-- A copy awaited on both sides. -/
def Sg.got (σ : Sg) (k : Ch) : Sg := (σ.wsnd k).wrcv k

section Moves
variable {A : Dev nD → Vec F S2048x1024 .f32} {B : Dev nD → Vec F S1024x2048 .f32} {K : Dev nD × Cl → ℕ} {c : Dev nD}

/-- A slot read. -/
theorem mv_load {α : Type} {Q : α → sProp (MT nD τ sig Unit (Elt F) ℕ UU ℕ)} {σ : Sg} (s : Sl) (v : ℕ) {hl : (parM s).view.LoadsAt (rct s).toLoadRect}
    {k : (Vec F (rct s).shape .bf16) → Prog (TpuEff nD τ sig (Elt F) Λ₀ .tc) α}
    (h : St A B K c σ ⊢ wpc c (k (shapeCast (rct s).shape (slV A B c v s) (rct_squeezes s).numel_eq.symm)) Q)
    (hs : (σ.sl s).isV v = true := by decide +kernel) : St A B K c σ ⊢ wpc c (.op (.load (parM s) (rct s).toLoadRect hl) k) Q :=
  st_load σ s v (par_eq s) hs h

/-- A slot stored over, after a load whose value is not looked at. -/
theorem mv_store {α : Type} {Q : α → sProp (MT nD τ sig Unit (Elt F) ℕ UU ℕ)} {σ : Sg} (s : Sl) (v : ℕ) {w : Vec F (rct s).shape .bf16}
    (hw : w = shapeCast (rct s).shape (slV A B c v s) (rct_squeezes s).numel_eq.symm) {hx : ((parM s).access (rct s)).Stores Finset.univ}
    {hm : (Finset.univ : Finset (rct s).shape.Idx) = Finset.univ ∨ ∀ a, (rct s).stride a = 1} {k : PUnit → Prog (TpuEff nD τ sig (Elt F) Λ₀ .tc) α}
    (h : St A B K c (σ.fill s v) ⊢ wpc c (k ⟨⟩) Q) (hs : (σ.sl s).free = true := by decide +kernel) :
    St A B K c σ ⊢ wpc c (.op (.store (parM s) (rct s) w Finset.univ hx hm) k) Q :=
  st_store σ s v (par_eq s) hs hw h
/-- A load of a slot, when what follows runs whatever value it read. -/
theorem mv_dead {α : Type} {Q : α → sProp (MT nD τ sig Unit (Elt F) ℕ UU ℕ)} {σ : Sg} (s : Sl) {hl : (parM s).view.LoadsAt (rct s).toLoadRect}
    {k : (Vec F (rct s).shape .bf16) → Prog (TpuEff nD τ sig (Elt F) Λ₀ .tc) α}
    (h : ∀ v, St A B K c σ ⊢ wpc c (k v) Q) (hs : (σ.sl s).here = true := by decide +kernel) :
    St A B K c σ ⊢ wpc c (.op (.load (parM s) (rct s).toLoadRect hl) k) Q :=
  st_dead σ s (par_eq s) hs h
/-- A store that fills a slot, after the load that the printed code makes before it. -/
theorem mv_put {α : Type} {Q : α → sProp (MT nD τ sig Unit (Elt F) ℕ UU ℕ)} {σ : Sg} (s : Sl) (v : ℕ) {w : Vec F (rct s).shape .bf16}
    (hw : w = shapeCast (rct s).shape (slV A B c v s) (rct_squeezes s).numel_eq.symm)
    {hl : (parM s).view.LoadsAt (rct s).toLoadRect} {hx : ((parM s).access (rct s)).Stores Finset.univ}
    {hm : (Finset.univ : Finset (rct s).shape.Idx) = Finset.univ ∨ ∀ a, (rct s).stride a = 1} {k : PUnit → Prog (TpuEff nD τ sig (Elt F) Λ₀ .tc) α}
    (h : St A B K c (σ.fill s v) ⊢ wpc c (k ⟨⟩) Q) (hs : (σ.sl s).free = true := by decide +kernel) :
    St A B K c σ ⊢ wpc c (.op (.load (parM s) (rct s).toLoadRect hl) fun _ => .op (.store (parM s) (rct s) w Finset.univ hx hm) k) Q :=
  mv_dead s (fun _ => mv_store s v hw h hs) (SS.here_of_free hs)

/-- A copy started. -/
theorem mv_start {α : Type} {Q : α → sProp (MT nD τ sig Unit (Elt F) ℕ UU ℕ)} {σ : Sg} (k : Ch) {n : Dev nD}
    {hsc : (dstM k).view.ref.isScScratch = false} {h1 : (srcM k).view.WordExact} {h2 : (dstM k).view.WordExact}
    {h3 : DmaTarget.Typed .vmem (.dma (rcvS k)) (.remote (Dev.tc n : Thread nD τ) (dstM k) (.dma (sndS k)) hsc)}
    {kk : PUnit → Prog (TpuEff nD τ sig (Elt F) Λ₀ .tc) α}
    (h : St A B K c (σ.start k) ⊢ wpc c (kk ⟨⟩) Q) (hn : n.val = devOf k c := by rfl) (hok : σ.okStart k = true := by decide +kernel) :
    St A B K c σ ⊢ wpc c (.op (.enqueueDma (srcM k) (.remote (Dev.tc n : Thread nD τ) (dstM k) (.dma (sndS k)) hsc) (.dma (rcvS k)) h1 h2 h3) kk) Q :=
  st_start σ k n (Fin.ext (hn.trans (devOf_eq k c))) hok h
/-- A copy's send awaited, its arrival awaited, both. -/
theorem mv_snd {α : Type} {Q : α → sProp (MT nD τ sig Unit (Elt F) ℕ UU ℕ)} {σ : Sg} (k : Ch)
    {h1 : (dstM k).view.WordExact} {h2 : (srcM k).view.WordExact} {kk : PUnit → Prog (TpuEff nD τ sig (Elt F) Λ₀ .tc) α}
    (h : St A B K c (σ.wsnd k) ⊢ wpc c (kk ⟨⟩) Q) (hok : σ.okSnd k = true := by decide +kernel) :
    St A B K c σ ⊢ wpc c (.op (.waitDma2 (sndS k) (dstM k) (srcM k) h1 h2) kk) Q := st_wsnd σ k hok h
/-- The wait for an arrival. -/
theorem mv_rcv {α : Type} {Q : α → sProp (MT nD τ sig Unit (Elt F) ℕ UU ℕ)} {σ : Sg} (k : Ch)
    {h1 : (srcM k).view.WordExact} {h2 : (dstM k).view.WordExact} {kk : PUnit → Prog (TpuEff nD τ sig (Elt F) Λ₀ .tc) α}
    (h : St A B K c (σ.wrcv k) ⊢ wpc c (kk ⟨⟩) Q) (hok : σ.okRcv k = true := by decide +kernel) :
    St A B K c σ ⊢ wpc c (.op (.waitDma2 (rcvS k) (srcM k) (dstM k) h1 h2) kk) Q := st_wrcv σ k hok h
/-- Both waits of a copy, for its send and for its arrival. -/
theorem mv_got {α : Type} {Q : α → sProp (MT nD τ sig Unit (Elt F) ℕ UU ℕ)} {σ : Sg} (k : Ch)
    {h1 : (dstM k).view.WordExact} {h2 : (srcM k).view.WordExact} {h3 : (srcM k).view.WordExact} {h4 : (dstM k).view.WordExact}
    {kk : PUnit → Prog (TpuEff nD τ sig (Elt F) Λ₀ .tc) α}
    (h : St A B K c (σ.got k) ⊢ wpc c (kk ⟨⟩) Q) (hok : (σ.okSnd k && (σ.wsnd k).okRcv k) = true := by decide +kernel) :
    St A B K c σ ⊢ wpc c (.op (.waitDma2 (sndS k) (dstM k) (srcM k) h1 h2) fun _ => .op (.waitDma2 (rcvS k) (srcM k) (dstM k) h3 h4) kk) Q :=
  mv_snd k (mv_rcv k h (Bool.and_eq_true_iff.mp hok).2) (Bool.and_eq_true_iff.mp hok).1

/-- A row block and a column half read. -/
theorem mv_ab {α : Type} {Q : α → sProp (MT nD τ sig Unit (Elt F) ℕ UU ℕ)} {σ : Sg} {off : Fin 2 → ℕ} {hb} {r : ℕ} (ho : off = ![r, 0]) {off' : Fin 2 → ℕ} {hb'} (p : Fin 2)
    {hl : aM.view.LoadsAt (Rect.unit (s := S2048x1024) off S256x1024.size hb).toLoadRect}
    {hl' : bM.view.LoadsAt (Rect.unit (s := S1024x2048) off' S1024x1024.size hb').toLoadRect}
    {k : Vec F S256x1024 .f32 → Vec F S1024x1024 .f32 → Prog (TpuEff nD τ sig (Elt F) Λ₀ .tc) α}
    (h : St A B K c σ ⊢ wpc c (k (aRows A c r) (bCols B c p)) Q) (ho' : off' = ![0, 1024 * p.val] := by rfl) :
    St A B K c σ ⊢ wpc c (.op (.load aM (Rect.unit (s := S2048x1024) off S256x1024.size hb).toLoadRect hl) fun a =>
      .op (.load bM (Rect.unit (s := S1024x2048) off' S1024x1024.size hb').toLoadRect hl') (k a)) Q :=
  st_loadA σ r ho (st_loadB σ p ho' h)

/-- The kept row block stored, after a load whose value is not looked at. -/
theorem mv_q {α : Type} {Q : α → sProp (MT nD τ sig Unit (Elt F) ℕ UU ℕ)} {σ : Sg} (p : Fin 2) {off : Fin 3 → ℕ} {hb}
    {w : Vec F S1x256x1024 .f32} {hl : qM.view.LoadsAt (Rect.unit (s := S2x256x1024) off S1x256x1024.size hb).toLoadRect}
    {hx : (qM.access (Rect.unit (s := S2x256x1024) off S1x256x1024.size hb)).Stores Finset.univ} {hm}
    {k : PUnit → Prog (TpuEff nD τ sig (Elt F) Λ₀ .tc) α}
    (hw : w = shapeCast S1x256x1024 (qV A B c p) squeezes_S1x256x1024_S256x1024.numel_eq.symm)
    (h : St A B K c (σ.setQ p) ⊢ wpc c (k ⟨⟩) Q) (ho : off = ![p.val, 0, 0] := by rfl) :
    St A B K c σ ⊢ wpc c (.op (.load qM (Rect.unit (s := S2x256x1024) off S1x256x1024.size hb).toLoadRect hl) fun _ =>
      .op (.store qM (Rect.unit (s := S2x256x1024) off S1x256x1024.size hb) w Finset.univ hx hm) k) Q := by
  refine st_deadQ σ fun _ => st_storeQ σ p ho (fun x => ?_) h
  rw [hw]
  refine shapeCast_apply _ _ x _ ?_
  have h0 : (x (0 : Fin 3)).val < 1 := (x (0 : Fin 3)).isLt
  rw [Shape.rowMajor_val_two, Shape.rowMajor_val_three]
  show (x 1).val * 1024 + (x 2).val = ((x 0).val * 256 + (x 1).val) * 1024 + (x 2).val
  have h0' : (x 0).val = 0 := Nat.lt_one_iff.mp h0
  rw [h0', Nat.zero_mul, Nat.zero_add]

/-- A chunk of the kept row block read. -/
theorem mv_chunkQ {α : Type} {Q : α → sProp (MT nD τ sig Unit (Elt F) ℕ UU ℕ)} {σ : Sg} (p : Fin 2) {r : ℕ} {off : Fin 3 → ℕ} {hb} (ho : off = ![p.val, r, 0])
    {hl : qM.view.LoadsAt (Rect.unit (s := S2x256x1024) off S1x64x1024.size hb).toLoadRect}
    {k : Vec F S1x64x1024 .f32 → Prog (TpuEff nD τ sig (Elt F) Λ₀ .tc) α}
    (h : St A B K c σ ⊢ wpc c (k (shapeCast S1x64x1024 (qChunk A B c p r) squeezes_S1x64x1024_S64x1024.numel_eq.symm)) Q)
    (hq : σ.q p = true := by decide +kernel) :
    St A B K c σ ⊢ wpc c (.op (.load qM (Rect.unit (s := S2x256x1024) off S1x64x1024.size hb).toLoadRect hl) k) Q :=
  st_chunkQ σ p r ho hq h

/-- A piece of the result stored, after a load whose value is not looked at. -/
theorem mv_out {α : Type} {Q : α → sProp (MT nD τ sig Unit (Elt F) ℕ UU ℕ)} {σ : Sg} (g : Rg) {off : Fin 2 → ℕ} {size : Fin 2 → ℕ} {hb}
    (ho : off = ![rgRow c g, 1024 * (rgCol g).val])
    {w : Vec F (Rect.unit (s := S2048x2048) off size hb).shape .f32}
    {hl : oM.view.LoadsAt (Rect.unit (s := S2048x2048) off size hb).toLoadRect}
    {hx : (oM.access (Rect.unit (s := S2048x2048) off size hb)).Stores Finset.univ} {hm}
    {k : PUnit → Prog (TpuEff nD τ sig (Elt F) Λ₀ .tc) α}
    (hw : HEq w (rgVec A B c g))
    (h : St A B K c (σ.setOut g) ⊢ wpc c (k ⟨⟩) Q) (hsz : size = ![rgHt g, 1024] := by rfl) :
    St A B K c σ ⊢ wpc c (.op (.load oM (Rect.unit (s := S2048x2048) off size hb).toLoadRect hl) fun _ =>
      .op (.store oM (Rect.unit (s := S2048x2048) off size hb) w Finset.univ hx hm) k) Q :=
  st_deadO σ fun _ => st_storeO σ g hsz ho hw h

/-- A chunk of a gathered row block stored, after a load whose value is not looked at. -/
theorem mv_chunk {α : Type} {Q : α → sProp (MT nD τ sig Unit (Elt F) ℕ UU ℕ)} {σ : Sg} (p : Fin 2) (n m : ℕ) {off : Fin 4 → ℕ} {hb}
    (ho : off = ![p.val, 0, zRow c m, 0]) {w : Vec F S1x1x64x1024 .bf16}
    {hl : yM.view.LoadsAt (Rect.unit (s := S2x4x256x1024) off S1x1x64x1024.size hb).toLoadRect}
    {hx : (yM.access (Rect.unit (s := S2x4x256x1024) off S1x1x64x1024.size hb)).Stores Finset.univ} {hmm}
    {k : PUnit → Prog (TpuEff nD τ sig (Elt F) Λ₀ .tc) α}
    (hw : w = shapeCast S1x1x64x1024 (zaV A B n c p) squeezes_S1x1x64x1024_S64x1024.numel_eq.symm)
    (h : St A B K c (σ.chunk p n) ⊢ wpc c (k ⟨⟩) Q) (hs : (σ.sl (.ya p 0)).cnt = some n := by decide +kernel)
    (hn : n < 4 := by decide) (hm : m + n = 5 ∨ m + n = 1 := by decide) :
    St A B K c σ ⊢ wpc c (.op (.load yM (Rect.unit (s := S2x4x256x1024) off S1x1x64x1024.size hb).toLoadRect hl) fun _ =>
      .op (.store yM (Rect.unit (s := S2x4x256x1024) off S1x1x64x1024.size hb) w Finset.univ hx hmm) k) Q :=
  st_deadY σ p n m ho hs fun _ => st_storeY σ p n m hn hm ho hs hw h

/-- An entry signal. -/
theorem mv_entry {α : Type} {Q : α → sProp (MT nD τ sig Unit (Elt F) ℕ UU ℕ)} (i : Fin 5) {n1 n2 : ℕ} {n : Dev nD}
    {k : PUnit → Prog (TpuEff nD τ sig (Elt F) Λ₀ .tc) α}
    (h : Ent A B K c n2 ⊢ wpc c (k ⟨⟩) Q)
    (hn : n.val = (![k0_dev1, k0_dev2, k0_dev3, k0_dev4, k0_dev5] : Fin 5 → Dev nD → ℕ) i c := by rfl)
    (h1 : n1 = i.val := by rfl) (h2 : n2 = i.val + 1 := by rfl) (hd : todo[i.val]? = some (.bar i) := by decide +kernel) :
    Ent A B K c n1 ⊢ wpc c (.op (.semSignal (n, .tc) barS (1#32 : BitVec 32).toInt) k) Q := by
  subst h1 h2
  exact st_entry i n (Fin.ext (hn.trans (bar_eq i c))) hd h

/-- An exit signal. -/
theorem mv_exit {α : Type} {Q : α → sProp (MT nD τ sig Unit (Elt F) ℕ UU ℕ)} {σ : Sg} (i : Fin 5) {n : Dev nD}
    {k : PUnit → Prog (TpuEff nD τ sig (Elt F) Λ₀ .tc) α}
    (h : St A B K c σ.exit1 ⊢ wpc c (k ⟨⟩) Q)
    (hn : n.val = (![k0_dev46, k0_dev47, k0_dev48, k0_dev49, k0_dev50] : Fin 5 → Dev nD → ℕ) i c := by rfl)
    (hi : σ.exits = i.val := by decide +kernel) (hd : todo[σ.paid]? = some (.bar2 i) := by decide +kernel) :
    St A B K c σ ⊢ wpc c (.op (.semSignal (n, .tc) bar2S (1#32 : BitVec 32).toInt) k) Q :=
  st_exit σ i n (Fin.ext (hn.trans (bar2_eq i c))) hi hd h

/-! ## The values computed -/

variable (A B c)

/-- The value stored for the pair is the block of the product that is sent. -/
theorem pay_xs (p : Fin 2) (j : ℕ) : k0_pay1 (aRows A c (paRow c (4 - j))) (bCols B c p)
    = shapeCast S1x1x256x1024 (xsV A B c p j) squeezes_S1x1x256x1024_S256x1024.numel_eq.symm := by
  unfold k0_pay1; simp only [shapeCast_self]; rfl
/-- The value stored at the row ring's start. -/
theorem pay_ys0 (p : Fin 2) : k0_pay11 (aRows A c (myRow c 0)) (bCols B c p)
      (shapeCast S1x1x256x1024 (xrV A B c p 0) squeezes_S1x1x256x1024_S256x1024.numel_eq.symm)
    = shapeCast S1x256x1024 (ysV A B c p 0) squeezes_S1x256x1024_S256x1024.numel_eq.symm := by
  unfold k0_pay11; simp only [shapeCast_self, shapeCast_shapeCast]; rfl
/-- The value stored at a further step of the row ring. -/
theorem pay_ysS (p : Fin 2) (s : ℕ) : k0_pay13 (k0_pay12 (aRows A c (myRow c (3 - s))) (bCols B c p))
      (shapeCast S1x1x256x1024 (yrV A B c p s) squeezes_S1x1x256x1024_S256x1024.numel_eq.symm)
      (shapeCast S1x1x256x1024 (xrV A B c p (s + 1)) squeezes_S1x1x256x1024_S256x1024.numel_eq.symm)
    = shapeCast S1x256x1024 (ysV A B c p (s + 1)) squeezes_S1x256x1024_S256x1024.numel_eq.symm := by
  unfold k0_pay13 k0_pay12; simp only [shapeCast_self, shapeCast_shapeCast]; rfl
/-- The row block kept in single precision. -/
theorem pay_q (p : Fin 2) : k0_pay19 (k0_pay12 (aRows A c (myRow c 1)) (bCols B c p))
      (shapeCast S1x1x256x1024 (yrV A B c p 2) squeezes_S1x1x256x1024_S256x1024.numel_eq.symm)
      (shapeCast S1x1x256x1024 (xrV A B c p 3) squeezes_S1x1x256x1024_S256x1024.numel_eq.symm)
    = shapeCast S1x256x1024 (qV A B c p) squeezes_S1x256x1024_S256x1024.numel_eq.symm := by
  unfold k0_pay19 k0_pay12; simp only [shapeCast_self, shapeCast_shapeCast]; rfl
/-- The value stored at the plane ring's start. -/
theorem pay_zs0 (p : Fin 2) : k0_pay21 (shapeCast S1x64x1024 (qChunk A B c p (zRow c 0)) squeezes_S1x64x1024_S64x1024.numel_eq.symm)
    = shapeCast S1x64x1024 (zsV A B c p 0) squeezes_S1x64x1024_S64x1024.numel_eq.symm := by
  unfold k0_pay21; simp only [shapeCast_self, shapeCast_shapeCast]; rfl
/-- The value stored at a further step of the plane ring. -/
theorem pay_zsS (p : Fin 2) (s : ℕ) : k0_pay22 (shapeCast S1x1x64x1024 (zrV A B c p s) squeezes_S1x1x64x1024_S64x1024.numel_eq.symm)
      (shapeCast S1x64x1024 (qChunk A B c p (zRow c (3 - s))) squeezes_S1x64x1024_S64x1024.numel_eq.symm)
    = shapeCast S1x64x1024 (zsV A B c p (s + 1)) squeezes_S1x64x1024_S64x1024.numel_eq.symm := by
  unfold k0_pay22; simp only [shapeCast_self, shapeCast_shapeCast]; rfl
/-- The finished chunk. -/
theorem pay_fin (p : Fin 2) : k0_pay44 (k0_pay43 (shapeCast S1x1x64x1024 (zrV A B c p 2) squeezes_S1x1x64x1024_S64x1024.numel_eq.symm))
      (shapeCast S1x64x1024 (qChunk A B c p (zRow c 1)) squeezes_S1x64x1024_S64x1024.numel_eq.symm) = finV A B c p := by
  unfold k0_pay44 k0_pay43; simp only [shapeCast_self, shapeCast_shapeCast]; rfl
/-- The finished chunk, as it is sent. -/
theorem pay_za0 (p : Fin 2) : k0_pay45 (k0_pay43 (shapeCast S1x1x64x1024 (zrV A B c p 2) squeezes_S1x1x64x1024_S64x1024.numel_eq.symm))
      (shapeCast S1x64x1024 (qChunk A B c p (zRow c 1)) squeezes_S1x64x1024_S64x1024.numel_eq.symm)
    = shapeCast S1x1x64x1024 (zaV A B 0 c p) squeezes_S1x1x64x1024_S64x1024.numel_eq.symm := by
  unfold k0_pay45; rw [pay_fin]; rfl
/-- A chunk copied from one buffer to another stays as it is. -/
theorem pay_copy (V : FVec F S64x1024 .bf16) : k0_pay39 (shapeCast S1x1x64x1024 V squeezes_S1x1x64x1024_S64x1024.numel_eq.symm)
    = shapeCast S1x1x64x1024 V squeezes_S1x1x64x1024_S64x1024.numel_eq.symm := by
  unfold k0_pay39; simp only [shapeCast_self, shapeCast_shapeCast]
/-- A gathered chunk, as it is stored into the result. -/
theorem ext64 (V : FVec F S64x1024 .bf16) : k0_pay46 (shapeCast S1x1x64x1024 V squeezes_S1x1x64x1024_S64x1024.numel_eq.symm)
    = extf .f32 V bitsLt_bf16_f32 := by
  unfold k0_pay46; simp only [shapeCast_self, shapeCast_shapeCast]
/-- A gathered row block, as it is stored into the result. -/
theorem ext256 (V : FVec F S256x1024 .bf16) : k0_pay50 (shapeCast S1x1x256x1024 V squeezes_S1x1x256x1024_S256x1024.numel_eq.symm)
    = extf .f32 V bitsLt_bf16_f32 := by
  unfold k0_pay50; simp only [shapeCast_self, shapeCast_shapeCast]

end Moves

/-- What a load of a slot, and of a chunk of the kept row block, gives. -/
abbrev rd (A : Dev nD → Vec F S2048x1024 .f32) (B : Dev nD → Vec F S1024x2048 .f32) (c : Dev nD) (s : Sl) (v : ℕ) : Vec F (rct s).shape .bf16 :=
  shapeCast (rct s).shape (slV A B c v s) (rct_squeezes s).numel_eq.symm
abbrev rdQ (A : Dev nD → Vec F S2048x1024 .f32) (B : Dev nD → Vec F S1024x2048 .f32) (c : Dev nD) (p : Fin 2) (r : ℕ) : Vec F S1x64x1024 .f32 :=
  shapeCast S1x64x1024 (qChunk A B c p r) squeezes_S1x64x1024_S64x1024.numel_eq.symm

/-- A program of a device. -/
abbrev Pg (F : FTy → Type) [FloatOps F] (α : Type) : Type 1 := Prog (TpuEff nD τ sig (Elt F) Λ₀ .tc) α

/-- The first row of a piece, as the body computes it, when the block number has gone once round. -/
theorem paRow_five (c : Dev nD) : paRow c 5 = paRow c 1 := by unfold paRow; omega

/-- A part of the body, with the buffers and semaphores the body is called with. -/
abbrev call {β : Type 1} (f : (arg0 : Memref sig .tc .vmem S2048x1024 .f32) → arg0.IsWhole → (arg1 : Memref sig .tc .vmem S1024x2048 .f32) → arg1.IsWhole
    → (arg2 : Memref sig .tc .vmem S2048x2048 .f32) → arg2.IsWhole → (arg3 : Memref sig .tc .vmem S2x4x256x1024 .bf16) → arg3.IsWhole
    → (arg4 : Memref sig .tc .vmem S2x4x256x1024 .bf16) → arg4.IsWhole → (arg5 : Memref sig .tc .vmem S2x256x1024 .bf16) → arg5.IsWhole
    → (arg6 : Memref sig .tc .vmem S2x3x256x1024 .bf16) → arg6.IsWhole → (arg7 : Memref sig .tc .vmem S2x256x1024 .f32) → arg7.IsWhole
    → (arg8 : Memref sig .tc .vmem S2x64x1024 .bf16) → arg8.IsWhole → (arg9 : Memref sig .tc .vmem S2x3x64x1024 .bf16) → arg9.IsWhole
    → (arg10 : Memref sig .tc .vmem S2x4x64x1024 .bf16) → arg10.IsWhole → (arg11 : Memref sig .tc .vmem S2x4x256x1024 .bf16) → arg11.IsWhole
    → (arg12 : Memref sig .tc .vmem S2x4x256x1024 .bf16) → arg12.IsWhole → DmaSems sig S40 → DmaSems sig S40 → Sems sig S_ → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) cc0_scratch10 cc0_scratch11 cc0_scoped0

end Cert.MeshProof

end
-- ==== Proof.Parts1.lean ====
/-
The body, part by part: from the entry barrier to the first chunk of the second column half.
-/
module

public import proofs.«01_k».proof.Proof.Moves
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable {A : Dev nD → Vec F S2048x1024 .f32} {B : Dev nD → Vec F S1024x2048 .f32} {K : Dev nD × Cl → ℕ} {c : Dev nD}
variable {α : Type} {w1 w2 w3 w4 w5 w6 : BitVec 32}

def S4 : Sg := (S0.fill (.xs 0 0) 0).start (.x 0 0)
/-- Part 4 of the printed body, followed by whatever runs from the state after it. -/
theorem part4 {Q : α → sProp (MT nD τ sig Unit (Elt F) ℕ UU ℕ)} {k : FVec F S256x1024 .bf16 → Pg F α}
    (h : St A B K c S4 ⊢ wpc c (k (k0_pay2 (aRows A c (paRow c 3)) (bCols B c 0))) Q) :
    St A B K c S0 ⊢ wpc c (call k0_part4_skel c w1 w2 w3 >>= k) Q := by
  unfold call k0_part4_skel
  simp only [Prog.lift, Prog.bind_op, Prog.bind_ret, Prog.pure_eq_ret]
  refine mv_ab (off1_eq c).1 0 ?_
  refine mv_put (.xs 0 0) 0 (pay_xs A B c 0 0) ?_
  refine mv_start (.x 0 0) ?_
  exact mv_ab (off1_eq c).2.1 0 h

def S5 : Sg := ((S4.fill (.xs 0 1) 0).start (.x 0 1)).fill (.xs 0 2) 0
/-- Part 5 of the printed body, followed by whatever runs from the state after it. -/
theorem part5 {Q : α → sProp (MT nD τ sig Unit (Elt F) ℕ UU ℕ)} {k : PUnit → Pg F α} (h : St A B K c S5 ⊢ wpc c (k ⟨⟩) Q) :
    St A B K c S4 ⊢ wpc c (call k0_part5_skel c w1 w2 w3 (k0_pay2 (aRows A c (paRow c 3)) (bCols B c 0)) >>= k) Q := by
  unfold call k0_part5_skel
  simp only [Prog.lift, Prog.bind_op, Prog.bind_ret, Prog.pure_eq_ret]
  refine mv_put (.xs 0 1) 0 (pay_xs A B c 0 1) ?_
  refine mv_start (.x 0 1) ?_
  refine mv_ab (off1_eq c).2.2.1 0 ?_
  exact mv_put (.xs 0 2) 0 (pay_xs A B c 0 2) h

def S6 : Sg := (S5.start (.x 0 2)).fill (.xs 0 3) 0
/-- Part 6 of the printed body, followed by whatever runs from the state after it. -/
theorem part6 {Q : α → sProp (MT nD τ sig Unit (Elt F) ℕ UU ℕ)} {k : PUnit → Pg F α} (h : St A B K c S6 ⊢ wpc c (k ⟨⟩) Q) :
    St A B K c S5 ⊢ wpc c (call k0_part6_skel c w1 w2 w3 >>= k) Q := by
  unfold call k0_part6_skel
  simp only [Prog.lift, Prog.bind_op, Prog.bind_ret, Prog.pure_eq_ret]
  refine mv_start (.x 0 2) ?_
  refine mv_ab (off1_eq c).2.2.2 0 ?_
  exact mv_put (.xs 0 3) 0 (pay_xs A B c 0 3) h

def S7 : Sg := ((S6.start (.x 0 3)).fill (.xs 1 0) 0).start (.x 1 0)
/-- Part 7 of the printed body, followed by whatever runs from the state after it. -/
theorem part7 {Q : α → sProp (MT nD τ sig Unit (Elt F) ℕ UU ℕ)} {k : (Σ' (_ : BitVec 32), BitVec 32) → Pg F α} (h : ∀ r, St A B K c S7 ⊢ wpc c (k r) Q) :
    St A B K c S6 ⊢ wpc c (call k0_part7_skel c w1 w2 w3 >>= k) Q := by
  unfold call k0_part7_skel
  simp only [Prog.lift, Prog.bind_op, Prog.bind_ret, Prog.pure_eq_ret]
  refine mv_start (.x 0 3) ?_
  refine mv_ab (off1_eq c).1 1 ?_
  refine mv_put (.xs 1 0) 0 (pay_xs A B c 1 0) ?_
  exact mv_start (.x 1 0) (h _)

def S8 : Sg := (S7.fill (.xs 1 1) 0).start (.x 1 1)
/-- Part 8 of the printed body, followed by whatever runs from the state after it. -/
theorem part8 {Q : α → sProp (MT nD τ sig Unit (Elt F) ℕ UU ℕ)} {k : (Σ' (v245 : FVec F S256x1024 .f32), Vec F S1024x1024 .f32) → Pg F α}
    (h : St A B K c S8 ⊢ wpc c (k ⟨k0_pay8 (aRows A c (paRow c 2)), bCols B c 1⟩) Q) :
    St A B K c S7 ⊢ wpc c (call k0_part8_skel c w1 w2 w3 w4 w5 >>= k) Q := by
  unfold call k0_part8_skel
  simp only [Prog.lift, Prog.bind_op, Prog.bind_ret, Prog.pure_eq_ret]
  refine mv_ab (off1_eq c).2.1 1 ?_
  refine mv_put (.xs 1 1) 0 (pay_xs A B c 1 1) ?_
  refine mv_start (.x 1 1) ?_
  exact mv_ab (off1_eq c).2.2.1 1 h

def S9 : Sg := (S8.fill (.xs 1 2) 0).start (.x 1 2)
/-- Part 9 of the printed body, followed by whatever runs from the state after it. -/
theorem part9 {Q : α → sProp (MT nD τ sig Unit (Elt F) ℕ UU ℕ)} {k : FVec F S1x1x256x1024 .bf16 → Pg F α}
    (h : St A B K c S9 ⊢ wpc c (k (k0_pay10 (aRows A c (paRow c 1)) (bCols B c 1))) Q) :
    St A B K c S8 ⊢ wpc c (call k0_part9_skel c w1 w2 w3 (k0_pay8 (aRows A c (paRow c 2))) (bCols B c 1) >>= k) Q := by
  unfold call k0_part9_skel
  simp only [Prog.lift, Prog.bind_op, Prog.bind_ret, Prog.pure_eq_ret]
  refine mv_put (.xs 1 2) 0 (pay_xs A B c 1 2) ?_
  refine mv_start (.x 1 2) ?_
  refine mv_ab (off1_eq c).2.2.2 1 ?_
  exact mv_dead (.xs 1 3) fun _ => h

def S10 : Sg := ((S9.fill (.xs 1 3) 0).start (.x 1 3)).wsnd (.x 0 0)
/-- Part 10 of the printed body, followed by whatever runs from the state after it. -/
theorem part10 {Q : α → sProp (MT nD τ sig Unit (Elt F) ℕ UU ℕ)} {k : PUnit → Pg F α} (h : St A B K c S10 ⊢ wpc c (k ⟨⟩) Q) :
    St A B K c S9 ⊢ wpc c (call k0_part10_skel c w1 (k0_pay10 (aRows A c (paRow c 1)) (bCols B c 1)) >>= k) Q := by
  unfold call k0_part10_skel
  simp only [Prog.lift, Prog.bind_op, Prog.bind_ret, Prog.pure_eq_ret]
  refine mv_store (.xs 1 3) 0 (pay_xs A B c 1 3) ?_
  refine mv_start (.x 1 3) ?_
  exact mv_snd (.x 0 0) h

def S11 : Sg := ((S10.wrcv (.x 0 0)).fill (.ys 0) 0).start (.y 0 0)
/-- Part 11 of the printed body, followed by whatever runs from the state after it. -/
theorem part11 {Q : α → sProp (MT nD τ sig Unit (Elt F) ℕ UU ℕ)} {k : BitVec 32 → Pg F α} (h : ∀ r, St A B K c S11 ⊢ wpc c (k r) Q) :
    St A B K c S10 ⊢ wpc c (call k0_part11_skel c w1 w2 w3 >>= k) Q := by
  unfold call k0_part11_skel
  simp only [Prog.lift, Prog.bind_op, Prog.bind_ret, Prog.pure_eq_ret]
  refine mv_rcv (.x 0 0) ?_
  refine mv_ab (off2_eq c) 0 ?_
  refine mv_load (.xr 0 0) 0 ?_
  refine mv_put (.ys 0) 0 (pay_ys0 A B c 0) ?_
  exact mv_start (.y 0 0) (h _)

def S12 : Sg := S11.got (.x 0 1)
/-- Part 12 of the printed body, followed by whatever runs from the state after it. -/
theorem part12 {Q : α → sProp (MT nD τ sig Unit (Elt F) ℕ UU ℕ)} {k : FVec F S256x1024 .f32 → Pg F α}
    (h : St A B K c S12 ⊢ wpc c (k (k0_pay12 (aRows A c (myRow c 3)) (bCols B c 0))) Q) :
    St A B K c S11 ⊢ wpc c (call k0_part12_skel c w1 w2 w3 >>= k) Q := by
  unfold call k0_part12_skel
  simp only [Prog.lift, Prog.bind_op, Prog.bind_ret, Prog.pure_eq_ret]
  refine mv_ab (off3_eq c).1 0 ?_
  exact mv_got (.x 0 1) h

def S13 : Sg := (S12.got (.y 0 0)).fill (.ys 0) 1
/-- Part 13 of the printed body, followed by whatever runs from the state after it. -/
theorem part13 {Q : α → sProp (MT nD τ sig Unit (Elt F) ℕ UU ℕ)} {k : PUnit → Pg F α} (h : St A B K c S13 ⊢ wpc c (k ⟨⟩) Q) :
    St A B K c S12 ⊢ wpc c (call k0_part13_skel w1 (k0_pay12 (aRows A c (myRow c 3)) (bCols B c 0)) >>= k) Q := by
  unfold call k0_part13_skel
  simp only [Prog.lift, Prog.bind_op, Prog.bind_ret, Prog.pure_eq_ret]
  refine mv_got (.y 0 0) ?_
  refine mv_load (.yr 0 0) 0 ?_
  refine mv_load (.xr 0 1) 0 ?_
  exact mv_put (.ys 0) 1 (pay_ysS A B c 0 0) h

def S14 : Sg := (S13.start (.y 0 1)).wsnd (.x 0 2)
/-- Part 14 of the printed body, followed by whatever runs from the state after it. -/
theorem part14 {Q : α → sProp (MT nD τ sig Unit (Elt F) ℕ UU ℕ)} {k : FVec F S256x1024 .f32 → Pg F α}
    (h : St A B K c S14 ⊢ wpc c (k (k0_pay14 (aRows A c (myRow c 2)) (bCols B c 0))) Q) :
    St A B K c S13 ⊢ wpc c (call k0_part14_skel c w1 w2 w3 >>= k) Q := by
  unfold call k0_part14_skel
  simp only [Prog.lift, Prog.bind_op, Prog.bind_ret, Prog.pure_eq_ret]
  refine mv_start (.y 0 1) ?_
  refine mv_ab (off3_eq c).2.1 0 ?_
  exact mv_snd (.x 0 2) h

def S15 : Sg := (S14.wrcv (.x 0 2)).got (.y 0 1)
/-- Part 15 of the printed body, followed by whatever runs from the state after it. -/
theorem part15 {Q : α → sProp (MT nD τ sig Unit (Elt F) ℕ UU ℕ)} {k : (Σ' (v427 : FVec F S256x1024 .f32), FVec F S256x1024 .f32) → Pg F α}
    (h : St A B K c S15 ⊢ wpc c (k ⟨k0_pay15 (rd A B c (.yr 0 1) 0), k0_pay16 (rd A B c (.xr 0 2) 0)⟩) Q) :
    St A B K c S14 ⊢ wpc c (call k0_part15_skel w1 >>= k) Q := by
  unfold call k0_part15_skel
  simp only [Prog.lift, Prog.bind_op, Prog.bind_ret, Prog.pure_eq_ret]
  refine mv_rcv (.x 0 2) ?_
  refine mv_got (.y 0 1) ?_
  refine mv_load (.yr 0 1) 0 ?_
  exact mv_load (.xr 0 2) 0 h

def S16 : Sg := (S15.fill (.ys 0) 2).start (.y 0 2)
/-- Part 16 of the printed body, followed by whatever runs from the state after it. -/
theorem part16 {Q : α → sProp (MT nD τ sig Unit (Elt F) ℕ UU ℕ)} {k : FVec F S256x1024 .f32 → Pg F α}
    (h : St A B K c S16 ⊢ wpc c (k (k0_pay18 (aRows A c (myRow c 1)) (bCols B c 0))) Q) :
    St A B K c S15 ⊢ wpc c (call k0_part16_skel c w1 w2 w3 (k0_pay14 (aRows A c (myRow c 2)) (bCols B c 0))
      (k0_pay15 (rd A B c (.yr 0 1) 0)) (k0_pay16 (rd A B c (.xr 0 2) 0)) >>= k) Q := by
  unfold call k0_part16_skel
  simp only [Prog.lift, Prog.bind_op, Prog.bind_ret, Prog.pure_eq_ret]
  refine mv_put (.ys 0) 2 (pay_ysS A B c 0 1) ?_
  refine mv_start (.y 0 2) ?_
  exact mv_ab (off3_eq c).2.2 0 h

def S17 : Sg := (S16.got (.x 0 3)).wsnd (.y 0 2)
/-- Part 17 of the printed body, followed by whatever runs from the state after it. -/
theorem part17 {Q : α → sProp (MT nD τ sig Unit (Elt F) ℕ UU ℕ)} {k : PUnit → Pg F α} (h : St A B K c S17 ⊢ wpc c (k ⟨⟩) Q) :
    St A B K c S16 ⊢ wpc c (call k0_part17_skel w1 w2 >>= k) Q := by
  unfold call k0_part17_skel
  simp only [Prog.lift, Prog.bind_op, Prog.bind_ret, Prog.pure_eq_ret]
  refine mv_got (.x 0 3) ?_
  exact mv_snd (.y 0 2) h

def S18 : Sg := ((S17.wrcv (.y 0 2)).setQ 0).wsnd (.x 1 0)
/-- Part 18 of the printed body, followed by whatever runs from the state after it. -/
theorem part18 {Q : α → sProp (MT nD τ sig Unit (Elt F) ℕ UU ℕ)} {k : PUnit → Pg F α} (h : St A B K c S18 ⊢ wpc c (k ⟨⟩) Q) :
    St A B K c S17 ⊢ wpc c (call k0_part18_skel w1 (k0_pay18 (aRows A c (myRow c 1)) (bCols B c 0)) >>= k) Q := by
  unfold call k0_part18_skel
  simp only [Prog.lift, Prog.bind_op, Prog.bind_ret, Prog.pure_eq_ret]
  refine mv_rcv (.y 0 2) ?_
  refine mv_load (.yr 0 2) 0 ?_
  refine mv_load (.xr 0 3) 0 ?_
  refine mv_q 0 (pay_q A B c 0) ?_
  exact mv_snd (.x 1 0) h

def S19 : Sg := ((S18.wrcv (.x 1 0)).fill (.ys 1) 0).fill (.zs 0) 0
/-- Part 19 of the printed body, followed by whatever runs from the state after it. -/
theorem part19 {Q : α → sProp (MT nD τ sig Unit (Elt F) ℕ UU ℕ)} {k : PUnit → Pg F α} (h : St A B K c S19 ⊢ wpc c (k ⟨⟩) Q) :
    St A B K c S18 ⊢ wpc c (call k0_part19_skel c w1 w2 w3 w4 >>= k) Q := by
  unfold call k0_part19_skel
  simp only [Prog.lift, Prog.bind_op, Prog.bind_ret, Prog.pure_eq_ret]
  refine mv_rcv (.x 1 0) ?_
  refine mv_ab (off2_eq c) 1 ?_
  refine mv_load (.xr 1 0) 0 ?_
  refine mv_put (.ys 1) 0 (pay_ys0 A B c 1) ?_
  refine mv_chunkQ 0 (off4_eq c) ?_
  exact mv_put (.zs 0) 0 (pay_zs0 A B c 0) h

def S20 : Sg := ((S19.start (.z 0 0)).start (.y 1 0)).wsnd (.z 0 0)
/-- Part 20 of the printed body, followed by whatever runs from the state after it. -/
theorem part20 {Q : α → sProp (MT nD τ sig Unit (Elt F) ℕ UU ℕ)} {k : (Σ' (_ : BitVec 32), BitVec 32) → Pg F α} (h : ∀ r, St A B K c S20 ⊢ wpc c (k r) Q) :
    St A B K c S19 ⊢ wpc c (call k0_part20_skel c w1 w2 >>= k) Q := by
  unfold call k0_part20_skel
  simp only [Prog.lift, Prog.bind_op, Prog.bind_ret, Prog.pure_eq_ret]
  refine mv_start (.z 0 0) ?_
  refine mv_start (.y 1 0) ?_
  exact mv_snd (.z 0 0) (h _)

def S21 : Sg := (S20.wrcv (.z 0 0)).fill (.zs 0) 1
/-- Part 21 of the printed body, followed by whatever runs from the state after it. -/
theorem part21 {Q : α → sProp (MT nD τ sig Unit (Elt F) ℕ UU ℕ)} {k : PUnit → Pg F α} (h : St A B K c S21 ⊢ wpc c (k ⟨⟩) Q) :
    St A B K c S20 ⊢ wpc c (call k0_part21_skel c w1 w2 w3 w4 >>= k) Q := by
  unfold call k0_part21_skel
  simp only [Prog.lift, Prog.bind_op, Prog.bind_ret, Prog.pure_eq_ret]
  refine mv_rcv (.z 0 0) ?_
  refine mv_load (.zr 0 0) 0 ?_
  refine mv_chunkQ 0 (off5_eq c).1 ?_
  exact mv_put (.zs 0) 1 (pay_zsS A B c 0 0) h

def S22 : Sg := (S21.start (.z 0 1)).got (.x 1 1)
/-- Part 22 of the printed body, followed by whatever runs from the state after it. -/
theorem part22 {Q : α → sProp (MT nD τ sig Unit (Elt F) ℕ UU ℕ)} {k : FVec F S256x1024 .f32 → Pg F α}
    (h : St A B K c S22 ⊢ wpc c (k (k0_pay23 (aRows A c (myRow c 3)) (bCols B c 1))) Q) :
    St A B K c S21 ⊢ wpc c (call k0_part22_skel c w1 w2 w3 >>= k) Q := by
  unfold call k0_part22_skel
  simp only [Prog.lift, Prog.bind_op, Prog.bind_ret, Prog.pure_eq_ret]
  refine mv_start (.z 0 1) ?_
  refine mv_ab (off3_eq c).1 1 ?_
  exact mv_got (.x 1 1) h

def S23 : Sg := (S22.got (.y 1 0)).fill (.ys 1) 1
/-- Part 23 of the printed body, followed by whatever runs from the state after it. -/
theorem part23 {Q : α → sProp (MT nD τ sig Unit (Elt F) ℕ UU ℕ)} {k : PUnit → Pg F α} (h : St A B K c S23 ⊢ wpc c (k ⟨⟩) Q) :
    St A B K c S22 ⊢ wpc c (call k0_part23_skel w1 (k0_pay23 (aRows A c (myRow c 3)) (bCols B c 1)) >>= k) Q := by
  unfold call k0_part23_skel
  simp only [Prog.lift, Prog.bind_op, Prog.bind_ret, Prog.pure_eq_ret]
  refine mv_got (.y 1 0) ?_
  refine mv_load (.yr 1 0) 0 ?_
  refine mv_load (.xr 1 1) 0 ?_
  exact mv_put (.ys 1) 1 (pay_ysS A B c 1 0) h

def S24 : Sg := (S23.start (.y 1 1)).got (.z 0 1)
/-- Part 24 of the printed body, followed by whatever runs from the state after it. -/
theorem part24 {Q : α → sProp (MT nD τ sig Unit (Elt F) ℕ UU ℕ)} {k : (Σ' (_ : BitVec 32), BitVec 32) → Pg F α} (h : ∀ r, St A B K c S24 ⊢ wpc c (k r) Q) :
    St A B K c S23 ⊢ wpc c (call k0_part24_skel c w1 w2 w3 >>= k) Q := by
  unfold call k0_part24_skel
  simp only [Prog.lift, Prog.bind_op, Prog.bind_ret, Prog.pure_eq_ret]
  refine mv_start (.y 1 1) ?_
  exact mv_got (.z 0 1) (h _)

def S25 : Sg := (S24.fill (.zs 0) 2).start (.z 0 2)
/-- Part 25 of the printed body, followed by whatever runs from the state after it. -/
theorem part25 {Q : α → sProp (MT nD τ sig Unit (Elt F) ℕ UU ℕ)} {k : (Σ' (v696 : FVec F S256x1024 .f32), Vec F S1024x1024 .f32) → Pg F α}
    (h : St A B K c S25 ⊢ wpc c (k ⟨k0_pay26 (aRows A c (myRow c 2)), bCols B c 1⟩) Q) :
    St A B K c S24 ⊢ wpc c (call k0_part25_skel c w1 w2 w3 w4 w5 >>= k) Q := by
  unfold call k0_part25_skel
  simp only [Prog.lift, Prog.bind_op, Prog.bind_ret, Prog.pure_eq_ret]
  refine mv_load (.zr 0 1) 0 ?_
  refine mv_chunkQ 0 (off5_eq c).2.1 ?_
  refine mv_put (.zs 0) 2 (pay_zsS A B c 0 1) ?_
  refine mv_start (.z 0 2) ?_
  exact mv_ab (off3_eq c).2.1 1 h

def S26 : Sg := (S25.got (.x 1 2)).wsnd (.y 1 1)
/-- Part 26 of the printed body, followed by whatever runs from the state after it. -/
theorem part26 {Q : α → sProp (MT nD τ sig Unit (Elt F) ℕ UU ℕ)} {k : FVec F S256x1024 .f32 → Pg F α}
    (h : St A B K c S26 ⊢ wpc c (k (k0_pay27 (k0_pay26 (aRows A c (myRow c 2))) (bCols B c 1))) Q) :
    St A B K c S25 ⊢ wpc c (call k0_part26_skel w1 (k0_pay26 (aRows A c (myRow c 2))) (bCols B c 1) >>= k) Q := by
  unfold call k0_part26_skel
  simp only [Prog.lift, Prog.bind_op, Prog.bind_ret, Prog.pure_eq_ret]
  refine mv_got (.x 1 2) ?_
  exact mv_snd (.y 1 1) h

def S27 : Sg := (S26.wrcv (.y 1 1)).fill (.ys 1) 2
/-- Part 27 of the printed body, followed by whatever runs from the state after it. -/
theorem part27 {Q : α → sProp (MT nD τ sig Unit (Elt F) ℕ UU ℕ)} {k : PUnit → Pg F α} (h : St A B K c S27 ⊢ wpc c (k ⟨⟩) Q) :
    St A B K c S26 ⊢ wpc c (call k0_part27_skel w1 (k0_pay27 (k0_pay26 (aRows A c (myRow c 2))) (bCols B c 1)) >>= k) Q := by
  unfold call k0_part27_skel
  simp only [Prog.lift, Prog.bind_op, Prog.bind_ret, Prog.pure_eq_ret]
  refine mv_rcv (.y 1 1) ?_
  refine mv_load (.yr 1 1) 0 ?_
  refine mv_load (.xr 1 2) 0 ?_
  exact mv_put (.ys 1) 2 (pay_ysS A B c 1 1) h

def S28 : Sg := (S27.start (.y 1 2)).got (.z 0 2)
/-- Part 28 of the printed body, followed by whatever runs from the state after it. -/
theorem part28 {Q : α → sProp (MT nD τ sig Unit (Elt F) ℕ UU ℕ)} {k : (Σ' (v768 : FVec F S64x1024 .f32), FVec F S64x1024 .f32) → Pg F α}
    (h : St A B K c S28 ⊢ wpc c (k ⟨k0_pay29 (rd A B c (.zr 0 2) 0), k0_pay30 (rdQ A B c 0 (zRow c 1))⟩) Q) :
    St A B K c S27 ⊢ wpc c (call k0_part28_skel c w1 w2 >>= k) Q := by
  unfold call k0_part28_skel
  simp only [Prog.lift, Prog.bind_op, Prog.bind_ret, Prog.pure_eq_ret]
  refine mv_start (.y 1 2) ?_
  refine mv_got (.z 0 2) ?_
  refine mv_load (.zr 0 2) 0 ?_
  exact mv_chunkQ 0 (off5_eq c).2.2 h

def S29 : Sg := ((S28.setOut (.fin 0)).fill (.za 0 0) 0).start (.zg 0 0)
/-- Part 29 of the printed body, followed by whatever runs from the state after it. -/
theorem part29 {Q : α → sProp (MT nD τ sig Unit (Elt F) ℕ UU ℕ)} {k : (Σ' (v802 : FVec F S256x1024 .f32), Vec F S1024x1024 .f32) → Pg F α}
    (h : St A B K c S29 ⊢ wpc c (k ⟨k0_pay33 (aRows A c (myRow c 1)), bCols B c 1⟩) Q) :
    St A B K c S28 ⊢ wpc c (call k0_part29_skel c w1 w2 w3 w4 w5 (k0_pay29 (rd A B c (.zr 0 2) 0)) (k0_pay30 (rdQ A B c 0 (zRow c 1))) >>= k) Q := by
  unfold call k0_part29_skel
  simp only [Prog.lift, Prog.bind_op, Prog.bind_ret, Prog.pure_eq_ret]
  refine mv_out (.fin 0) (off6_eq c).1 (heq_of_eq (pay_fin A B c 0)) ?_
  refine mv_put (.za 0 0) 0 (pay_za0 A B c 0) ?_
  refine mv_start (.zg 0 0) ?_
  exact mv_ab (off3_eq c).2.2 1 h

def S30 : Sg := (S29.got (.x 1 3)).wsnd (.y 1 2)
/-- Part 30 of the printed body, followed by whatever runs from the state after it. -/
theorem part30 {Q : α → sProp (MT nD τ sig Unit (Elt F) ℕ UU ℕ)} {k : FVec F S256x1024 .f32 → Pg F α}
    (h : St A B K c S30 ⊢ wpc c (k (k0_pay34 (k0_pay33 (aRows A c (myRow c 1))) (bCols B c 1))) Q) :
    St A B K c S29 ⊢ wpc c (call k0_part30_skel w1 (k0_pay33 (aRows A c (myRow c 1))) (bCols B c 1) >>= k) Q := by
  unfold call k0_part30_skel
  simp only [Prog.lift, Prog.bind_op, Prog.bind_ret, Prog.pure_eq_ret]
  refine mv_got (.x 1 3) ?_
  exact mv_snd (.y 1 2) h

def S31 : Sg := ((S30.wrcv (.y 1 2)).setQ 1).fill (.zs 1) 0
/-- Part 31 of the printed body, followed by whatever runs from the state after it. -/
theorem part31 {Q : α → sProp (MT nD τ sig Unit (Elt F) ℕ UU ℕ)} {k : PUnit → Pg F α} (h : St A B K c S31 ⊢ wpc c (k ⟨⟩) Q) :
    St A B K c S30 ⊢ wpc c (call k0_part31_skel c w1 w2 (k0_pay34 (k0_pay33 (aRows A c (myRow c 1))) (bCols B c 1)) >>= k) Q := by
  unfold call k0_part31_skel
  simp only [Prog.lift, Prog.bind_op, Prog.bind_ret, Prog.pure_eq_ret]
  refine mv_rcv (.y 1 2) ?_
  refine mv_load (.yr 1 2) 0 ?_
  refine mv_load (.xr 1 3) 0 ?_
  refine mv_q 1 (pay_q A B c 1) ?_
  refine mv_chunkQ 1 (off7_eq c) ?_
  exact mv_put (.zs 1) 0 (pay_zs0 A B c 1) h

end Parts

end Cert.MeshProof

end
-- ==== Proof.Parts2.lean ====
/-
The body, part by part: the rest of the second column half, the gathers, and the two barriers.
-/
module

public import proofs.«01_k».proof.Proof.Parts1
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable {A : Dev nD → Vec F S2048x1024 .f32} {B : Dev nD → Vec F S1024x2048 .f32} {K : Dev nD × Cl → ℕ} {c : Dev nD}
variable {α : Type} {w1 w2 w3 w4 w5 w6 : BitVec 32}

def S32 : Sg := (S31.start (.z 1 0)).got (.zg 0 0)
/-- Part 32 of the printed body, followed by whatever runs from the state after it. -/
theorem part32 {Q : α → sProp (MT nD τ sig Unit (Elt F) ℕ UU ℕ)} {k : PUnit → Pg F α} (h : St A B K c S32 ⊢ wpc c (k ⟨⟩) Q) :
    St A B K c S31 ⊢ wpc c (call k0_part32_skel c w1 >>= k) Q := by
  unfold call k0_part32_skel
  simp only [Prog.lift, Prog.bind_op, Prog.bind_ret, Prog.pure_eq_ret, semSignalWord]
  refine mv_start (.z 1 0) ?_
  exact mv_got (.zg 0 0) h

def S33 : Sg := (S32.start (.zg 0 1)).got (.z 1 0)
/-- Part 33 of the printed body, followed by whatever runs from the state after it. -/
theorem part33 {Q : α → sProp (MT nD τ sig Unit (Elt F) ℕ UU ℕ)} {k : BitVec 32 → Pg F α} (h : ∀ r, St A B K c S33 ⊢ wpc c (k r) Q) :
    St A B K c S32 ⊢ wpc c (call k0_part33_skel c w1 w2 >>= k) Q := by
  unfold call k0_part33_skel
  simp only [Prog.lift, Prog.bind_op, Prog.bind_ret, Prog.pure_eq_ret, semSignalWord]
  refine mv_start (.zg 0 1) ?_
  exact mv_got (.z 1 0) (h _)

def S34 : Sg := (S33.fill (.zs 1) 1).start (.z 1 1)
/-- Part 34 of the printed body, followed by whatever runs from the state after it. -/
theorem part34 {Q : α → sProp (MT nD τ sig Unit (Elt F) ℕ UU ℕ)} {k : PUnit → Pg F α} (h : St A B K c S34 ⊢ wpc c (k ⟨⟩) Q) :
    St A B K c S33 ⊢ wpc c (call k0_part34_skel c w1 w2 >>= k) Q := by
  unfold call k0_part34_skel
  simp only [Prog.lift, Prog.bind_op, Prog.bind_ret, Prog.pure_eq_ret, semSignalWord]
  refine mv_load (.zr 1 0) 0 ?_
  refine mv_chunkQ 1 (off8_eq c).1 ?_
  refine mv_put (.zs 1) 1 (pay_zsS A B c 1 0) ?_
  exact mv_start (.z 1 1) h

def S35 : Sg := (S34.got (.zg 0 1)).start (.zg 0 2)
/-- Part 35 of the printed body, followed by whatever runs from the state after it. -/
theorem part35 {Q : α → sProp (MT nD τ sig Unit (Elt F) ℕ UU ℕ)} {k : PUnit → Pg F α} (h : St A B K c S35 ⊢ wpc c (k ⟨⟩) Q) :
    St A B K c S34 ⊢ wpc c (call k0_part35_skel c w1 >>= k) Q := by
  unfold call k0_part35_skel
  simp only [Prog.lift, Prog.bind_op, Prog.bind_ret, Prog.pure_eq_ret, semSignalWord]
  refine mv_got (.zg 0 1) ?_
  exact mv_start (.zg 0 2) h

def S36 : Sg := (S35.got (.z 1 1)).fill (.zs 1) 2
/-- Part 36 of the printed body, followed by whatever runs from the state after it. -/
theorem part36 {Q : α → sProp (MT nD τ sig Unit (Elt F) ℕ UU ℕ)} {k : BitVec 32 → Pg F α} (h : ∀ r, St A B K c S36 ⊢ wpc c (k r) Q) :
    St A B K c S35 ⊢ wpc c (call k0_part36_skel c w1 w2 >>= k) Q := by
  unfold call k0_part36_skel
  simp only [Prog.lift, Prog.bind_op, Prog.bind_ret, Prog.pure_eq_ret, semSignalWord]
  refine mv_got (.z 1 1) ?_
  refine mv_load (.zr 1 1) 0 ?_
  refine mv_chunkQ 1 (off8_eq c).2.1 ?_
  exact mv_put (.zs 1) 2 (pay_zsS A B c 1 1) (h _)

def S37 : Sg := (S36.start (.z 1 2)).got (.zg 0 2)
/-- Part 37 of the printed body, followed by whatever runs from the state after it. -/
theorem part37 {Q : α → sProp (MT nD τ sig Unit (Elt F) ℕ UU ℕ)} {k : BitVec 32 → Pg F α} (h : ∀ r, St A B K c S37 ⊢ wpc c (k r) Q) :
    St A B K c S36 ⊢ wpc c (call k0_part37_skel c w1 w2 w3 >>= k) Q := by
  unfold call k0_part37_skel
  simp only [Prog.lift, Prog.bind_op, Prog.bind_ret, Prog.pure_eq_ret, semSignalWord]
  refine mv_start (.z 1 2) ?_
  exact mv_got (.zg 0 2) (h _)

def S38 : Sg := ((S37.chunk 0 0).chunk 0 1).chunk 0 2
/-- Part 38 of the printed body, followed by whatever runs from the state after it. -/
theorem part38 {Q : α → sProp (MT nD τ sig Unit (Elt F) ℕ UU ℕ)} {k : PUnit → Pg F α} (h : St A B K c S38 ⊢ wpc c (k ⟨⟩) Q) :
    St A B K c S37 ⊢ wpc c (call k0_part38_skel c w1 w2 >>= k) Q := by
  unfold call k0_part38_skel
  simp only [Prog.lift, Prog.bind_op, Prog.bind_ret, Prog.pure_eq_ret, semSignalWord]
  refine mv_load (.za 0 0) 0 ?_
  refine mv_chunk 0 0 1 (off9_eq c).1 (pay_copy _) ?_
  refine mv_load (.za 0 1) 0 ?_
  refine mv_chunk 0 1 4 (off9_eq c).2.1 (pay_copy _) ?_
  refine mv_load (.za 0 2) 0 ?_
  exact mv_chunk 0 2 3 (off9_eq c).2.2.1 (pay_copy _) h

def S39 : Sg := (S38.chunk 0 3).start (.xg 0 0)
/-- Part 39 of the printed body, followed by whatever runs from the state after it. -/
theorem part39 {Q : α → sProp (MT nD τ sig Unit (Elt F) ℕ UU ℕ)} {k : PUnit → Pg F α} (h : St A B K c S39 ⊢ wpc c (k ⟨⟩) Q) :
    St A B K c S38 ⊢ wpc c (call k0_part39_skel c w1 w2 w3 >>= k) Q := by
  unfold call k0_part39_skel
  simp only [Prog.lift, Prog.bind_op, Prog.bind_ret, Prog.pure_eq_ret, semSignalWord]
  refine mv_load (.za 0 3) 0 ?_
  refine mv_chunk 0 3 2 (off9_eq c).2.2.2 (pay_copy _) ?_
  exact mv_start (.xg 0 0) h

def S40' : Sg := (S39.start (.yg 0 0)).got (.z 1 2)
/-- Part 40 of the printed body, followed by whatever runs from the state after it. -/
theorem part40 {Q : α → sProp (MT nD τ sig Unit (Elt F) ℕ UU ℕ)} {k : FVec F S64x1024 .f32 → Pg F α}
    (h : St A B K c S40' ⊢ wpc c (k (k0_pay43 (rd A B c (.zr 1 2) 0))) Q) :
    St A B K c S39 ⊢ wpc c (call k0_part40_skel c w1 w2 >>= k) Q := by
  unfold call k0_part40_skel
  simp only [Prog.lift, Prog.bind_op, Prog.bind_ret, Prog.pure_eq_ret, semSignalWord]
  refine mv_start (.yg 0 0) ?_
  refine mv_got (.z 1 2) ?_
  exact mv_load (.zr 1 2) 0 h

def S41 : Sg := ((S40'.setOut (.fin 1)).fill (.za 1 0) 0).start (.zg 1 0)
/-- Part 41 of the printed body, followed by whatever runs from the state after it. -/
theorem part41 {Q : α → sProp (MT nD τ sig Unit (Elt F) ℕ UU ℕ)} {k : (Σ' (_ : BitVec 32), FVec F S64x1024 .f32) → Pg F α}
    (h : ∀ r, St A B K c S41 ⊢ wpc c (k ⟨r, k0_pay46 (rd A B c (.za 0 1) 0)⟩) Q) :
    St A B K c S40' ⊢ wpc c (call k0_part41_skel c w1 w2 w3 w4 w5 (k0_pay43 (rd A B c (.zr 1 2) 0)) >>= k) Q := by
  unfold call k0_part41_skel
  simp only [Prog.lift, Prog.bind_op, Prog.bind_ret, Prog.pure_eq_ret, semSignalWord]
  refine mv_chunkQ 1 (off8_eq c).2.2 ?_
  refine mv_out (.fin 1) (off10_eq c).1 (heq_of_eq (pay_fin A B c 1)) ?_
  refine mv_put (.za 1 0) 0 (pay_za0 A B c 1) ?_
  refine mv_start (.zg 1 0) ?_
  exact mv_load (.za 0 1) 0 (h _)

def S42 : Sg := ((S41.setOut (.zg 0 0)).setOut (.zg 0 1)).setOut (.zg 0 2)
/-- Part 42 of the printed body, followed by whatever runs from the state after it. -/
theorem part42 {Q : α → sProp (MT nD τ sig Unit (Elt F) ℕ UU ℕ)} {k : PUnit → Pg F α} (h : St A B K c S42 ⊢ wpc c (k ⟨⟩) Q) :
    St A B K c S41 ⊢ wpc c (call k0_part42_skel c w1 w2 w3 w4 (k0_pay46 (rd A B c (.za 0 1) 0)) >>= k) Q := by
  unfold call k0_part42_skel
  simp only [Prog.lift, Prog.bind_op, Prog.bind_ret, Prog.pure_eq_ret, semSignalWord]
  refine mv_out (.zg 0 0) (off6_eq c).2.1 (heq_of_eq (ext64 _)) ?_
  refine mv_load (.za 0 2) 0 ?_
  refine mv_out (.zg 0 1) (off6_eq c).2.2.1 (heq_of_eq (ext64 _)) ?_
  refine mv_load (.za 0 3) 0 ?_
  exact mv_out (.zg 0 2) (off6_eq c).2.2.2 (heq_of_eq (ext64 _)) h

def S43 : Sg := (S42.got (.zg 1 0)).start (.zg 1 1)
/-- Part 43 of the printed body, followed by whatever runs from the state after it. -/
theorem part43 {Q : α → sProp (MT nD τ sig Unit (Elt F) ℕ UU ℕ)} {k : PUnit → Pg F α} (h : St A B K c S43 ⊢ wpc c (k ⟨⟩) Q) :
    St A B K c S42 ⊢ wpc c (call k0_part43_skel c w1 >>= k) Q := by
  unfold call k0_part43_skel
  simp only [Prog.lift, Prog.bind_op, Prog.bind_ret, Prog.pure_eq_ret, semSignalWord]
  refine mv_got (.zg 1 0) ?_
  exact mv_start (.zg 1 1) h

def S44 : Sg := (S43.got (.yg 0 0)).start (.xg 0 1)
/-- Part 44 of the printed body, followed by whatever runs from the state after it. -/
theorem part44 {Q : α → sProp (MT nD τ sig Unit (Elt F) ℕ UU ℕ)} {k : PUnit → Pg F α} (h : St A B K c S44 ⊢ wpc c (k ⟨⟩) Q) :
    St A B K c S43 ⊢ wpc c (call k0_part44_skel c w1 w2 >>= k) Q := by
  unfold call k0_part44_skel
  simp only [Prog.lift, Prog.bind_op, Prog.bind_ret, Prog.pure_eq_ret, semSignalWord]
  refine mv_got (.yg 0 0) ?_
  exact mv_start (.xg 0 1) h

def S45 : Sg := (S44.start (.yg 0 1)).got (.xg 0 0)
/-- Part 45 of the printed body, followed by whatever runs from the state after it. -/
theorem part45 {Q : α → sProp (MT nD τ sig Unit (Elt F) ℕ UU ℕ)} {k : BitVec 32 → Pg F α} (h : ∀ r, St A B K c S45 ⊢ wpc c (k r) Q) :
    St A B K c S44 ⊢ wpc c (call k0_part45_skel c w1 w2 w3 >>= k) Q := by
  unfold call k0_part45_skel
  simp only [Prog.lift, Prog.bind_op, Prog.bind_ret, Prog.pure_eq_ret, semSignalWord]
  refine mv_start (.yg 0 1) ?_
  exact mv_got (.xg 0 0) (h _)

def S46 : Sg := ((S45.setOut (.zg 1 0)).setOut (.yg 0 0)).setOut (.xg 0 0)
/-- Part 46 of the printed body, followed by whatever runs from the state after it. -/
theorem part46 {Q : α → sProp (MT nD τ sig Unit (Elt F) ℕ UU ℕ)} {k : PUnit → Pg F α} (h : St A B K c S46 ⊢ wpc c (k ⟨⟩) Q) :
    St A B K c S45 ⊢ wpc c (call k0_part46_skel c w1 w2 w3 w4 w5 >>= k) Q := by
  unfold call k0_part46_skel
  simp only [Prog.lift, Prog.bind_op, Prog.bind_ret, Prog.pure_eq_ret, semSignalWord]
  refine mv_load (.za 1 1) 0 ?_
  refine mv_out (.zg 1 0) (off10_eq c).2.1 (heq_of_eq (ext64 _)) ?_
  refine mv_load (.ya 0 1) 0 ?_
  refine mv_out (.yg 0 0) (off11_eq c).1 (heq_of_eq (ext256 _)) ?_
  refine mv_load (.xa 0 0) 0 ?_
  exact mv_out (.xg 0 0) ((off12_eq c).1.trans (by rw [← paRow_five]; rfl)) (heq_of_eq (ext256 _)) h

def S47 : Sg := (S46.got (.zg 1 1)).start (.zg 1 2)
/-- Part 47 of the printed body, followed by whatever runs from the state after it. -/
theorem part47 {Q : α → sProp (MT nD τ sig Unit (Elt F) ℕ UU ℕ)} {k : PUnit → Pg F α} (h : St A B K c S47 ⊢ wpc c (k ⟨⟩) Q) :
    St A B K c S46 ⊢ wpc c (call k0_part47_skel c w1 >>= k) Q := by
  unfold call k0_part47_skel
  simp only [Prog.lift, Prog.bind_op, Prog.bind_ret, Prog.pure_eq_ret, semSignalWord]
  refine mv_got (.zg 1 1) ?_
  exact mv_start (.zg 1 2) h

def S48 : Sg := (S47.got (.yg 0 1)).start (.xg 0 2)
/-- Part 48 of the printed body, followed by whatever runs from the state after it. -/
theorem part48 {Q : α → sProp (MT nD τ sig Unit (Elt F) ℕ UU ℕ)} {k : PUnit → Pg F α} (h : St A B K c S48 ⊢ wpc c (k ⟨⟩) Q) :
    St A B K c S47 ⊢ wpc c (call k0_part48_skel c w1 w2 >>= k) Q := by
  unfold call k0_part48_skel
  simp only [Prog.lift, Prog.bind_op, Prog.bind_ret, Prog.pure_eq_ret, semSignalWord]
  refine mv_got (.yg 0 1) ?_
  exact mv_start (.xg 0 2) h

def S49 : Sg := (S48.start (.yg 0 2)).got (.xg 0 1)
/-- Part 49 of the printed body, followed by whatever runs from the state after it. -/
theorem part49 {Q : α → sProp (MT nD τ sig Unit (Elt F) ℕ UU ℕ)} {k : (Σ' (_ : BitVec 32), BitVec 32) → Pg F α} (h : ∀ r, St A B K c S49 ⊢ wpc c (k r) Q) :
    St A B K c S48 ⊢ wpc c (call k0_part49_skel c w1 w2 w3 >>= k) Q := by
  unfold call k0_part49_skel
  simp only [Prog.lift, Prog.bind_op, Prog.bind_ret, Prog.pure_eq_ret, semSignalWord]
  refine mv_start (.yg 0 2) ?_
  exact mv_got (.xg 0 1) (h _)

def S50 : Sg := ((S49.setOut (.zg 1 1)).setOut (.yg 0 1)).setOut (.xg 0 1)
/-- Part 50 of the printed body, followed by whatever runs from the state after it. -/
theorem part50 {Q : α → sProp (MT nD τ sig Unit (Elt F) ℕ UU ℕ)} {k : PUnit → Pg F α} (h : St A B K c S50 ⊢ wpc c (k ⟨⟩) Q) :
    St A B K c S49 ⊢ wpc c (call k0_part50_skel c w1 w2 w3 w4 w5 w6 >>= k) Q := by
  unfold call k0_part50_skel
  simp only [Prog.lift, Prog.bind_op, Prog.bind_ret, Prog.pure_eq_ret, semSignalWord]
  refine mv_load (.za 1 2) 0 ?_
  refine mv_out (.zg 1 1) (off10_eq c).2.2.1 (heq_of_eq (ext64 _)) ?_
  refine mv_load (.ya 0 2) 0 ?_
  refine mv_out (.yg 0 1) (off11_eq c).2.1 (heq_of_eq (ext256 _)) ?_
  refine mv_load (.xa 0 1) 0 ?_
  exact mv_out (.xg 0 1) (off12_eq c).2.1 (heq_of_eq (ext256 _)) h

def S51 : Sg := (S50.got (.zg 1 2)).chunk 1 0
/-- Part 51 of the printed body, followed by whatever runs from the state after it. -/
theorem part51 {Q : α → sProp (MT nD τ sig Unit (Elt F) ℕ UU ℕ)} {k : (Σ' (_ : BitVec 32), BitVec 32) → Pg F α} (h : ∀ r, St A B K c S51 ⊢ wpc c (k r) Q) :
    St A B K c S50 ⊢ wpc c (call k0_part51_skel c w1 w2 >>= k) Q := by
  unfold call k0_part51_skel
  simp only [Prog.lift, Prog.bind_op, Prog.bind_ret, Prog.pure_eq_ret, semSignalWord]
  refine mv_got (.zg 1 2) ?_
  refine mv_load (.za 1 0) 0 ?_
  exact mv_chunk 1 0 1 (off13_eq c).1 (pay_copy _) (h _)

def S52 : Sg := (S51.chunk 1 1).chunk 1 2
/-- Part 52 of the printed body, followed by whatever runs from the state after it. -/
theorem part52 {Q : α → sProp (MT nD τ sig Unit (Elt F) ℕ UU ℕ)} {k : FVec F S1x1x64x1024 .bf16 → Pg F α}
    (h : St A B K c S52 ⊢ wpc c (k (k0_pay58 (rd A B c (.za 1 3) 0))) Q) :
    St A B K c S51 ⊢ wpc c (call k0_part52_skel c w1 w2 w3 >>= k) Q := by
  unfold call k0_part52_skel
  simp only [Prog.lift, Prog.bind_op, Prog.bind_ret, Prog.pure_eq_ret, semSignalWord]
  refine mv_load (.za 1 1) 0 ?_
  refine mv_chunk 1 1 4 (off13_eq c).2.1 (pay_copy _) ?_
  refine mv_load (.za 1 2) 0 ?_
  refine mv_chunk 1 2 3 (off13_eq c).2.2.1 (pay_copy _) ?_
  refine mv_load (.za 1 3) 0 ?_
  exact st_deadY _ 1 3 2 (off13_eq c).2.2.2 (by decide +kernel) fun _ => h

def S53 : Sg := ((S52.chunk 1 3).start (.yg 1 0)).start (.xg 1 0)
/-- Part 53 of the printed body, followed by whatever runs from the state after it. -/
theorem part53 {Q : α → sProp (MT nD τ sig Unit (Elt F) ℕ UU ℕ)} {k : PUnit → Pg F α} (h : St A B K c S53 ⊢ wpc c (k ⟨⟩) Q) :
    St A B K c S52 ⊢ wpc c (call k0_part53_skel c w1 w2 (k0_pay58 (rd A B c (.za 1 3) 0)) >>= k) Q := by
  unfold call k0_part53_skel
  simp only [Prog.lift, Prog.bind_op, Prog.bind_ret, Prog.pure_eq_ret, semSignalWord]
  refine st_storeY _ 1 3 2 (by decide) (by decide) (off13_eq c).2.2.2 (by decide +kernel) (pay_copy _) ?_
  refine mv_start (.yg 1 0) ?_
  exact mv_start (.xg 1 0) h

def S54 : Sg := (S53.got (.yg 0 2)).start (.xg 0 3)
/-- Part 54 of the printed body, followed by whatever runs from the state after it. -/
theorem part54 {Q : α → sProp (MT nD τ sig Unit (Elt F) ℕ UU ℕ)} {k : PUnit → Pg F α} (h : St A B K c S54 ⊢ wpc c (k ⟨⟩) Q) :
    St A B K c S53 ⊢ wpc c (call k0_part54_skel c w1 w2 >>= k) Q := by
  unfold call k0_part54_skel
  simp only [Prog.lift, Prog.bind_op, Prog.bind_ret, Prog.pure_eq_ret, semSignalWord]
  refine mv_got (.yg 0 2) ?_
  exact mv_start (.xg 0 3) h

def S55 : Sg := (S54.got (.xg 0 2)).setOut (.zg 1 2)
/-- Part 55 of the printed body, followed by whatever runs from the state after it. -/
theorem part55 {Q : α → sProp (MT nD τ sig Unit (Elt F) ℕ UU ℕ)} {k : (Σ' (_ : BitVec 32), FVec F S256x1024 .f32) → Pg F α}
    (h : ∀ r, St A B K c S55 ⊢ wpc c (k ⟨r, k0_pay60 (rd A B c (.ya 0 3) 0)⟩) Q) :
    St A B K c S54 ⊢ wpc c (call k0_part55_skel c w1 w2 w3 w4 w5 >>= k) Q := by
  unfold call k0_part55_skel
  simp only [Prog.lift, Prog.bind_op, Prog.bind_ret, Prog.pure_eq_ret, semSignalWord]
  refine mv_got (.xg 0 2) ?_
  refine mv_load (.za 1 3) 0 ?_
  refine mv_out (.zg 1 2) (off10_eq c).2.2.2 (heq_of_eq (ext64 _)) ?_
  exact mv_load (.ya 0 3) 0 (h _)

def S56 : Sg := ((S55.setOut (.yg 0 2)).setOut (.xg 0 2)).wsnd (.yg 1 0)
/-- Part 56 of the printed body, followed by whatever runs from the state after it. -/
theorem part56 {Q : α → sProp (MT nD τ sig Unit (Elt F) ℕ UU ℕ)} {k : PUnit → Pg F α} (h : St A B K c S56 ⊢ wpc c (k ⟨⟩) Q) :
    St A B K c S55 ⊢ wpc c (call k0_part56_skel c w1 w2 w3 w4 w5 (k0_pay60 (rd A B c (.ya 0 3) 0)) >>= k) Q := by
  unfold call k0_part56_skel
  simp only [Prog.lift, Prog.bind_op, Prog.bind_ret, Prog.pure_eq_ret, semSignalWord]
  refine mv_out (.yg 0 2) (off11_eq c).2.2 (heq_of_eq (ext256 _)) ?_
  refine mv_load (.xa 0 2) 0 ?_
  refine mv_out (.xg 0 2) (off12_eq c).2.2.1 (heq_of_eq (ext256 _)) ?_
  exact mv_snd (.yg 1 0) h

def S57 : Sg := ((S56.wrcv (.yg 1 0)).start (.xg 1 1)).start (.yg 1 1)
/-- Part 57 of the printed body, followed by whatever runs from the state after it. -/
theorem part57 {Q : α → sProp (MT nD τ sig Unit (Elt F) ℕ UU ℕ)} {k : PUnit → Pg F α} (h : St A B K c S57 ⊢ wpc c (k ⟨⟩) Q) :
    St A B K c S56 ⊢ wpc c (call k0_part57_skel c w1 w2 >>= k) Q := by
  unfold call k0_part57_skel
  simp only [Prog.lift, Prog.bind_op, Prog.bind_ret, Prog.pure_eq_ret, semSignalWord]
  refine mv_rcv (.yg 1 0) ?_
  refine mv_start (.xg 1 1) ?_
  exact mv_start (.yg 1 1) h

def S58 : Sg := (S57.got (.xg 0 3)).wsnd (.xg 1 0)
/-- Part 58 of the printed body, followed by whatever runs from the state after it. -/
theorem part58 {Q : α → sProp (MT nD τ sig Unit (Elt F) ℕ UU ℕ)} {k : PUnit → Pg F α} (h : St A B K c S58 ⊢ wpc c (k ⟨⟩) Q) :
    St A B K c S57 ⊢ wpc c (call k0_part58_skel w1 >>= k) Q := by
  unfold call k0_part58_skel
  simp only [Prog.lift, Prog.bind_op, Prog.bind_ret, Prog.pure_eq_ret, semSignalWord]
  refine mv_got (.xg 0 3) ?_
  exact mv_snd (.xg 1 0) h

def S59 : Sg := (((S58.wrcv (.xg 1 0)).setOut (.yg 1 0)).setOut (.xg 0 3)).setOut (.xg 1 0)
/-- Part 59 of the printed body, followed by whatever runs from the state after it. -/
theorem part59 {Q : α → sProp (MT nD τ sig Unit (Elt F) ℕ UU ℕ)} {k : PUnit → Pg F α} (h : St A B K c S59 ⊢ wpc c (k ⟨⟩) Q) :
    St A B K c S58 ⊢ wpc c (call k0_part59_skel c w1 w2 w3 w4 >>= k) Q := by
  unfold call k0_part59_skel
  simp only [Prog.lift, Prog.bind_op, Prog.bind_ret, Prog.pure_eq_ret, semSignalWord]
  refine mv_rcv (.xg 1 0) ?_
  refine mv_load (.ya 1 1) 0 ?_
  refine mv_out (.yg 1 0) (off14_eq c).1 (heq_of_eq (ext256 _)) ?_
  refine mv_load (.xa 0 3) 0 ?_
  refine mv_out (.xg 0 3) (off12_eq c).2.2.2 (heq_of_eq (ext256 _)) ?_
  refine mv_load (.xa 1 0) 0 ?_
  exact mv_out (.xg 1 0) ((off15_eq c).1.trans (by rw [← paRow_five]; rfl)) (heq_of_eq (ext256 _)) h

def S60 : Sg := (S59.got (.yg 1 1)).start (.xg 1 2)
/-- Part 60 of the printed body, followed by whatever runs from the state after it. -/
theorem part60 {Q : α → sProp (MT nD τ sig Unit (Elt F) ℕ UU ℕ)} {k : PUnit → Pg F α} (h : St A B K c S60 ⊢ wpc c (k ⟨⟩) Q) :
    St A B K c S59 ⊢ wpc c (call k0_part60_skel c w1 w2 >>= k) Q := by
  unfold call k0_part60_skel
  simp only [Prog.lift, Prog.bind_op, Prog.bind_ret, Prog.pure_eq_ret, semSignalWord]
  refine mv_got (.yg 1 1) ?_
  exact mv_start (.xg 1 2) h

def S61 : Sg := (S60.start (.yg 1 2)).wsnd (.xg 1 1)
/-- Part 61 of the printed body, followed by whatever runs from the state after it. -/
theorem part61 {Q : α → sProp (MT nD τ sig Unit (Elt F) ℕ UU ℕ)} {k : PUnit → Pg F α} (h : St A B K c S61 ⊢ wpc c (k ⟨⟩) Q) :
    St A B K c S60 ⊢ wpc c (call k0_part61_skel c w1 w2 >>= k) Q := by
  unfold call k0_part61_skel
  simp only [Prog.lift, Prog.bind_op, Prog.bind_ret, Prog.pure_eq_ret, semSignalWord]
  refine mv_start (.yg 1 2) ?_
  exact mv_snd (.xg 1 1) h

def S62 : Sg := (((S61.wrcv (.xg 1 1)).setOut (.yg 1 1)).setOut (.xg 1 1)).wsnd (.yg 1 2)
/-- Part 62 of the printed body, followed by whatever runs from the state after it. -/
theorem part62 {Q : α → sProp (MT nD τ sig Unit (Elt F) ℕ UU ℕ)} {k : PUnit → Pg F α} (h : St A B K c S62 ⊢ wpc c (k ⟨⟩) Q) :
    St A B K c S61 ⊢ wpc c (call k0_part62_skel c w1 w2 w3 >>= k) Q := by
  unfold call k0_part62_skel
  simp only [Prog.lift, Prog.bind_op, Prog.bind_ret, Prog.pure_eq_ret, semSignalWord]
  refine mv_rcv (.xg 1 1) ?_
  refine mv_load (.ya 1 2) 0 ?_
  refine mv_out (.yg 1 1) (off14_eq c).2.1 (heq_of_eq (ext256 _)) ?_
  refine mv_load (.xa 1 1) 0 ?_
  refine mv_out (.xg 1 1) (off15_eq c).2.1 (heq_of_eq (ext256 _)) ?_
  exact mv_snd (.yg 1 2) h

def S63 : Sg := ((S62.wrcv (.yg 1 2)).setOut (.yg 1 2)).start (.xg 1 3)
/-- Part 63 of the printed body, followed by whatever runs from the state after it. -/
theorem part63 {Q : α → sProp (MT nD τ sig Unit (Elt F) ℕ UU ℕ)} {k : PUnit → Pg F α} (h : St A B K c S63 ⊢ wpc c (k ⟨⟩) Q) :
    St A B K c S62 ⊢ wpc c (call k0_part63_skel c w1 w2 w3 w4 >>= k) Q := by
  unfold call k0_part63_skel
  simp only [Prog.lift, Prog.bind_op, Prog.bind_ret, Prog.pure_eq_ret, semSignalWord]
  refine mv_rcv (.yg 1 2) ?_
  refine mv_load (.ya 1 3) 0 ?_
  refine mv_out (.yg 1 2) (off14_eq c).2.2 (heq_of_eq (ext256 _)) ?_
  exact mv_start (.xg 1 3) h

def S64' : Sg := (S63.got (.xg 1 2)).setOut (.xg 1 2)
/-- Part 64 of the printed body, followed by whatever runs from the state after it. -/
theorem part64 {Q : α → sProp (MT nD τ sig Unit (Elt F) ℕ UU ℕ)} {k : PUnit → Pg F α} (h : St A B K c S64' ⊢ wpc c (k ⟨⟩) Q) :
    St A B K c S63 ⊢ wpc c (call k0_part64_skel c w1 w2 w3 >>= k) Q := by
  unfold call k0_part64_skel
  simp only [Prog.lift, Prog.bind_op, Prog.bind_ret, Prog.pure_eq_ret, semSignalWord]
  refine mv_got (.xg 1 2) ?_
  refine mv_load (.xa 1 2) 0 ?_
  exact mv_out (.xg 1 2) (off15_eq c).2.2.1 (heq_of_eq (ext256 _)) h

def S65 : Sg := ((S64'.got (.xg 1 3)).setOut (.xg 1 3)).exit1
/-- Part 65 of the printed body, followed by whatever runs from the state after it. -/
theorem part65 {Q : α → sProp (MT nD τ sig Unit (Elt F) ℕ UU ℕ)} {k : BitVec 32 → Pg F α} (h : ∀ r, St A B K c S65 ⊢ wpc c (k r) Q) :
    St A B K c S64' ⊢ wpc c (call k0_part65_skel c w1 w2 w3 >>= k) Q := by
  unfold call k0_part65_skel
  simp only [Prog.lift, Prog.bind_op, Prog.bind_ret, Prog.pure_eq_ret, semSignalWord]
  refine mv_got (.xg 1 3) ?_
  refine mv_load (.xa 1 3) 0 ?_
  refine mv_out (.xg 1 3) (off15_eq c).2.2.2 (heq_of_eq (ext256 _)) ?_
  exact mv_exit 0 (h _)

/-! ## The ends -/

/-- The entry barrier. -/
theorem part3 {Q : α → sProp (MT nD τ sig Unit (Elt F) ℕ UU ℕ)} {k : (Σ' (v76 : BitVec 32) (v77 : BitVec 32) (v79 : BitVec 32) (v81 : BitVec 32), BitVec 32) → Pg F α} {w7 w8 w9 w10 : BitVec 32}
    (h : ∀ r, St A B K c S0 ⊢ wpc c (k r) Q) :
    Ent A B K c 0 ⊢ wpc c (call k0_part3_skel c w1 w2 w3 w4 w5 w6 w7 w8 w9 w10 >>= k) Q := by
  unfold call k0_part3_skel
  simp only [Prog.lift, Prog.bind_op, Prog.bind_ret, Prog.pure_eq_ret, semSignalWord, semWaitWord]
  refine mv_entry (n2 := 1) 0 ?_
  refine mv_entry (n2 := 2) 1 ?_
  refine mv_entry (n2 := 3) 2 ?_
  refine mv_entry (n2 := 4) 3 ?_
  refine mv_entry (n2 := 5) 4 ?_
  exact st_entryWait (h _)

end Parts

end Cert.MeshProof

end
-- ==== Proof.Body.lean ====
/-
The body as one: its parts in order, between the entry barrier and the exit barrier.
-/
module

public import proofs.«01_k».proof.Proof.Parts2
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable {A : Dev nD → Vec F S2048x1024 .f32} {B : Dev nD → Vec F S1024x2048 .f32} {K : Dev nD × Cl → ℕ} {c : Dev nD}
variable {α : Type}

/-- The body's first part reads the device's number; only words come of it. -/
theorem part1 {Q : α → sProp (MT nD τ sig Unit (Elt F) ℕ UU ℕ)} {P : sProp (MT nD τ sig Unit (Elt F) ℕ UU ℕ)}
    {k : (Σ' (d0 : Dev nD) (v19 : BitVec 32) (v20 : BitVec 32) (v37 : BitVec 32) (v38 : BitVec 32), BitVec 1) → Pg F α}
    (h : ∀ r, P ⊢ wpc c (k ⟨c, r⟩) Q) :
    P ⊢ wpc c (call k0_part1_skel >>= k) Q := by
  unfold call k0_part1_skel
  simp only [Prog.lift, Prog.bind_op, Prog.bind_ret, Prog.pure_eq_ret, wp_deviceId]
  exact h _

/-- The second computes words only. -/
theorem part2 {Q : α → sProp (MT nD τ sig Unit (Elt F) ℕ UU ℕ)} {P : sProp (MT nD τ sig Unit (Elt F) ℕ UU ℕ)} {w1 w2 w3 w4 : BitVec 32} {w5 : BitVec 1}
    {k : (Σ' (v42 : BitVec 32) (v48 : BitVec 32) (v58 : BitVec 32) (v68 : BitVec 32) (v72 : BitVec 32) (v73 : BitVec 32), BitVec 32) → Pg F α}
    (h : ∀ r, P ⊢ wpc c (k r) Q) :
    P ⊢ wpc c (call k0_part2_skel w1 w2 w3 w4 w5 >>= k) Q := by
  unfold call k0_part2_skel
  simp only [Prog.pure_eq_ret, Prog.bind_ret]
  exact h _

/-- The first sixty parts, in order. -/
theorem part66 {Q : α → sProp (MT nD τ sig Unit (Elt F) ℕ UU ℕ)}
    {k : (Σ' (d0 : Dev nD) (v37 : BitVec 32) (v48 : BitVec 32) (v58 : BitVec 32) (v68 : BitVec 32) (v72 : BitVec 32) (v76 : BitVec 32) (v77 : BitVec 32), BitVec 32) → Pg F α}
    (h : ∀ r, St A B K c S60 ⊢ wpc c (k ⟨c, r⟩) Q) :
    Ent A B K c 0 ⊢ wpc c (call k0_part66_skel >>= k) Q := by
  unfold call k0_part66_skel
  simp only [Prog.bind_assoc, Prog.pure_eq_ret, Prog.bind_ret, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  refine part1 ?_
  rintro ⟨_, _, _, _, _⟩
  refine part2 ?_
  rintro ⟨_, _, _, _, _, _, _⟩
  refine part3 ?_
  rintro ⟨_, _, _, _, _⟩
  refine part4 ?_
  refine part5 ?_
  refine part6 ?_
  refine part7 ?_
  rintro ⟨_, _⟩
  refine part8 ?_
  refine part9 ?_
  refine part10 ?_
  refine part11 fun _ => ?_
  refine part12 ?_
  refine part13 ?_
  refine part14 ?_
  refine part15 ?_
  refine part16 ?_
  refine part17 ?_
  refine part18 ?_
  refine part19 ?_
  refine part20 ?_
  rintro ⟨_, _⟩
  refine part21 ?_
  refine part22 ?_
  refine part23 ?_
  refine part24 ?_
  rintro ⟨_, _⟩
  refine part25 ?_
  refine part26 ?_
  refine part27 ?_
  refine part28 ?_
  refine part29 ?_
  refine part30 ?_
  refine part31 ?_
  refine part32 ?_
  refine part33 fun _ => ?_
  refine part34 ?_
  refine part35 ?_
  refine part36 fun _ => ?_
  refine part37 fun _ => ?_
  refine part38 ?_
  refine part39 ?_
  refine part40 ?_
  refine part41 fun _ => ?_
  refine part42 ?_
  refine part43 ?_
  refine part44 ?_
  refine part45 fun _ => ?_
  refine part46 ?_
  refine part47 ?_
  refine part48 ?_
  refine part49 ?_
  rintro ⟨_, _⟩
  refine part50 ?_
  refine part51 ?_
  rintro ⟨_, _⟩
  refine part52 ?_
  refine part53 ?_
  refine part54 ?_
  refine part55 fun _ => ?_
  refine part56 ?_
  refine part57 ?_
  refine part58 ?_
  refine part59 ?_
  refine part60 ?_
  exact h _

/-- The state when all copies are done and all signals sent. -/
def SEnd : Sg := (((S65.exit1).exit1).exit1).exit1

/-- The body: from what a device holds at launch to what it holds at the end. -/
theorem body_run {Q : PUnit → sProp (MT nD τ sig Unit (Elt F) ℕ UU ℕ)} (h : Done A B K c SEnd ⊢ Q ⟨⟩) :
    Ent A B K c 0 ⊢ wpc c (call cc0_body) Q := by
  rw [cc0_body_eq_skeleton]
  unfold call cc0_body_skel
  simp only [Prog.bind_assoc, Prog.pure_eq_ret, semSignalWord, semWaitWord, Prog.lift, k0_part66_eq_skeleton, k0_part61_eq_skeleton, k0_part62_eq_skeleton, k0_part63_eq_skeleton, k0_part64_eq_skeleton, k0_part65_eq_skeleton]
  refine part66 ?_
  rintro ⟨_, _, _, _, _, _, _, _⟩
  refine part61 ?_
  refine part62 ?_
  refine part63 ?_
  refine part64 ?_
  refine part65 fun _ => ?_
  simp only [Prog.bind_op, Prog.bind_ret]
  refine mv_exit 1 ?_
  refine mv_exit 2 ?_
  refine mv_exit 3 ?_
  refine mv_exit 4 ?_
  refine st_exitWait _ (by decide +kernel) ?_
  rw [show wpc c (Prog.ret PUnit.unit) Q = iprop(|={Set.univ}=> Q ⟨⟩) from wp_ret ..]
  iintro H
  imodintro
  iapply h
  iexact H

/-- At the end every copy is over, -/
theorem SEnd_ch (k : Ch) : SEnd.ch k = .done := by revert k; decide +kernel
/-- every slot holds its value, -/
theorem SEnd_sl (s : Sl) : SEnd.sl s = .val 0 true true ∨ SEnd.sl s = .val 1 true true ∨ SEnd.sl s = .val 2 true true := by revert s; decide +kernel
/-- every row block is whole, -/
theorem SEnd_q (p : Fin 2) : SEnd.q p = true := by revert p; decide +kernel
/-- and every piece of the result is written. -/
theorem SEnd_out (g : Rg) : SEnd.out g = true := by
  cases g with
  | fin p => revert p; decide +kernel
  | zg p t => revert p t; decide +kernel
  | yg p t => revert p t; decide +kernel
  | xg p t => revert p t; decide +kernel

end Body

end Cert.MeshProof

end
-- ==== Proof.Slots.lean ====
/-
A device's scratch buffers cut into their slots, and made whole again.
-/
module

public import proofs.«01_k».proof.Proof.Body
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its slots -/

section Cut
variable {T : Type} [Fintype T] [DecidableEq T] {ℓ : Loc nD τ sig} (I : T → Finset (Idx ℓ)) (own : Idx ℓ → T)

/-- Parts told apart by an owner function are disjoint. -/
theorem cut_disjoint (h : ∀ t i, i ∈ I t ↔ own i = t) : ∀ t ∈ (Finset.univ : Finset T), ∀ t' ∈ (Finset.univ : Finset T), t ≠ t' → Disjoint (I t) (I t') := by
  intro t _ t' _ hne
  exact Finset.disjoint_left.mpr fun i hi hi' => hne (((h t i).mp hi).symm.trans ((h t' i).mp hi'))

/-- And together they are everything. -/
theorem cut_univ (h : ∀ t i, i ∈ I t ↔ own i = t) : (Finset.univ : Finset T).biUnion I = Finset.univ := by
  ext i
  simp only [Finset.mem_biUnion, Finset.mem_univ, true_and, iff_true]
  exact ⟨own i, (h _ i).mpr rfl⟩

/-- A whole buffer is its slots, each holding anything, -/
theorem cut (h : ∀ t i, i ∈ I t ↔ own i = t) :
    iprop(∃ f : Buf (Elt F) ℓ, ℓ ↦{fullShare} f) ⊢ (bigSep Finset.univ fun t => iprop(∃ f : Buf (Elt F) ℓ, ℓ ↦[I t]{fullShare} f) : sProp 𝕄) := by
  iintro ⟨%f, H⟩
  ihave H := (Entails.of_eq (show ((ℓ ↦{fullShare} f : sProp 𝕄)) = bigSep Finset.univ fun t => ℓ ↦[I t]{fullShare} f by
    rw [← pointsTo_biUnion Finset.univ I (cut_disjoint I own h), cut_univ I own h])) $$ H
  have hm : (bigSep Finset.univ fun t => ℓ ↦[I t]{fullShare} f : sProp 𝕄) ⊢ bigSep Finset.univ fun t => iprop(∃ f : Buf (Elt F) ℓ, ℓ ↦[I t]{fullShare} f) :=
    bigSep_mono fun t _ => show (ℓ ↦[I t]{fullShare} f : sProp 𝕄) ⊢ iprop(∃ f : Buf (Elt F) ℓ, ℓ ↦[I t]{fullShare} f) from by
      iintro H; iexists f; iexact H
  ihave H := hm $$ H
  iexact H

/-- and the slots make it whole again. -/
theorem glue [Nonempty (Buf (Elt F) ℓ)] (h : ∀ t i, i ∈ I t ↔ own i = t) :
    (bigSep Finset.univ fun t => iprop(∃ f : Buf (Elt F) ℓ, ℓ ↦[I t]{fullShare} f) : sProp 𝕄) ⊢ iprop(∃ f : Buf (Elt F) ℓ, ℓ ↦{fullShare} f) := by
  iintro H
  ihave H := (BI.bigSep_exists_pi Finset.univ (fun (t : T) (f : Buf (Elt F) ℓ) => (ℓ ↦[I t]{fullShare} f : sProp 𝕄))) $$ H
  icases H with ⟨%fs, H⟩
  ihave H := (pointsTo_biUnion_join Finset.univ I fs (Classical.arbitrary _) (cut_disjoint I own h)) $$ H
  icases H with ⟨%g, %hg, H⟩
  rw [cut_univ I own h]
  iexists g; iexact H

end Cut

/-! ## Which slot an element is in -/

abbrev P2 : Type := Fin 2
abbrev P3 : Type := Fin 2 × Fin 3
abbrev P4 : Type := Fin 2 × Fin 4

/-- Which block of a `[2, 4, 256, 1024]` buffer an index lies in. -/
theorem memA4 (t : P4) (i : S2x4x256x1024.Idx) :
    i ∈ (Rect.unit (s := S2x4x256x1024) ![t.1.val, t.2.val, 0, 0] S1x1x256x1024.size (inb_a4 t.1 t.2)).set ↔ ((i 0, i 1) : P4) = t := by
  rw [Rect.mem_set_unit]
  constructor
  · intro h
    have h0 : t.1.val ≤ (i 0).val ∧ (i 0).val < t.1.val + 1 := h 0
    have h1 : t.2.val ≤ (i 1).val ∧ (i 1).val < t.2.val + 1 := h 1
    exact Prod.ext (Fin.ext (by show (i 0).val = _; omega)) (Fin.ext (by show (i 1).val = _; omega))
  · rintro rfl a
    match a with
    | 0 => exact ⟨le_refl _, Nat.lt_succ_self _⟩
    | 1 => exact ⟨le_refl _, Nat.lt_succ_self _⟩
    | 2 => exact ⟨Nat.zero_le _, (show (i 2).val < 0 + 256 from (Nat.zero_add 256).symm ▸ (i 2).isLt)⟩
    | 3 => exact ⟨Nat.zero_le _, (show (i 3).val < 0 + 1024 from (Nat.zero_add 1024).symm ▸ (i 3).isLt)⟩
/-- Which block of a `[2, 3, 256, 1024]` buffer an index lies in. -/
theorem memA3 (t : P3) (i : S2x3x256x1024.Idx) :
    i ∈ (Rect.unit (s := S2x3x256x1024) ![t.1.val, t.2.val, 0, 0] S1x1x256x1024.size (inb_a3 t.1 t.2)).set ↔ ((i 0, i 1) : P3) = t := by
  rw [Rect.mem_set_unit]
  constructor
  · intro h
    have h0 : t.1.val ≤ (i 0).val ∧ (i 0).val < t.1.val + 1 := h 0
    have h1 : t.2.val ≤ (i 1).val ∧ (i 1).val < t.2.val + 1 := h 1
    exact Prod.ext (Fin.ext (by show (i 0).val = _; omega)) (Fin.ext (by show (i 1).val = _; omega))
  · rintro rfl a
    match a with
    | 0 => exact ⟨le_refl _, Nat.lt_succ_self _⟩
    | 1 => exact ⟨le_refl _, Nat.lt_succ_self _⟩
    | 2 => exact ⟨Nat.zero_le _, (show (i 2).val < 0 + 256 from (Nat.zero_add 256).symm ▸ (i 2).isLt)⟩
    | 3 => exact ⟨Nat.zero_le _, (show (i 3).val < 0 + 1024 from (Nat.zero_add 1024).symm ▸ (i 3).isLt)⟩
/-- Which block of a `[2, 4, 64, 1024]` buffer an index lies in. -/
theorem memB4 (t : P4) (i : S2x4x64x1024.Idx) :
    i ∈ (Rect.unit (s := S2x4x64x1024) ![t.1.val, t.2.val, 0, 0] S1x1x64x1024.size (inb_b4 t.1 t.2)).set ↔ ((i 0, i 1) : P4) = t := by
  rw [Rect.mem_set_unit]
  constructor
  · intro h
    have h0 : t.1.val ≤ (i 0).val ∧ (i 0).val < t.1.val + 1 := h 0
    have h1 : t.2.val ≤ (i 1).val ∧ (i 1).val < t.2.val + 1 := h 1
    exact Prod.ext (Fin.ext (by show (i 0).val = _; omega)) (Fin.ext (by show (i 1).val = _; omega))
  · rintro rfl a
    match a with
    | 0 => exact ⟨le_refl _, Nat.lt_succ_self _⟩
    | 1 => exact ⟨le_refl _, Nat.lt_succ_self _⟩
    | 2 => exact ⟨Nat.zero_le _, (show (i 2).val < 0 + 64 from (Nat.zero_add 64).symm ▸ (i 2).isLt)⟩
    | 3 => exact ⟨Nat.zero_le _, (show (i 3).val < 0 + 1024 from (Nat.zero_add 1024).symm ▸ (i 3).isLt)⟩
/-- Which block of a `[2, 3, 64, 1024]` buffer an index lies in. -/
theorem memB3 (t : P3) (i : S2x3x64x1024.Idx) :
    i ∈ (Rect.unit (s := S2x3x64x1024) ![t.1.val, t.2.val, 0, 0] S1x1x64x1024.size (inb_b3 t.1 t.2)).set ↔ ((i 0, i 1) : P3) = t := by
  rw [Rect.mem_set_unit]
  constructor
  · intro h
    have h0 : t.1.val ≤ (i 0).val ∧ (i 0).val < t.1.val + 1 := h 0
    have h1 : t.2.val ≤ (i 1).val ∧ (i 1).val < t.2.val + 1 := h 1
    exact Prod.ext (Fin.ext (by show (i 0).val = _; omega)) (Fin.ext (by show (i 1).val = _; omega))
  · rintro rfl a
    match a with
    | 0 => exact ⟨le_refl _, Nat.lt_succ_self _⟩
    | 1 => exact ⟨le_refl _, Nat.lt_succ_self _⟩
    | 2 => exact ⟨Nat.zero_le _, (show (i 2).val < 0 + 64 from (Nat.zero_add 64).symm ▸ (i 2).isLt)⟩
    | 3 => exact ⟨Nat.zero_le _, (show (i 3).val < 0 + 1024 from (Nat.zero_add 1024).symm ▸ (i 3).isLt)⟩
/-- Which block of a `[2, 256, 1024]` buffer an index lies in. -/
theorem memA (t : P2) (i : S2x256x1024.Idx) :
    i ∈ (Rect.unit (s := S2x256x1024) ![t.val, 0, 0] S1x256x1024.size (inb_a t)).set ↔ (i 0 : P2) = t := by
  rw [Rect.mem_set_unit]
  constructor
  · intro h
    have h0 : t.val ≤ (i 0).val ∧ (i 0).val < t.val + 1 := h 0
    exact Fin.ext (by show (i 0).val = _; omega)
  · rintro rfl a
    match a with
    | 0 => exact ⟨le_refl _, Nat.lt_succ_self _⟩
    | 1 => exact ⟨Nat.zero_le _, (show (i 1).val < 0 + 256 from (Nat.zero_add 256).symm ▸ (i 1).isLt)⟩
    | 2 => exact ⟨Nat.zero_le _, (show (i 2).val < 0 + 1024 from (Nat.zero_add 1024).symm ▸ (i 2).isLt)⟩
/-- Which block of a `[2, 64, 1024]` buffer an index lies in. -/
theorem memB (t : P2) (i : S2x64x1024.Idx) :
    i ∈ (Rect.unit (s := S2x64x1024) ![t.val, 0, 0] S1x64x1024.size (inb_b t)).set ↔ (i 0 : P2) = t := by
  rw [Rect.mem_set_unit]
  constructor
  · intro h
    have h0 : t.val ≤ (i 0).val ∧ (i 0).val < t.val + 1 := h 0
    exact Fin.ext (by show (i 0).val = _; omega)
  · rintro rfl a
    match a with
    | 0 => exact ⟨le_refl _, Nat.lt_succ_self _⟩
    | 1 => exact ⟨Nat.zero_le _, (show (i 1).val < 0 + 64 from (Nat.zero_add 64).symm ▸ (i 1).isLt)⟩
    | 2 => exact ⟨Nat.zero_le _, (show (i 2).val < 0 + 1024 from (Nat.zero_add 1024).symm ▸ (i 2).isLt)⟩

/-- The elements of a slot of a whole buffer: the rectangle it is cut with. -/
theorem set_whole_slice {b : Ref sig .tc} {s' : Shape} (r : Rect b.ty.shape) (hr : ∀ a, r.stride a = 1) (hq : r.shape.Squeezes s') :
    (((Memref.whole b).slice r hr).squeeze s' hq).view.set = r.set :=
  (Memref.set_view_squeeze _ hq).trans (View.set_slice_whole b r)

/-! ## All slots at once -/

/-- The slots, buffer by buffer. -/
def slEquiv : Sl ≃ (P4 ⊕ P4 ⊕ P2 ⊕ P3 ⊕ P2 ⊕ P3 ⊕ P4 ⊕ P4 ⊕ P4) where
  toFun
    | .xs p j => .inl (p, j)
    | .xr p j => .inr (.inl (p, j))
    | .ys p => .inr (.inr (.inl p))
    | .yr p j => .inr (.inr (.inr (.inl (p, j))))
    | .zs p => .inr (.inr (.inr (.inr (.inl p))))
    | .zr p j => .inr (.inr (.inr (.inr (.inr (.inl (p, j))))))
    | .za p j => .inr (.inr (.inr (.inr (.inr (.inr (.inl (p, j)))))))
    | .ya p j => .inr (.inr (.inr (.inr (.inr (.inr (.inr (.inl (p, j))))))))
    | .xa p j => .inr (.inr (.inr (.inr (.inr (.inr (.inr (.inr (p, j))))))))
  invFun
    | .inl t => .xs t.1 t.2
    | .inr (.inl t) => .xr t.1 t.2
    | .inr (.inr (.inl t)) => .ys t
    | .inr (.inr (.inr (.inl t))) => .yr t.1 t.2
    | .inr (.inr (.inr (.inr (.inl t)))) => .zs t
    | .inr (.inr (.inr (.inr (.inr (.inl t))))) => .zr t.1 t.2
    | .inr (.inr (.inr (.inr (.inr (.inr (.inl t)))))) => .za t.1 t.2
    | .inr (.inr (.inr (.inr (.inr (.inr (.inr (.inl t))))))) => .ya t.1 t.2
    | .inr (.inr (.inr (.inr (.inr (.inr (.inr (.inr t))))))) => .xa t.1 t.2
  left_inv s := by cases s <;> rfl
  right_inv s := by rcases s with s | s | s | s | s | s | s | s | s <;> rfl

/-- A family over the slots, buffer by buffer. -/
theorem bigSep_Sl (Φ : Sl → sProp 𝕄) : bigSep Finset.univ Φ = iprop(
    (bigSep Finset.univ fun t : P4 => Φ (.xs t.1 t.2)) ∗ (bigSep Finset.univ fun t : P4 => Φ (.xr t.1 t.2))
    ∗ (bigSep Finset.univ fun t : P2 => Φ (.ys t)) ∗ (bigSep Finset.univ fun t : P3 => Φ (.yr t.1 t.2))
    ∗ (bigSep Finset.univ fun t : P2 => Φ (.zs t)) ∗ (bigSep Finset.univ fun t : P3 => Φ (.zr t.1 t.2))
    ∗ (bigSep Finset.univ fun t : P4 => Φ (.za t.1 t.2)) ∗ (bigSep Finset.univ fun t : P4 => Φ (.ya t.1 t.2))
    ∗ (bigSep Finset.univ fun t : P4 => Φ (.xa t.1 t.2))) := by
  rw [bigSep_univ_equiv slEquiv.symm Φ]
  rw [BI.bigSep_univ_sum, BI.bigSep_univ_sum, BI.bigSep_univ_sum, BI.bigSep_univ_sum, BI.bigSep_univ_sum, BI.bigSep_univ_sum, BI.bigSep_univ_sum, BI.bigSep_univ_sum]
  rfl

/-- A scratch buffer of device `c`, whole, holding anything. -/
abbrev anyBuf (c : Dev nD) (b : Ref sig .tc) : sProp (MT nD τ sig Unit (Elt F) ℕ UU ℕ) :=
  iprop(∃ f : Buf (Elt F) ((c : Thread nD τ).loc b), ((c : Thread nD τ).loc b) ↦{fullShare} f)

/-- The nine slot buffers. -/
abbrev slotBufs (c : Dev nD) : sProp (MT nD τ sig Unit (Elt F) ℕ UU ℕ) :=
  iprop(anyBuf (F := F) c cc0_scratch0 ∗ anyBuf (F := F) c cc0_scratch1 ∗ anyBuf (F := F) c cc0_scratch2 ∗ anyBuf (F := F) c cc0_scratch3
    ∗ anyBuf (F := F) c cc0_scratch5 ∗ anyBuf (F := F) c cc0_scratch6 ∗ anyBuf (F := F) c cc0_scratch7 ∗ anyBuf (F := F) c cc0_scratch8
    ∗ anyBuf (F := F) c cc0_scratch9)

section Nine
variable (c : Dev nD)

/-- An index lies in a slot sent across the pair exactly when its leading coordinates are the slot's. -/
theorem in_xs (t : P4) (i : S2x4x256x1024.Idx) : i ∈ (slM (.xs t.1 t.2)).view.set ↔ ((i 0, i 1) : P4) = t := by
  rw [show (slM (.xs t.1 t.2)).view.set = _ from set_whole_slice (b := cc0_scratch0) _ (fun _ => rfl) squeezes_S1x1x256x1024_S256x1024]; exact memA4 t i
/-- An index lies in a slot received across the pair exactly when its leading coordinates are the slot's. -/
theorem in_xr (t : P4) (i : S2x4x256x1024.Idx) : i ∈ (slM (.xr t.1 t.2)).view.set ↔ ((i 0, i 1) : P4) = t := by
  rw [show (slM (.xr t.1 t.2)).view.set = _ from set_whole_slice (b := cc0_scratch1) _ (fun _ => rfl) squeezes_S1x1x256x1024_S256x1024]; exact memA4 t i
/-- An index lies in a row ring's send slot exactly when its leading coordinates are the slot's. -/
theorem in_ys (t : P2) (i : S2x256x1024.Idx) : i ∈ (slM (.ys t)).view.set ↔ (i 0 : P2) = t := by
  rw [show (slM (.ys t)).view.set = _ from set_whole_slice (b := cc0_scratch2) _ (fun _ => rfl) squeezes_S1x256x1024_S256x1024]; exact memA t i
/-- An index lies in a row ring's receive slot exactly when its leading coordinates are the slot's. -/
theorem in_yr (t : P3) (i : S2x3x256x1024.Idx) : i ∈ (slM (.yr t.1 t.2)).view.set ↔ ((i 0, i 1) : P3) = t := by
  rw [show (slM (.yr t.1 t.2)).view.set = _ from set_whole_slice (b := cc0_scratch3) _ (fun _ => rfl) squeezes_S1x1x256x1024_S256x1024]; exact memA3 t i
/-- An index lies in a plane ring's send slot exactly when its leading coordinates are the slot's. -/
theorem in_zs (t : P2) (i : S2x64x1024.Idx) : i ∈ (slM (.zs t)).view.set ↔ (i 0 : P2) = t := by
  rw [show (slM (.zs t)).view.set = _ from set_whole_slice (b := cc0_scratch5) _ (fun _ => rfl) squeezes_S1x64x1024_S64x1024]; exact memB t i
/-- An index lies in a plane ring's receive slot exactly when its leading coordinates are the slot's. -/
theorem in_zr (t : P3) (i : S2x3x64x1024.Idx) : i ∈ (slM (.zr t.1 t.2)).view.set ↔ ((i 0, i 1) : P3) = t := by
  rw [show (slM (.zr t.1 t.2)).view.set = _ from set_whole_slice (b := cc0_scratch6) _ (fun _ => rfl) squeezes_S1x1x64x1024_S64x1024]; exact memB3 t i
/-- An index lies in a slot of the plane ring's gather exactly when its leading coordinates are the slot's. -/
theorem in_za (t : P4) (i : S2x4x64x1024.Idx) : i ∈ (slM (.za t.1 t.2)).view.set ↔ ((i 0, i 1) : P4) = t := by
  rw [show (slM (.za t.1 t.2)).view.set = _ from set_whole_slice (b := cc0_scratch7) _ (fun _ => rfl) squeezes_S1x1x64x1024_S64x1024]; exact memB4 t i
/-- An index lies in a slot of the row ring's gather exactly when its leading coordinates are the slot's. -/
theorem in_ya (t : P4) (i : S2x4x256x1024.Idx) : i ∈ (slM (.ya t.1 t.2)).view.set ↔ ((i 0, i 1) : P4) = t := by
  rw [show (slM (.ya t.1 t.2)).view.set = _ from set_whole_slice (b := cc0_scratch8) _ (fun _ => rfl) squeezes_S1x1x256x1024_S256x1024]; exact memA4 t i
/-- An index lies in a slot of the gather across the pair exactly when its leading coordinates are the slot's. -/
theorem in_xa (t : P4) (i : S2x4x256x1024.Idx) : i ∈ (slM (.xa t.1 t.2)).view.set ↔ ((i 0, i 1) : P4) = t := by
  rw [show (slM (.xa t.1 t.2)).view.set = _ from set_whole_slice (b := cc0_scratch9) _ (fun _ => rfl) squeezes_S1x1x256x1024_S256x1024]; exact memA4 t i

/-- The buffer of blocks sent across the pair, cut into its slots. -/
theorem cut_xs : anyBuf (F := F) c cc0_scratch0 ⊢ bigSep Finset.univ fun t : P4 => junk (F := F) c (.xs t.1 t.2) :=
  cut (F := F) (ℓ := (c : Thread nD τ).loc cc0_scratch0) (fun t : P4 => (slM (.xs t.1 t.2)).view.set) (fun i : S2x4x256x1024.Idx => (i 0, i 1)) in_xs
/-- And put together again. -/
theorem glue_xs : (bigSep Finset.univ fun t : P4 => junk (F := F) c (.xs t.1 t.2)) ⊢ anyBuf (F := F) c cc0_scratch0 :=
  glue (F := F) (ℓ := (c : Thread nD τ).loc cc0_scratch0) (fun t : P4 => (slM (.xs t.1 t.2)).view.set) (fun i : S2x4x256x1024.Idx => (i 0, i 1)) in_xs
/-- The buffer of blocks received across the pair, cut into its slots. -/
theorem cut_xr : anyBuf (F := F) c cc0_scratch1 ⊢ bigSep Finset.univ fun t : P4 => junk (F := F) c (.xr t.1 t.2) :=
  cut (F := F) (ℓ := (c : Thread nD τ).loc cc0_scratch1) (fun t : P4 => (slM (.xr t.1 t.2)).view.set) (fun i : S2x4x256x1024.Idx => (i 0, i 1)) in_xr
/-- And put together again. -/
theorem glue_xr : (bigSep Finset.univ fun t : P4 => junk (F := F) c (.xr t.1 t.2)) ⊢ anyBuf (F := F) c cc0_scratch1 :=
  glue (F := F) (ℓ := (c : Thread nD τ).loc cc0_scratch1) (fun t : P4 => (slM (.xr t.1 t.2)).view.set) (fun i : S2x4x256x1024.Idx => (i 0, i 1)) in_xr
/-- The buffer of the row ring's sends, cut into its slots. -/
theorem cut_ys : anyBuf (F := F) c cc0_scratch2 ⊢ bigSep Finset.univ fun t : P2 => junk (F := F) c (.ys t) :=
  cut (F := F) (ℓ := (c : Thread nD τ).loc cc0_scratch2) (fun t : P2 => (slM (.ys t)).view.set) (fun i : S2x256x1024.Idx => i 0) in_ys
/-- And put together again. -/
theorem glue_ys : (bigSep Finset.univ fun t : P2 => junk (F := F) c (.ys t)) ⊢ anyBuf (F := F) c cc0_scratch2 :=
  glue (F := F) (ℓ := (c : Thread nD τ).loc cc0_scratch2) (fun t : P2 => (slM (.ys t)).view.set) (fun i : S2x256x1024.Idx => i 0) in_ys
/-- The buffer of the row ring's receipts, cut into its slots. -/
theorem cut_yr : anyBuf (F := F) c cc0_scratch3 ⊢ bigSep Finset.univ fun t : P3 => junk (F := F) c (.yr t.1 t.2) :=
  cut (F := F) (ℓ := (c : Thread nD τ).loc cc0_scratch3) (fun t : P3 => (slM (.yr t.1 t.2)).view.set) (fun i : S2x3x256x1024.Idx => (i 0, i 1)) in_yr
/-- And put together again. -/
theorem glue_yr : (bigSep Finset.univ fun t : P3 => junk (F := F) c (.yr t.1 t.2)) ⊢ anyBuf (F := F) c cc0_scratch3 :=
  glue (F := F) (ℓ := (c : Thread nD τ).loc cc0_scratch3) (fun t : P3 => (slM (.yr t.1 t.2)).view.set) (fun i : S2x3x256x1024.Idx => (i 0, i 1)) in_yr
/-- The buffer of the plane ring's sends, cut into its slots. -/
theorem cut_zs : anyBuf (F := F) c cc0_scratch5 ⊢ bigSep Finset.univ fun t : P2 => junk (F := F) c (.zs t) :=
  cut (F := F) (ℓ := (c : Thread nD τ).loc cc0_scratch5) (fun t : P2 => (slM (.zs t)).view.set) (fun i : S2x64x1024.Idx => i 0) in_zs
/-- And put together again. -/
theorem glue_zs : (bigSep Finset.univ fun t : P2 => junk (F := F) c (.zs t)) ⊢ anyBuf (F := F) c cc0_scratch5 :=
  glue (F := F) (ℓ := (c : Thread nD τ).loc cc0_scratch5) (fun t : P2 => (slM (.zs t)).view.set) (fun i : S2x64x1024.Idx => i 0) in_zs
/-- The buffer of the plane ring's receipts, cut into its slots. -/
theorem cut_zr : anyBuf (F := F) c cc0_scratch6 ⊢ bigSep Finset.univ fun t : P3 => junk (F := F) c (.zr t.1 t.2) :=
  cut (F := F) (ℓ := (c : Thread nD τ).loc cc0_scratch6) (fun t : P3 => (slM (.zr t.1 t.2)).view.set) (fun i : S2x3x64x1024.Idx => (i 0, i 1)) in_zr
/-- And put together again. -/
theorem glue_zr : (bigSep Finset.univ fun t : P3 => junk (F := F) c (.zr t.1 t.2)) ⊢ anyBuf (F := F) c cc0_scratch6 :=
  glue (F := F) (ℓ := (c : Thread nD τ).loc cc0_scratch6) (fun t : P3 => (slM (.zr t.1 t.2)).view.set) (fun i : S2x3x64x1024.Idx => (i 0, i 1)) in_zr
/-- The buffer of the plane ring's gather, cut into its slots. -/
theorem cut_za : anyBuf (F := F) c cc0_scratch7 ⊢ bigSep Finset.univ fun t : P4 => junk (F := F) c (.za t.1 t.2) :=
  cut (F := F) (ℓ := (c : Thread nD τ).loc cc0_scratch7) (fun t : P4 => (slM (.za t.1 t.2)).view.set) (fun i : S2x4x64x1024.Idx => (i 0, i 1)) in_za
/-- And put together again. -/
theorem glue_za : (bigSep Finset.univ fun t : P4 => junk (F := F) c (.za t.1 t.2)) ⊢ anyBuf (F := F) c cc0_scratch7 :=
  glue (F := F) (ℓ := (c : Thread nD τ).loc cc0_scratch7) (fun t : P4 => (slM (.za t.1 t.2)).view.set) (fun i : S2x4x64x1024.Idx => (i 0, i 1)) in_za
/-- The buffer of the row ring's gather, cut into its slots. -/
theorem cut_ya : anyBuf (F := F) c cc0_scratch8 ⊢ bigSep Finset.univ fun t : P4 => junk (F := F) c (.ya t.1 t.2) :=
  cut (F := F) (ℓ := (c : Thread nD τ).loc cc0_scratch8) (fun t : P4 => (slM (.ya t.1 t.2)).view.set) (fun i : S2x4x256x1024.Idx => (i 0, i 1)) in_ya
/-- And put together again. -/
theorem glue_ya : (bigSep Finset.univ fun t : P4 => junk (F := F) c (.ya t.1 t.2)) ⊢ anyBuf (F := F) c cc0_scratch8 :=
  glue (F := F) (ℓ := (c : Thread nD τ).loc cc0_scratch8) (fun t : P4 => (slM (.ya t.1 t.2)).view.set) (fun i : S2x4x256x1024.Idx => (i 0, i 1)) in_ya
/-- The buffer of the gather across the pair, cut into its slots. -/
theorem cut_xa : anyBuf (F := F) c cc0_scratch9 ⊢ bigSep Finset.univ fun t : P4 => junk (F := F) c (.xa t.1 t.2) :=
  cut (F := F) (ℓ := (c : Thread nD τ).loc cc0_scratch9) (fun t : P4 => (slM (.xa t.1 t.2)).view.set) (fun i : S2x4x256x1024.Idx => (i 0, i 1)) in_xa
/-- And put together again. -/
theorem glue_xa : (bigSep Finset.univ fun t : P4 => junk (F := F) c (.xa t.1 t.2)) ⊢ anyBuf (F := F) c cc0_scratch9 :=
  glue (F := F) (ℓ := (c : Thread nD τ).loc cc0_scratch9) (fun t : P4 => (slM (.xa t.1 t.2)).view.set) (fun i : S2x4x256x1024.Idx => (i 0, i 1)) in_xa

/-- The nine buffers are all the slots, -/
theorem slots_cut : slotBufs (F := F) c ⊢ bigSep Finset.univ fun s => junk (F := F) c s :=
  BI.Entails.trans (BI.sep_mono (cut_xs c) (BI.sep_mono (cut_xr c) (BI.sep_mono (cut_ys c) (BI.sep_mono (cut_yr c) (BI.sep_mono (cut_zs c) (BI.sep_mono (cut_zr c) (BI.sep_mono (cut_za c) (BI.sep_mono (cut_ya c) (cut_xa c))))))))) (Entails.of_eq (bigSep_Sl fun s => junk (F := F) c s).symm)

/-- and all the slots are the nine buffers. -/
theorem slots_glue : (bigSep Finset.univ fun s => junk (F := F) c s) ⊢ slotBufs (F := F) c :=
  BI.Entails.trans (Entails.of_eq (bigSep_Sl fun s => junk (F := F) c s)) (BI.sep_mono (glue_xs c) (BI.sep_mono (glue_xr c) (BI.sep_mono (glue_ys c) (BI.sep_mono (glue_yr c) (BI.sep_mono (glue_zs c) (BI.sep_mono (glue_zr c) (BI.sep_mono (glue_za c) (BI.sep_mono (glue_ya c) (glue_xa c)))))))))

end Nine

/-! ## The slots at the start -/

/-- The destination of every copy is marked as a destination slot. -/
theorem dst_isDst (k : Ch) : isDst (dst k) = true := by revert k; decide +kernel
/-- Each destination slot is written by one copy only. -/
theorem dst_inj : Function.Injective dst := by
  have h : ∀ a b : Ch, dst a = dst b → a = b := by decide +kernel
  exact fun a b => h a b
/-- The destination slots are those that copies write. -/
theorem isDst_dst : (Finset.univ.filter fun s : Sl => isDst s = true) = Finset.univ.image dst := by decide +kernel

/-- Each destination slot is handed over with one signal only. -/
theorem giv_disjoint : ∀ i ∈ (Finset.univ : Finset (Fin 5)), ∀ i' ∈ (Finset.univ : Finset (Fin 5)), i ≠ i' →
    Disjoint (Finset.univ.filter fun k : Ch => giv k = i) (Finset.univ.filter fun k : Ch => giv k = i') := by
  intro i _ i' _ hne
  exact Finset.disjoint_left.mpr fun k hk hk' => hne ((Finset.mem_filter.mp hk).2.symm.trans (Finset.mem_filter.mp hk').2)

/-- At the start a device holds its own slots, and gives the destination slots of others' copies to their senders. -/
theorem slots_deal (A : Dev nD → Vec F S2048x1024 .f32) (B : Dev nD → Vec F S1024x2048 .f32) (c : Dev nD) :
    (bigSep Finset.univ fun s => junk (F := F) c s)
      ⊢ iprop((bigSep Finset.univ fun i : Fin 5 => barPay (F := F) (nb i c) i) ∗ bigSep Finset.univ fun s => slA A B c s (S0.sl s)) := by
  have h1 : (bigSep Finset.univ fun i : Fin 5 => barPay (F := F) (nb i c) i) = bigSep (Finset.univ.filter fun s : Sl => isDst s = true) fun s => junk (F := F) c s := by
    rw [isDst_dst, bigSep_image_of_injOn dst_inj.injOn, show (Finset.univ : Finset Ch) = (Finset.univ : Finset (Fin 5)).biUnion fun i => Finset.univ.filter fun k : Ch => giv k = i by decide +kernel,
      BI.bigSep_biUnion_eq (I := Ch) (J := Fin 5) Finset.univ (fun i => Finset.univ.filter fun k : Ch => giv k = i) (fun k => junk (F := F) c (dst k)) giv_disjoint]
    exact bigSep_congr fun i _ => bigSep_congr fun k hk => by
      obtain rfl : giv k = i := (Finset.mem_filter.mp hk).2
      rw [tgt_giv]
  have h2 : (bigSep Finset.univ fun s => slA A B c s (S0.sl s)) = bigSep (Finset.univ.filter fun s : Sl => ¬ isDst s = true) fun s => junk (F := F) c s := by
    rw [BI.bigSep_filter_split Finset.univ (fun s : Sl => isDst s = true),
      bigSep_congr (s := Finset.univ.filter fun s : Sl => isDst s = true) (Ψ := fun _ => (BI.emp : sProp 𝕄)) (fun s hs => by
        rw [show S0.sl s = .gone from if_pos (Finset.mem_filter.mp hs).2]; rfl),
      bigSep_emp_const, bigSep_congr (s := Finset.univ.filter fun s : Sl => ¬ isDst s = true) (Ψ := fun s => junk (F := F) c s) (fun s hs => by
        rw [show S0.sl s = .junk from if_neg (Finset.mem_filter.mp hs).2]; rfl)]
    exact equiv_iff.mp BI.emp_sep
  rw [h1, h2]
  exact Entails.of_eq (BI.bigSep_filter_split Finset.univ (fun s : Sl => isDst s = true))

end Cert.MeshProof

end
-- ==== Proof.Deal.lean ====
/-
The launch: every semaphore's protocol, its tokens and credits, dealt to the devices.
-/
module

public import proofs.«01_k».proof.Proof.Slots
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores, and the tokens of their duties -/

/-- The semaphores scoped to the kernel, as the launch lists them: the exit barrier's, and each copy's two. -/
abbrev OK : Type := Unit ⊕ (Ch ⊕ Ch)
abbrev ocl : OK → Cl | .inl _ => .bar2 | .inr (.inl k) => .snd k | .inr (.inr k) => .rcv k
abbrev osem (j : OK) : SemLoc sig := csem (ocl j)

/-- They are scoped, distinct, and none is a staging semaphore. -/
theorem ownSemFacts : Pipeline.OwnSemFacts cfg0.spec osem := by decide +kernel

/-- Different devices or names are different semaphores. -/
theorem kcell_injective : Function.Injective (kcell : Dev nD × Cl → GSem nD τ sig) := by
  rintro ⟨c, j⟩ ⟨c', j'⟩ h
  have h1 : c = c' := congrArg (fun g : GSem nD τ sig => g.1.1) h
  have h2 : j = j' := csem_inj (congrArg Prod.snd h)
  rw [h1, h2]

def meshCells : Finset (GSem nD τ sig) := Finset.univ.map ⟨kcell, kcell_injective⟩

/-- The semaphores, kind by kind. -/
def clEquiv : Cl ≃ (Unit ⊕ (Unit ⊕ (Ch ⊕ Ch))) where
  toFun | .bar => .inl () | .bar2 => .inr (.inl ()) | .snd k => .inr (.inr (.inl k)) | .rcv k => .inr (.inr (.inr k))
  invFun | .inl _ => .bar | .inr (.inl _) => .bar2 | .inr (.inr (.inl k)) => .snd k | .inr (.inr (.inr k)) => .rcv k
  left_inv j := by cases j <;> rfl
  right_inv j := by rcases j with _ | _ | _ | _ <;> rfl

/-- A family over one device's semaphores, kind by kind. -/
theorem bigSep_Cl (Φ : Cl → sProp 𝕄) : bigSep Finset.univ Φ = iprop(Φ .bar ∗ Φ .bar2
    ∗ (bigSep Finset.univ fun k : Ch => Φ (.snd k)) ∗ (bigSep Finset.univ fun k : Ch => Φ (.rcv k))) := by
  rw [bigSep_univ_equiv clEquiv.symm Φ, BI.bigSep_univ_sum, BI.bigSep_univ_sum, BI.bigSep_univ_sum, show (Finset.univ : Finset Unit) = {()} from rfl, bigSep_singleton, bigSep_singleton]
  rfl

/-- The duties of one device's semaphores: five of each barrier, one of each copy's two. -/
abbrev TokIx : Type := Fin 5 ⊕ (Fin 5 ⊕ (Ch ⊕ Ch))
abbrev tokCl : TokIx → Cl | .inl _ => .bar | .inr (.inl _) => .bar2 | .inr (.inr (.inl k)) => .snd k | .inr (.inr (.inr k)) => .rcv k
abbrev tokD : TokIx → Fin 5 | .inl i => i | .inr (.inl i) => i | .inr (.inr (.inl _)) => 0 | .inr (.inr (.inr _)) => 0
abbrev tokOf (ct : Dev nD × TokIx) : GSem nD τ sig × ℕ × Fin 5 := (kcell (ct.1, tokCl ct.2), 0, tokD ct.2)

/-- The tokens of a device are told apart by their name and number. -/
theorem tokIx_inj : ∀ t t' : TokIx, tokCl t = tokCl t' → tokD t = tokD t' → t = t' := by decide +kernel

/-- So are the tokens of the mesh. -/
theorem tokOf_injective : Function.Injective (tokOf : Dev nD × TokIx → GSem nD τ sig × ℕ × Fin 5) := by
  rintro ⟨c, t⟩ ⟨c', t'⟩ h
  have h1 := kcell_injective (congrArg Prod.fst h)
  have h2 : t = t' := tokIx_inj t t' (congrArg Prod.snd h1) (congrArg (fun x : GSem nD τ sig × ℕ × Fin 5 => x.2.2) h)
  rw [h2, show c = c' from congrArg Prod.fst h1]
def meshToks : Finset (GSem nD τ sig × ℕ × Fin 5) := Finset.univ.map ⟨tokOf, tokOf_injective⟩

/-- What the ghost state starts from. -/
def u₀ : UU := (initOf (Pipeline.cells cfgs cellOf_inj) (Pipeline.launchToks cfgs cellOf_inj), initOf meshCells meshToks)

/-- The tokens of device `c`'s own semaphores' duties. -/
def toks (c : Dev nD) : sProp (MT nD τ sig Unit (Elt F) ℕ UU ℕ) :=
  iprop((bigSep Finset.univ fun i : Fin 5 => dutyTok ER (kcell (c, .bar)) 0 i) ∗ (bigSep Finset.univ fun i : Fin 5 => dutyTok ER (kcell (c, .bar2)) 0 i)
    ∗ (bigSep Finset.univ fun k : Ch => dutyTok ER (kcell (c, .snd k)) 0 (0 : Fin 5)) ∗ bigSep Finset.univ fun k : Ch => dutyTok ER (kcell (c, .rcv k)) 0 (0 : Fin 5))

/-- The tokens of the duties device `c` itself pays. -/
def payToks (c : Dev nD) : sProp (MT nD τ sig Unit (Elt F) ℕ UU ℕ) :=
  iprop((bigSep Finset.univ fun i : Fin 5 => dutyTok ER (kcell (nb i c, .bar)) 0 i) ∗ (bigSep Finset.univ fun i : Fin 5 => dutyTok ER (kcell (nb i c, .bar2)) 0 i)
    ∗ (bigSep Finset.univ fun k : Ch => dutyTok ER (kcell (c, .snd k)) 0 (0 : Fin 5)) ∗ bigSep Finset.univ fun k : Ch => dutyTok ER (kcell (tgt k c, .rcv k)) 0 (0 : Fin 5))

/-- A device's tokens, by the names they belong to. -/
theorem toks_eq (c : Dev nD) : (bigSep Finset.univ fun t : TokIx => (dutyTok ER (kcell (c, tokCl t)) 0 (tokD t) : sProp 𝕄)) = toks (F := F) c := by
  rw [BI.bigSep_univ_sum, BI.bigSep_univ_sum, BI.bigSep_univ_sum]
  rfl

/-- Dealing by neighbour: what each device has for each of its indices, handed to the device that neighbour is. -/
theorem around {I : Type} [Fintype I] [DecidableEq I] (e : I → Fin 5) (Φ : Dev nD → I → sProp 𝕄) :
    (bigSep Finset.univ fun c => bigSep Finset.univ fun i => Φ c i) = bigSep Finset.univ fun c => bigSep Finset.univ fun i => Φ (nb (e i) c) i := by
  rw [bigSep_univ_comm, bigSep_univ_comm (fun c i => Φ (nb (e i) c) i)]
  exact bigSep_congr fun i _ => bigSep_univ_equiv (nbPerm (e i)) fun c => Φ c i

/-- All tokens, dealt by the semaphore they belong to or by the device that pays them: the same tokens. -/
theorem toks_around : (bigSep Finset.univ fun c : Dev nD => toks (F := F) c) = bigSep Finset.univ fun c : Dev nD => payToks (F := F) c := by
  unfold toks payToks
  rw [bigSep_sep', bigSep_sep', bigSep_sep', bigSep_sep', bigSep_sep', bigSep_sep',
    around (fun i : Fin 5 => i) (fun c i => dutyTok ER (kcell (c, .bar)) 0 i), around (fun i : Fin 5 => i) (fun c i => dutyTok ER (kcell (c, .bar2)) 0 i),
    around dir (fun c k => dutyTok ER (kcell (c, .rcv k)) 0 (0 : Fin 5))]

section Deal
variable (A : Dev nD → Vec F S2048x1024 .f32) (B : Dev nD → Vec F S1024x2048 .f32)

/-- What each device is dealt first: its semaphores' round states, its positions in them and their tokens. -/
def G (c : Dev nD) : sProp (MT nD τ sig Unit (Elt F) ℕ UU ℕ) :=
  iprop((bigSep Finset.univ fun j : Cl => roundState ER (Rd A B) (kcell (c, j)) 0)
    ∗ (bigSep Finset.univ fun j : Cl => iprop(atPos (ER (F := F)) (kcell (c, j)) 0 ∅ 0 ∗ reached ER (kcell (c, j)) 0)) ∗ toks (F := F) c)

/-- What a device keeps to itself: its positions, and the tokens of the duties it pays. -/
def linear (c : Dev nD) : sProp (MT nD τ sig Unit (Elt F) ℕ UU ℕ) :=
  iprop((bigSep Finset.univ fun j : Cl => atPos (ER (F := F)) (kcell (c, j)) 0 ∅ 0) ∗ payToks (F := F) c)

/-- What each device starts with, the semaphores' invariants being made. -/
def G' (c : Dev nD) : sProp (MT nD τ sig Unit (Elt F) ℕ UU ℕ) := iprop(∃ K, recs A B K ∗ linear (F := F) c)

/-- The protocol's starting resources, dealt to the devices. -/
theorem fund_mesh : BI.own (ER (initOf meshCells meshToks)) ⊢ (|==> bigSep Finset.univ (G A B) : sProp 𝕄) := by
  have hX (Φ : GSem nD τ sig → sProp 𝕄) : bigSep meshCells Φ = bigSep Finset.univ fun c : Dev nD => bigSep Finset.univ fun j : Cl => Φ (kcell (c, j)) := by
    unfold meshCells; rw [bigSep_map, bigSep_univ_prod]; rfl
  have hT : bigSep meshToks (fun x => (dutyTok ER x.1 x.2.1 x.2.2 : sProp 𝕄)) = bigSep Finset.univ fun c : Dev nD => toks (F := F) c := by
    unfold meshToks; rw [bigSep_map, bigSep_univ_prod]
    exact bigSep_congr fun c _ => toks_eq c
  iintro HX
  imod (Rounds.fund ER (Rd A B) meshCells meshToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The scoped semaphores at zero, kind by kind, -/
theorem ownSems0_eq (c : Dev nD) : (Pipeline.ownSems0 (Ix := Unit) (Name := ℕ) (U := UU) (Lvl := ℕ) (Val := Elt F) (τ := τ) osem c : sProp 𝕄)
    = iprop(semVal (kcell (c, .bar2)) 0 ∗ (bigSep Finset.univ fun k : Ch => semVal (kcell (c, .snd k)) 0) ∗ bigSep Finset.univ fun k : Ch => semVal (kcell (c, .rcv k)) 0) := by
  unfold Pipeline.ownSems0
  rw [BI.bigSep_univ_sum, BI.bigSep_univ_sum, show (Finset.univ : Finset Unit) = {()} from rfl, bigSep_singleton]
  rfl
/-- and the entry barrier's, the one semaphore that is not scoped. -/
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

/-- A device's semaphores at zero, by their names. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Cl => semVal (kcell (c, j)) 0 : sProp 𝕄) := by
  rw [ownSems0_eq, unscopedSems0_eq, bigSep_Cl]
  iintro ⟨⟨H2, HS, HV⟩, HB⟩
  isplitl [HB]; · iexact HB
  isplitl [H2]; · iexact H2
  isplitl [HS] <;> iassumption

/-- One device makes its semaphores' invariants. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun j : Cl => iprop(∃ κ : ℕ, cellInv ER (Rd A B) κ (kcell (c, j))))
          ∗ (bigSep Finset.univ fun j : Cl => iprop(atPos (ER (F := F)) (kcell (c, j)) 0 ∅ 0 ∗ reached ER (kcell (c, j)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun j : Cl => semVal (kcell (c, j)) 0) ∗ bigSep Finset.univ fun j : Cl => roundState ER (Rd A B) (kcell (c, j)) 0)
      ⊢ (|={Set.univ}=> bigSep Finset.univ fun j : Cl => iprop(∃ κ : ℕ, cellInv ER (Rd A B) κ (kcell (c, j))) : sProp 𝕄) from by
        rw [← bigSep_sep']
        exact (bigSep_mono fun j _ => (Rounds.body_intro ER (Rd A B) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- A persistent fact is available to every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's share, with the records that all devices know. -/
theorem deal_intro (K : Dev nD × Cl → ℕ) (c : Dev nD) : iprop(recs A B K ∗ linear (F := F) c) ⊢ G' A B c := by
  unfold G'
  iintro H; iexists K; iexact H

/-- The dealt tokens and positions, put together for each device. -/
theorem regroup :
    (bigSep Finset.univ fun c : Dev nD => iprop((bigSep Finset.univ fun j : Cl => iprop(∃ κ : ℕ, cellInv ER (Rd A B) κ (kcell (c, j))))
          ∗ (bigSep Finset.univ fun j : Cl => iprop(atPos (ER (F := F)) (kcell (c, j)) 0 ∅ 0 ∗ reached ER (kcell (c, j)) 0)) ∗ toks (F := F) c) : sProp 𝕄)
      ⊢ bigSep Finset.univ (G' A B) := by
  rw [bigSep_sep', bigSep_sep', ← bigSep_univ_prod (fun ck : Dev nD × Cl => iprop(∃ κ : ℕ, cellInv ER (Rd A B) κ (kcell ck))),
    bigSep_congr (s := Finset.univ) (fun (c : Dev nD) _ => bigSep_sep' Finset.univ (fun j : Cl => (atPos ER (kcell (c, j)) 0 ∅ 0 : sProp 𝕄)) (fun j => reached ER (kcell (c, j)) 0)),
    bigSep_sep', ← bigSep_univ_prod (fun ck : Dev nD × Cl => (reached ER (kcell ck) 0 : sProp 𝕄)), toks_around]
  iintro ⟨HI, ⟨Hat, #HR⟩, Htok⟩
  ihave HK := (BI.bigSep_exists_pi Finset.univ (fun (ck : Dev nD × Cl) (κ : ℕ) => (cellInv ER (Rd A B) κ (kcell ck) : sProp 𝕄))) $$ HI
  icases HK with ⟨%K, #HI⟩
  iapply (bigSep_with_persistent (R := recs A B K) fun c _ => deal_intro A B K c)
  isplitr
  · unfold recs; isplitl; · iexact HI
    iexact HR
  · unfold linear
    rw [bigSep_sep']
    isplitl [Hat]; · iexact Hat
    iexact Htok

/-- All devices' semaphores become invariants at once, and the tokens go to the devices that pay with them. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end Deal

/-! ## What the devices owe each other at the start -/

abbrev O₀ (c : Dev nD) : CellTallies nD τ sig Unit := tally c todo

abbrev duDir : Du → Fin 5
  | .bar i => i | .rcv k => dir k | .bar2 i => i
/-- The device that a duty is paid to is the neighbour in its direction. -/
theorem duTgt_eq (d : Dev nD) (x : Du) : duTgt d x = nb (duDir x) d := by cases x <;> rfl

/-- Every device is paid by exactly one device per listed payment to a semaphore. -/
theorem tally_sum (c : Dev nD) (j : Cl) (l : List Du) :
    ∑ d : Dev nD, tally d l (kcell (c, j)) () = l.countP (fun x => decide (duCl x = j)) * amtC (some j) := by
  induction l with
  | nil => simp [tally]
  | cons x l ih =>
    have hx : ∑ d : Dev nD, tallyAt (kcell (duTgt d x, duCl x)) () (amtC (some (duCl x))) (kcell (c, j)) () = if duCl x = j then amtC (some j) else 0 := by
      have h1 (d : Dev nD) : tallyAt (kcell (duTgt d x, duCl x)) () (amtC (some (duCl x))) (kcell (c, j)) () = if c = nbPerm (duDir x) d then (if duCl x = j then amtC (some j) else 0) else 0 := by
        rw [tallyAt_apply]
        by_cases h : kcell (c, j) = kcell (duTgt d x, duCl x)
        · have h' := kcell_injective h
          rw [if_pos ⟨h, rfl⟩, if_pos (show c = nbPerm (duDir x) d from (congrArg Prod.fst h').trans (duTgt_eq d x)), if_pos (congrArg Prod.snd h').symm, show duCl x = j from (congrArg Prod.snd h').symm]
        · rw [if_neg fun h' => h h'.1]
          by_cases hc : c = nbPerm (duDir x) d
          · rw [if_pos hc, if_neg]
            intro hj
            exact h (by rw [hc, ← hj, duTgt_eq]; rfl)
          · rw [if_neg hc]
      rw [Finset.sum_congr rfl fun d _ => h1 d, Equiv.sum_comp (nbPerm (duDir x)) fun e => if c = e then (if duCl x = j then amtC (some j) else 0) else 0,
        Finset.sum_ite_eq Finset.univ c, if_pos (Finset.mem_univ _)]
    rw [show (fun d : Dev nD => tally d (x :: l) (kcell (c, j)) ()) = fun d => tally d l (kcell (c, j)) () + tallyAt (kcell (duTgt d x, duCl x)) () (amtC (some (duCl x))) (kcell (c, j)) () from rfl,
      Finset.sum_add_distrib, ih, hx, List.countP_cons]
    by_cases h : duCl x = j
    · rw [if_pos h, if_pos (decide_eq_true h), Nat.add_mul, Nat.one_mul]
    · rw [if_neg h, if_neg (by simpa using h), Nat.add_zero, Nat.add_zero]

abbrev crAmt : Cl → ℕ
  | .bar => 5 | .bar2 => 5 | .snd _ => 0 | .rcv k => amt k

/-- What is owed to a semaphore is the credit that its owner is given. -/
theorem crAmt_eq (j : Cl) : todo.countP (fun x => decide (duCl x = j)) * amtC (some j) = crAmt j := by
  have h : ∀ j : Cl, todo.countP (fun x => decide (duCl x = j)) = match j with | .bar => 5 | .bar2 => 5 | .snd _ => 0 | .rcv _ => 1 := by decide +kernel
  rw [h]
  cases j <;> simp

/-- The credit of one semaphore at the start. -/
theorem launch_cell (c : Dev nD) (j : Cl) :
    tallyOn (kcell (c, j)) (launchCredit (Pipeline.owing O₀) 0 (kcell (c, j))) = (tallyAt (kcell (c, j)) () (crAmt j) : CellTallies nD τ sig Unit) := by
  unfold tallyAt; refine congrArg _ (Finsupp.ext fun u => ?_); cases u
  rw [Pipeline.launchCredit_owing, Finsupp.single_eq_same, tally_sum, crAmt_eq]

/-- The credits a device starts with. -/
def credS (c : Dev nD) : sProp (MT nD τ sig Unit (Elt F) ℕ UU ℕ) :=
  iprop(cred (tallyAt (kcell (c, .bar)) () 5) ∗ cred (tallyAt (kcell (c, .bar2)) () 5) ∗ bigSep Finset.univ fun k : Ch => cred (tallyAt (kcell (c, .rcv k)) () (amt k)))

/-- The credit that a device is given at the start, semaphore by semaphore. -/
theorem creds (c : Dev nD) : (Pipeline.launchCred O₀ c : sProp 𝕄) ⊢ credS (F := F) c := by
  unfold Pipeline.launchCred credS
  refine (bigSep_subset (Finset.subset_univ (Finset.univ.image csem))).trans ?_
  rw [bigSep_image_of_injOn csem_inj.injOn, bigSep_congr (fun (j : Cl) _ => congrArg cred (launch_cell c j)), bigSep_Cl]
  show iprop(cred (tallyAt (kcell (c, .bar)) () 5) ∗ cred (tallyAt (kcell (c, .bar2)) () 5)
      ∗ (bigSep Finset.univ fun k : Ch => cred (tallyAt (kcell (c, .snd k)) () 0)) ∗ bigSep Finset.univ fun k : Ch => cred (tallyAt (kcell (c, .rcv k)) () (amt k)))
    ⊢ (iprop(cred (tallyAt (kcell (c, .bar)) () 5) ∗ cred (tallyAt (kcell (c, .bar2)) () 5) ∗ bigSep Finset.univ fun k : Ch => cred (tallyAt (kcell (c, .rcv k)) () (amt k))) : sProp 𝕄)
  iintro ⟨H1, H2, -, H3⟩
  isplitl [H1]; · iexact H1
  isplitl [H2]; · iexact H2
  iexact H3

end Cert.MeshProof

end
-- ==== Proof.Launch.lean ====
/-
The kernel's run: the body between what the launch deals it and what it leaves, and the run of all the devices.
-/
module

public import proofs.«01_k».proof.Proof.Deal
public import proofs.«01_k».proof.Proof.Gen.KernelIdeal.Points
public import Idealize.ShloMosaic.Lib.Pipeline.Value
public import Idealize.ShloMosaic.Lib.VecWindow
public import Idealize.ShloMosaic.Lib.Pipeline.CollectiveSegs

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- A device's block of the left and of the right matrix, as the kernel finds it staged. -/
def inA (c : Dev nD) : Vec F S2048x1024 .f32 := (win0_0.blk t0_0).view.read (Elt F) (m ((c : Thread nD τ).loc main_arg0))
def inB (c : Dev nD) : Vec F S1024x2048 .f32 := (win0_1.blk t0_0).view.read (Elt F) (m ((c : Thread nD τ).loc main_arg1))

/-- What a device's body starts from, apart from the staged blocks and the scratch buffers. -/
def start (c : Dev nD) : sProp (MT nD τ sig Unit (Elt F) ℕ UU ℕ) :=
  iprop(G' (inA m) (inB m) c ∗ credS (F := F) c ∗ levAts L lv)

/-- Before the body, and after it: the scratch buffers hold anything, and after it every semaphore is back at zero. -/
def Φ₀ (c : Dev nD) : sProp (MT nD τ sig Unit (Elt F) ℕ UU ℕ) := iprop(start m c ∗ Pipeline.scopedRest cfg0.spec c)
def Φ₁ (c : Dev nD) : sProp (MT nD τ sig Unit (Elt F) ℕ UU ℕ) :=
  iprop(unscopedSems0 c ∗ Pipeline.ownSems0 osem c ∗ Pipeline.scopedRest cfg0.spec c)

/-- What the run is proved against: the inputs stay, the result is `outV`, all is paid. -/
def dats (_ : Fin 1) (c : Dev nD) : Dat τ (Elt F) Unit ℕ UU ℕ cfg0 c where
  A w := m ((cfg0.win w).arr.view.loc (c : Thread nD τ))
  after w _ := match w with
    | ⟨0, _⟩ => inA m c
    | ⟨1, _⟩ => inB m c
    | ⟨2, _⟩ => outV (inA m) (inB m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- Every window is held whole. -/
theorem share_eq (c : Dev nD) (w : Fin cfg0.W) : (dats m 0 c).share w = fullShare := by unfold Dat.share; split <;> rfl

/-- Owning a whole buffer at given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's start and its end -/

section Body
variable (A : Dev nD → Vec F S2048x1024 .f32) (B : Dev nD → Vec F S1024x2048 .f32) (K : Dev nD × Cl → ℕ) (c : Dev nD)

/-- The pieces each copy starts from, family by family. -/
theorem chE_intro :
    iprop((bigSep Finset.univ fun k : Ch => dutyTok ER (kcell (c, .snd k)) 0 (0 : Fin 5)) ∗ (bigSep Finset.univ fun k : Ch => dutyTok ER (kcell (tgt k c, .rcv k)) 0 (0 : Fin 5))
      ∗ (bigSep Finset.univ fun k : Ch => atPos (ER (F := F)) (kcell (c, .snd k)) 0 ∅ 0) ∗ (bigSep Finset.univ fun k : Ch => atPos (ER (F := F)) (kcell (c, .rcv k)) 0 ∅ 0)
      ∗ bigSep Finset.univ fun k : Ch => cred (tallyAt (kcell (c, .rcv k)) () (amt k))) ⊢ bigSep Finset.univ fun k => chE (F := F) c k := by
  unfold chE
  rw [bigSep_sep', bigSep_sep', bigSep_sep', bigSep_sep']

abbrev scrRest : sProp (MT nD τ sig Unit (Elt F) ℕ UU ℕ) := Pipeline.scopedRest cfg0.spec c

/-- The scratch buffers: the slots, and the buffer of row blocks. -/
theorem scr_cut : scrRest (F := F) c ⊢ iprop((bigSep Finset.univ fun s => junk (F := F) c s) ∗ anyBuf (F := F) c cc0_scratch4) := by
  unfold scrRest
  rw [scopedRest0_eq]
  iintro ⟨H0, H1, H2, H3, H4, H5, H6, H7, H8, H9⟩
  isplitr [H4]
  · iapply (slots_cut (F := F) c)
    isplitl [H0]; · iexact H0
    isplitl [H1]; · iexact H1
    isplitl [H2]; · iexact H2
    isplitl [H3]; · iexact H3
    isplitl [H5]; · iexact H5
    isplitl [H6]; · iexact H6
    isplitl [H7]; · iexact H7
    isplitl [H8]; · iexact H8
    iexact H9
  · iexact H4

/-- The slots and the buffer of row blocks give the scratch buffers back. -/
theorem scr_glue : iprop((bigSep Finset.univ fun s => junk (F := F) c s) ∗ anyBuf (F := F) c cc0_scratch4) ⊢ scrRest (F := F) c := by
  unfold scrRest
  rw [scopedRest0_eq]
  iintro ⟨H, H4⟩
  ihave H := (slots_glue (F := F) c) $$ H
  icases H with ⟨H0, H1, H2, H3, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- At the start no piece of the result is written: any contents will do. -/
theorem outA_any : anyBuf (F := F) c cc0_stg2_0 ⊢ outA A B c S0.out := by
  unfold outA
  iintro ⟨%f, H⟩
  iexists f
  isplitr; · ipureintro; exact fun i h => absurd h (by simp [S0])
  iexact H
/-- At the start no row block is kept: any contents will do. -/
theorem qA_any : anyBuf (F := F) c cc0_scratch4 ⊢ qA A B c S0.q := by
  unfold qA
  iintro ⟨%f, H⟩
  iexists f
  isplitr; · ipureintro; exact fun p h => absurd h (by simp [S0])
  iexact H

/-- The body's starting state. -/
theorem ent_intro (W : Waits sig Unit) :
    iprop((recs A B K ∗ levAts L lv) ∗ linear (F := F) c ∗ credS (F := F) c ∗ owes (c : Thread nD τ) (O₀ c) W
      ∗ (((c : Thread nD τ).loc cc0_stg0_0) ↦{fullShare} (A c : Buf (Elt F) ((c : Thread nD τ).loc cc0_stg0_0)))
      ∗ (((c : Thread nD τ).loc cc0_stg1_0) ↦{fullShare} (B c : Buf (Elt F) ((c : Thread nD τ).loc cc0_stg1_0)))
      ∗ anyBuf (F := F) c cc0_stg2_0 ∗ scrRest (F := F) c) ⊢ Ent A B K c 0 := by
  unfold Ent restE linear payToks credS exitA
  rw [bigSep_Cl, show (Finset.univ.filter fun i : Fin 5 => 0 ≤ i.val) = Finset.univ by decide, bigSep_sep']
  iintro ⟨#HR, ⟨⟨HaB, Ha2, HaS, HaR⟩, HtB, Ht2, HtS, HtR⟩, ⟨HcB, Hc2, HcR⟩, HO, HA, HB, Ho, Hscr⟩
  ihave Hscr := (scr_cut (F := F) c) $$ Hscr
  icases Hscr with ⟨Hj, Hq⟩
  ihave Hj := (slots_deal A B c) $$ Hj
  icases Hj with ⟨Hd, Hsl⟩
  isplitr; · iexact HR
  isplitl [HtB Hd]
  · isplitl [HtB]; · iexact HtB
    iexact Hd
  isplitl [HO]; · iexists W; iexact HO
  isplitl [HaB]; · iexact HaB
  isplitl [HcB]; · iexact HcB
  isplitl [HA]; · iexact HA
  isplitl [HB]; · iexact HB
  isplitl [HtS HtR HaS HaR HcR]
  · iapply (chE_intro (F := F) c)
    isplitl [HtS]; · iexact HtS
    isplitl [HtR]; · iexact HtR
    isplitl [HaS]; · iexact HaS
    isplitl [HaR]; · iexact HaR
    iexact HcR
  isplitl [Hsl]; · iexact Hsl
  isplitl [Ho]; · iapply (outA_any A B c); iexact Ho
  isplitl [Hq]; · iapply (qA_any A B c); iexact Hq
  isplitl [Ht2]; · iexact Ht2
  isplitl [Ha2]; · iexact Ha2
  iexact Hc2

/-- When the body is done every slot is a device's own again. -/
theorem slots_back : (bigSep Finset.univ fun s => slA A B c s (SEnd.sl s)) ⊢ bigSep Finset.univ fun s => junk (F := F) c s :=
  bigSep_mono fun s _ => slA_free (A := A) (B := B) (c := c) (by rcases SEnd_sl s with h | h | h <;> rw [h] <;> rfl)

/-- At the end every piece is written: the result buffer holds the result. -/
theorem out_back : outA A B c SEnd.out ⊢ iprop(((c : Thread nD τ).loc cc0_stg2_0) ↦{fullShare} (outV A B c : Buf (Elt F) ((c : Thread nD τ).loc cc0_stg2_0))) := by
  unfold outA
  iintro ⟨%f, %hf, H⟩
  have he : f = outV A B c := funext fun i => hf i (SEnd_out _)
  subst he
  iexact H

/-- At the end the buffer of row blocks is given back. -/
theorem q_back : qA A B c SEnd.q ⊢ anyBuf (F := F) c cc0_scratch4 := by
  unfold qA
  iintro ⟨%f, -, H⟩
  iexists f; iexact H

/-- At the end every copy is over: all their semaphores are at zero. -/
theorem ch_back : (bigSep Finset.univ fun k => chA (F := F) c k (SEnd.ch k))
    ⊢ iprop((bigSep Finset.univ fun k : Ch => semVal (kcell (c, .snd k)) 0) ∗ bigSep Finset.univ fun k : Ch => semVal (kcell (c, .rcv k)) 0) := by
  rw [← bigSep_sep']
  exact bigSep_mono fun k _ => by rw [SEnd_ch]; exact BI.Entails.refl _

/-- What is left when the body is done. -/
theorem done_elim : Done A B K c SEnd ⊢ iprop((unscopedSems0 c ∗ Pipeline.ownSems0 osem c ∗ scrRest (F := F) c) ∗ (∃ W, owes (c : Thread nD τ) 0 W)
      ∗ (((c : Thread nD τ).loc cc0_stg0_0) ↦{fullShare} (A c : Buf (Elt F) ((c : Thread nD τ).loc cc0_stg0_0)))
      ∗ (((c : Thread nD τ).loc cc0_stg1_0) ↦{fullShare} (B c : Buf (Elt F) ((c : Thread nD τ).loc cc0_stg1_0)))
      ∗ (((c : Thread nD τ).loc cc0_stg2_0) ↦{fullShare} (outV A B c : Buf (Elt F) ((c : Thread nD τ).loc cc0_stg2_0)))) := by
  unfold Done baseA
  rw [ownSems0_eq, unscopedSems0_eq]
  iintro ⟨⟨-, HA, HB, Hz⟩, Hch, Hsl, Ho, Hq, Hz2, HO⟩
  ihave Hch := (ch_back (F := F) c) $$ Hch
  icases Hch with ⟨HS, HV⟩
  isplitl [Hz HS HV Hz2 Hsl Hq]
  · isplitl [Hz]; · iexact Hz
    isplitl [Hz2 HS HV]
    · isplitl [Hz2]; · iexact Hz2
      isplitl [HS]; · iexact HS
      iexact HV
    iapply (scr_glue (F := F) c)
    isplitl [Hsl]; · iapply (slots_back A B c); iexact Hsl
    iapply (q_back A B c); iexact Hq
  isplitl [HO]; · iexact HO
  isplitl [HA]; · iexact HA
  isplitl [HB]; · iexact HB
  iapply (out_back A B c); iexact Ho

end Body

/-! ## The body obligation -/

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

def bodyPre (c : Dev nD) : sProp (MT nD τ sig Unit (Elt F) ℕ UU ℕ) :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp (MT nD τ sig Unit (Elt F) ℕ UU ℕ) :=
  iprop(Φ₁ (F := F) c ∗ (dats m 0 c).owesAt () t0_0.succ ∗ stg c cc0_stg0_0 (inA m c) ∗ stg c cc0_stg1_0 (inB m c) ∗ stg c cc0_stg2_0 (outV (inA m) (inB m) c))

/-- The last state gives what the body must leave. -/
theorem done_post (K : Dev nD × Cl → ℕ) (c : Dev nD) : Done (inA m) (inB m) K c SEnd ⊢ bodyPost m c := by
  refine (done_elim (inA m) (inB m) K c).trans ?_
  unfold bodyPost Φ₁ Dat.owesAt Pipeline.owesWithin
  rw [show (dats m 0 c).owed t0_0.succ = 0 from rfl]
  iintro ⟨HΦ, ⟨%W, HO⟩, HA, HB, Ho⟩
  isplitl [HΦ]; · iexact HΦ
  isplitl [HO]
  · iexists W
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Ho

/-- The body, from what it is given to what it must leave. -/
theorem sound_body (c : Dev nD) : bodyPre m c ⊢ wpc c (call (cc0_body (F := F))) (fun _ => bodyPost m c) := by
  unfold bodyPre Φ₀ start G' Dat.owesAt Pipeline.owesWithin
  iintro ⟨⟨⟨⟨%K, #HR, Hlin⟩, Hcr, #HL⟩, Hscr⟩, ⟨%W, -, HO⟩, ⟨%d0, %g0, %hg0, HA⟩, ⟨%d1, %g1, %hg1, HB⟩, ⟨%d2, %g2, -, Ho⟩⟩
  have h0 : g0 = inA m c := by rw [hg0]; unfold Dat.before; rw [if_pos (fetch0_0 t0_0)]; rfl
  have h1 : g1 = inB m c := by rw [hg1]; unfold Dat.before; rw [if_pos (fetch0_1 t0_0)]; rfl
  subst h0 h1
  iapply (body_run (F := F) (A := inA m) (B := inB m) (K := K) (c := c) (Q := fun _ => bodyPost m c) (done_post m K c))
  iapply (ent_intro (inA m) (inB m) K c W)
  isplitr
  · isplitr; · iexact HR
    iexact HL
  isplitl [Hlin]; · iexact Hlin
  isplitl [Hcr]; · iexact Hcr
  isplitl [HO]; · iexact HO
  isplitl [HA]; · iexact HA
  isplitl [HB]; · iexact HB
  isplitl [Ho]; · iexists g2; iexact Ho
  iexact Hscr

set_option maxRecDepth 100000 in
/-- The body meets what the pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

/-! ## The run -/

/-- What the launch hands a device is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inA m) (inB m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- The body starts with its resources and the scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

/-- The body ends with all semaphores at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl]
  unfold Φ₁
  iintro H; iexact H

/-- The staging copies' semaphores are at the lowest level. -/
theorem lv_stage (c : Dev nD) (sm : SemLoc sig) (h : ∀ j, csem j ≠ sm) : lv ((c : Thread nD τ), sm) () ≤ 0 := by
  show (match decode sm with | some j => lvC j | none => 0) ≤ 0
  rw [decode_none h]

/-- The staging copies' waits are allowed, before the body and after it. -/
theorem waits (c : Dev nD) : (levAts L lv : sProp 𝕄) ⊢ Pipeline.cellsWaits cfgs (dats m) () 0 c :=
  Pipeline.cellsWaits_intro cfgs (dats m) () 0 c fun w s t => by
    have hs : ∀ j, csem j ≠ .dma ((cfg0.win w).sem s) := by revert w s; decide +kernel
    rcases t with ⟨_ | _, ht⟩
    · exact mayWait c _ todo 0 (lv_stage c _ hs) (by decide +kernel)
    · show (levAts L lv : sProp 𝕄) ⊢ MayWait (c : Thread nD τ) _ () 0
      rw [MayWait_zero]; iintro -; iempintro

/-- The array of window `w` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory whose semaphores are at zero, for any float values: every weakly fair execution on the mesh ends, and at its end every
    device's result holds what is computed, its inputs are unchanged, and every semaphore is at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inA m) (inB m)) (G' := G' (inA m) (inB m)) (u₀ := u₀)
    (hu₀ := by
      unfold u₀
      iintro Hu
      ihave H := (ownU_pair _ _) $$ Hu
      icases H with ⟨HP, HX⟩
      imod (fund_mesh (inA m) (inB m)) $$ HX with HG
      imodintro
      isplitl [HP] <;> iassumption)
    (hglob := glob (inA m) (inB m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays after the run hold what they held. -/
theorem finalA_0 (c : Dev nD) : finalA m c (0 : Fin 3) = m ((c : Thread nD τ).loc main_arg0) :=
  (dats (F := F) m 0 c).arrAt_in (0 : Fin 3) rfl _
/-- And so does the second. -/
theorem finalA_1 (c : Dev nD) : finalA m c (1 : Fin 3) = m ((c : Thread nD τ).loc main_arg1) :=
  (dats (F := F) m 0 c).arrAt_in (1 : Fin 3) rfl _

end Cert.MeshProof

end
-- ==== Proof.Frames.lean ====
/-
Each program ends, leaves its arguments as they were and every semaphore at zero.
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Pipeline.Value
public import Idealize.ShloMosaic.Lib.VecWindow

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's run with the result dropped, over any reading of the floats: the two arguments and
the counters at the end. -/
theorem run_frame (m : (ℓ : Loc nD τ sig) → Buf (Elt F) ℓ) (ρ : Dev nD → PrngReg) :
    θ_run defs (onTc (τ := τ) (main (F := F))) (s₀ m ρ) (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (finalA_0 m c),
    (h.1 c (1 : Fin 3)).trans (finalA_1 m c)⟩, h.2⟩) (run_main m ρ)

/-- The idealized kernel's frame. -/
theorem frame_ideal : Cert.quiescent_KernelIdeal := fun m ρ _ => run_frame (F := Ideal) m ρ

/-- The two programs have one text: their kernels' tables are equal. -/
theorem defs₀_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

/-- And so are the whole tables. -/
theorem defs_same : Cert.Kernel.defs (F := Bits) = Cert.KernelIdeal.defs (F := Bits) := by
  unfold Cert.Kernel.defs Cert.KernelIdeal.defs
  exact congrArg (Pipeline.defs _) defs₀_same

/-- The kernel's frame: it is the same run, at the machine's floats. -/
theorem frame_kernel : Cert.quiescent_Kernel := fun m ρ _ => by
  have key := run_frame (F := Bits) m ρ
  rw [← defs_same] at key
  exact key

/-- The reference's frame: it has no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.MeshProof

end
-- ==== Proof.Sums.lean ====
/-
Over the extended reals: what the kernel adds up along the two rings and across the pairs is the sum over the whole mesh.
-/
module

public import proofs.«01_k».proof.Proof.Values
public import Idealize.ShloMosaic.Lib.Pipeline.Value
public import Idealize.ShloMosaic.Lib.VecWindow
public import Idealize.ShloMosaic.Lib.MatmulPlain
public import Idealize.ShloMosaic.Lib.ValueIdx

@[expose] public section

noncomputable section

namespace Cert.MeshProof

open Cert.KernelIdeal Cert.KernelIdeal.Gen
open Idealize.ShloMosaic
open Idealize.ShloMosaic.TcCoe
open Idealize.ShloMosaic.ValueIdx

/-! ## The partial products -/

section Sums
variable (A : Dev nD → Vec Ideal S2048x1024 .f32) (B : Dev nD → Vec Ideal S1024x2048 .f32)

/-- The element in row `r`, column `j` (each taken modulo 2048) of device `d`'s partial product `A d · B d`. -/
def prodAt (d : Dev nD) (r j : ℕ) : EReal :=
  ∑ k : Fin 1024, A d (ix2 (n0 := 2048) ⟨r % 2048, Nat.mod_lt _ (by decide)⟩ k) * B d (ix2 (n1 := 2048) k ⟨j % 2048, Nat.mod_lt _ (by decide)⟩)

/-- A block of a partial product, at an index. -/
theorem part_apply (c : Dev nD) (r : ℕ) (p : Fin 2) (i : S256x1024.Idx) :
    part A B c r p i = prodAt A B c (r + (i 0).val) (1024 * p.val + (i 1).val) := by
  have h := Ideal.matmul_plain_apply (M := 256) (K := 1024) (N := 1024) (φ₁ := .f32) (φ₂ := .f32) none (aRows A c r) (bCols B c p)
    (constant S256x1024 .f32 0x00000000#32) (i 0) (i 1)
  have e : part A B c r p i = FloatOps.matmul (F := Ideal) (φ₁ := .f32) (φ₂ := .f32) (DotDims.plain 256 1024 1024) none (aRows A c r) (bCols B c p)
      (constant S256x1024 .f32 0x00000000#32) (ix2 (i 0) (i 1)) := congrArg (part A B c r p) (eq_ix2 i)
  rw [e, h, show (constant S256x1024 .f32 0x00000000#32 : FVec Ideal S256x1024 .f32) (ix2 (i 0) (i 1)) = (0 : EReal) from
    Ideal.ofBits_zero_f32, zero_add]
  refine Finset.sum_congr rfl fun k _ => ?_
  refine congrArg₂ (· * ·) (congrArg (A c) (funext fun a => ?_)) (congrArg (B c) (funext fun a => ?_)) <;>
    (match a with | ⟨0, _⟩ => rfl | ⟨1, _⟩ => rfl)

/-- What arrives from across the pair is the partner's product of the own rows. -/
theorem xrV_apply (c : Dev nD) (p : Fin 2) (j : ℕ) (i : S256x1024.Idx) :
    xrV A B c p j i = prodAt A B (xp c) (myRow c (4 - j) + (i 0).val) (1024 * p.val + (i 1).val) := by
  refine (part_apply A B (xp c) _ p i).trans ?_
  have h : paRow (xp c) (4 - j) = myRow c (4 - j) := by
    obtain ⟨h1, h2, -⟩ := coords_xp c
    have := xx_lt c
    unfold paRow myRow
    rw [h1, h2]
    omega
  rw [h]

/-- The sum of the two products of a pair. -/
def pairAt (d : Dev nD) (r j : ℕ) : EReal := prodAt A B (xp d) r j + prodAt A B d r j

/-! ## The row ring -/

/-- What is summed along the row ring: after step `s`, the pairs of the last `s + 1` devices, at the same row of the result. -/
theorem yAcc_apply (p : Fin 2) (i : S256x1024.Idx) : ∀ (s : ℕ) (c : Dev nD), s ≤ 3 → yAcc A B s c p i
    = ∑ t ∈ Finset.range (s + 1), pairAt A B (yp^[t] c) (myRow c (4 - s) + (i 0).val) (1024 * p.val + (i 1).val)
  | 0, c, _ => by
    rw [Finset.sum_range_one]
    refine congrArg₂ (· + ·) (xrV_apply A B c p 0 i) ((part_apply A B c _ p i).trans ?_)
    rw [show myRow c 0 = myRow c (4 - 0) by unfold myRow; omega]
    rfl
  | s + 1, c, hs => by
    have h : myRow (yp c) (4 - s) = myRow c (4 - (s + 1)) := by
      obtain ⟨h1, h2, -⟩ := coords_yp c
      have := yy_lt c
      unfold myRow
      rw [h1, h2]
      omega
    rw [Finset.sum_range_succ']
    refine (congrArg₂ (· + ·) (congrArg₂ (· + ·) (yAcc_apply p i s (yp c) (by omega)) (xrV_apply A B c p (s + 1) i)) (part_apply A B c _ p i)).trans ?_
    rw [h, show 3 - s = 4 - (s + 1) by omega, add_assoc]
    rfl

/-- The sum over the eight devices of a plane. -/
def planeAt (d : Dev nD) (r j : ℕ) : EReal := ∑ t ∈ Finset.range 4, pairAt A B (yp^[t] d) r j

/-- A chunk of the row block a device keeps holds its plane's sum. -/
theorem qChunk_apply (c : Dev nD) (p : Fin 2) (n : ℕ) (i : S64x1024.Idx) :
    qChunk A B c p (zRow c n) i = planeAt A B c (myRow c 1 + zRow c n + (i 0).val) (1024 * p.val + (i 1).val) := by
  refine (yAcc_apply A B p _ 3 c le_rfl).trans ?_
  have h0 : (i 0).val < 64 := (i 0).isLt
  have hz := zRow_le c n
  show ∑ t ∈ Finset.range 4, pairAt A B (yp^[t] c) (myRow c 1 + (zRow c n + (i 0).val) % 256) (1024 * p.val + (i 1).val) = _
  rw [Nat.mod_eq_of_lt (by omega), ← add_assoc]
  rfl

/-! ## The plane ring -/

/-- What is summed along the plane ring. -/
theorem zAcc_apply (p : Fin 2) (i : S64x1024.Idx) : ∀ (s : ℕ) (c : Dev nD), s ≤ 3 → zAcc A B s c p i
    = ∑ t ∈ Finset.range (s + 1), planeAt A B (zp^[t] c) (myRow c 1 + zRow c (4 - s) + (i 0).val) (1024 * p.val + (i 1).val)
  | 0, c, _ => by
    rw [Finset.sum_range_one]
    refine (qChunk_apply A B c p 0 i).trans ?_
    rw [show zRow c 0 = zRow c (4 - 0) by unfold zRow; omega]
    rfl
  | s + 1, c, hs => by
    obtain ⟨h1, h2, h3⟩ := coords_zp c
    have h : zRow (zp c) (4 - s) = zRow c (4 - (s + 1)) := by
      have := zz_lt c
      unfold zRow
      rw [h3]
      omega
    have h' : myRow (zp c) 1 = myRow c 1 := by unfold myRow; rw [h1, h2]
    rw [Finset.sum_range_succ']
    refine (congrArg₂ (· + ·) (zAcc_apply p i s (zp c) (by omega)) (qChunk_apply A B c p (3 - s) i)).trans ?_
    rw [h, h', show 3 - s = 4 - (s + 1) by omega]
    rfl

/-- The device reached from `c` by `q.1` steps back along the plane ring, `q.2.1` back along the row ring, and across the pair
    or not. -/
def walk (c : Dev nD) (q : Fin 4 × Fin 4 × Fin 2) : Dev nD :=
  if q.2.2 = 0 then xp (yp^[q.2.1.val] (zp^[q.1.val] c)) else yp^[q.2.1.val] (zp^[q.1.val] c)

/-- The walk reaches every device once. -/
theorem walk_injective : ∀ c : Dev nD, Function.Injective (walk c) := by
  have h : ∀ c : Dev nD, ∀ q q' : Fin 4 × Fin 4 × Fin 2, walk c q = walk c q' → q = q' := by decide +kernel
  exact fun c q q' => h c q q'

/-- The rings and the pair together sum over the whole mesh, each device once. -/
theorem sum_mesh (c : Dev nD) (r j : ℕ) : ∑ t ∈ Finset.range 4, planeAt A B (zp^[t] c) r j = ∑ d : Dev nD, prodAt A B d r j := by
  have hb : Function.Bijective (walk c) := (Fintype.bijective_iff_injective_and_card _).mpr ⟨walk_injective c, rfl⟩
  rw [← Fintype.sum_bijective (walk c) hb (fun q => prodAt A B (walk c q) r j) _ fun _ => rfl, Fintype.sum_prod_type, Finset.sum_range]
  refine Finset.sum_congr rfl fun t _ => ?_
  rw [Fintype.sum_prod_type]
  unfold planeAt
  rw [Finset.sum_range]
  refine Finset.sum_congr rfl fun s _ => ?_
  rw [Fin.sum_univ_two]
  rfl

/-- The element in row `r`, column `j` of the whole result: the sum of the products over the mesh, or zero if that is larger. -/
def fullAt (r j : ℕ) : EReal := max (∑ d : Dev nD, prodAt A B d r j) 0

/-- A device's finished chunk holds its rows of the whole result. -/
theorem finV_apply (c : Dev nD) (p : Fin 2) (i : S64x1024.Idx) :
    finV A B c p i = fullAt A B (myRow c 1 + zRow c 1 + (i 0).val) (1024 * p.val + (i 1).val) := by
  refine (congrArg₂ max ((zAcc_apply A B p i 3 c le_rfl).trans (sum_mesh A B c _ _)) (show _ = (0 : EReal) from Ideal.ofBits_zero_f32))

end Sums

end Cert.MeshProof

end
-- ==== Proof.Gathers.lean ====
/-
The gathers only move rows: every device ends with the whole result.
-/
module

public import proofs.«01_k».proof.Proof.Sums

@[expose] public section

noncomputable section

namespace Cert.MeshProof

open Cert.KernelIdeal Cert.KernelIdeal.Gen
open Idealize.ShloMosaic
open Idealize.ShloMosaic.TcCoe
open Idealize.ShloMosaic.ValueIdx
open Idealize.SL.Sem

section Gathers
variable (A : Dev nD → Vec Ideal S2048x1024 .f32) (B : Dev nD → Vec Ideal S1024x2048 .f32)

/-- Slot `t` of the gather along the plane ring holds the rows of the whole result that the result's piece asks for. -/
theorem zaV_apply (p : Fin 2) (i : S64x1024.Idx) : ∀ (t : ℕ) (c : Dev nD), t ≤ 3 →
    zaV A B t c p i = fullAt A B (myRow c 1 + zRow c (5 - t) + (i 0).val) (1024 * p.val + (i 1).val)
  | 0, c, _ => by
    rw [show zRow c (5 - 0) = zRow c 1 by unfold zRow; omega]
    exact finV_apply A B c p i
  | t + 1, c, ht => by
    obtain ⟨h1, h2, h3⟩ := coords_zp c
    refine (zaV_apply p i t (zp c) (by omega)).trans ?_
    rw [show myRow (zp c) 1 = myRow c 1 by unfold myRow; rw [h1, h2],
      show zRow (zp c) (5 - t) = zRow c (5 - (t + 1)) by
        have := zz_lt c
        unfold zRow; rw [h3]; omega]

/-- The gathered row block holds its rows of the whole result. -/
theorem yaOwn_apply (c : Dev nD) (p : Fin 2) (i : S256x1024.Idx) :
    yaOwn A B c p i = fullAt A B (myRow c 1 + (i 0).val) (1024 * p.val + (i 1).val) := by
  have h0 : (i 0).val < 256 := (i 0).isLt
  have hz := zz_lt c
  refine (zaV_apply A B p _ ((zz c + 5 - (i 0).val / 64) % 4) c (by omega)).trans ?_
  show fullAt A B (myRow c 1 + zRow c (5 - (zz c + 5 - (i 0).val / 64) % 4) + (i 0).val % 64) _ = _
  rw [show myRow c 1 + zRow c (5 - (zz c + 5 - (i 0).val / 64) % 4) + (i 0).val % 64 = myRow c 1 + (i 0).val by
    unfold zRow; omega]
  rfl

/-- Slot `t` of the gather along the row ring. -/
theorem yaV_apply (p : Fin 2) (i : S256x1024.Idx) : ∀ (t : ℕ) (c : Dev nD), t ≤ 3 →
    yaV A B t c p i = fullAt A B (myRow c (5 - t) + (i 0).val) (1024 * p.val + (i 1).val)
  | 0, c, _ => by
    rw [show myRow c (5 - 0) = myRow c 1 by unfold myRow; omega]
    exact yaOwn_apply A B c p i
  | t + 1, c, ht => by
    obtain ⟨h1, h2, -⟩ := coords_yp c
    refine (yaV_apply p i t (yp c) (by omega)).trans ?_
    rw [show myRow (yp c) (5 - t) = myRow c (5 - (t + 1)) by
      have := yy_lt c
      unfold myRow; rw [h1, h2]; omega]

/-- Slot `t` of the gather across the pair. -/
theorem xaV_apply (p : Fin 2) (i : S256x1024.Idx) (t : ℕ) (c : Dev nD) (ht : t ≤ 3) :
    xaV A B t c p i = fullAt A B (paRow c (5 - t) + (i 0).val) (1024 * p.val + (i 1).val) := by
  obtain ⟨h1, h2, -⟩ := coords_xp c
  refine (yaV_apply A B p i t (xp c) ht).trans ?_
  rw [show myRow (xp c) (5 - t) = paRow c (5 - t) by unfold myRow paRow; rw [h1, h2]]

/-- Every piece of a device's result holds its rows and columns of the whole result. -/
theorem rgVec_apply (c : Dev nD) : ∀ (g : Rg) (i : (⟨2, ![rgHt g, 1024]⟩ : Shape).Idx),
    rgVec A B c g i = fullAt A B (rgRow c g + (i 0).val) (1024 * (rgCol g).val + (i 1).val)
  | .fin p, i => finV_apply A B c p i
  | .zg p t, i => (zaV_apply A B p i (t.val + 1) c (by have := t.isLt; omega)).trans (by
      rw [show 5 - (t.val + 1) = 4 - t.val by omega]; rfl)
  | .yg p t, i => (yaV_apply A B p i (t.val + 1) c (by have := t.isLt; omega)).trans (by
      rw [show 5 - (t.val + 1) = 4 - t.val by omega]; rfl)
  | .xg p t, i => xaV_apply A B p i t.val c (by have := t.isLt; omega)

/-- A piece starts at a multiple of its height. -/
theorem rgRow_dvd (c : Dev nD) : ∀ g : Rg, rgHt g ∣ rgRow c g
  | .fin _ => by simp only [rgHt, rgRow, myRow, zRow]; omega
  | .zg _ _ => by simp only [rgHt, rgRow, myRow, zRow]; omega
  | .yg _ _ => by simp only [rgHt, rgRow, myRow]; omega
  | .xg _ _ => by simp only [rgHt, rgRow, paRow]; omega

/-- The result on every device is the whole result. -/
theorem outV_apply (c : Dev nD) (i : S2048x2048.Idx) : outV A B c i = fullAt A B (i 0).val (i 1).val := by
  have h0 : (i 0).val < 2048 := (i 0).isLt
  have h1 : (i 1).val < 2048 := (i 1).isLt
  obtain ⟨hc, hl, hu⟩ := (rgOf_iff c (i 0).val h0 (colHalf i) _).mp rfl
  refine (rgVec_apply A B c (rgOf c (i 0).val (colHalf i)) _).trans ?_
  show fullAt A B (rgRow c (rgOf c (i 0).val (colHalf i)) + (i 0).val % rgHt (rgOf c (i 0).val (colHalf i)))
    (1024 * (rgCol (rgOf c (i 0).val (colHalf i))).val + (i 1).val % 1024) = _
  obtain ⟨n, hn⟩ := rgRow_dvd c (rgOf c (i 0).val (colHalf i))
  have hr : rgRow c (rgOf c (i 0).val (colHalf i)) + (i 0).val % rgHt (rgOf c (i 0).val (colHalf i)) = (i 0).val := by
    have h := Nat.div_add_mod (i 0).val (rgHt (rgOf c (i 0).val (colHalf i)))
    rw [show (i 0).val / rgHt (rgOf c (i 0).val (colHalf i)) = n from
      Nat.div_eq_of_lt_le (by rw [mul_comm]; omega) (by rw [Nat.succ_mul, mul_comm]; omega), ← hn] at h
    exact h
  rw [hr, hc, show 1024 * (colHalf i).val + (i 1).val % 1024 = (i 1).val by
    show 1024 * ((i 1).val / 1024 % 2) + (i 1).val % 1024 = _
    omega]

end Gathers

end Cert.MeshProof

end
-- ==== Proof.Arrays.lean ====
/-
What the arrays hold: the kernel's arguments and its result are its windows' blocks.
-/
module

public import proofs.«01_k».proof.Proof.Launch
public import proofs.«01_k».proof.Proof.Gen.KernelIdeal.Points
public import Idealize.ShloMosaic.Lib.ValueIdx

@[expose] public section

noncomputable section

namespace Cert.MeshProof

open Cert.KernelIdeal Cert.KernelIdeal.Gen
open Idealize.ShloMosaic
open Idealize.ShloMosaic.TcCoe
open Idealize.ShloMosaic.ValueIdx
open Idealize.SL.Sem

section Arrays
variable {F : FTy → Type} [FloatOps F]
variable (m : (ℓ : Loc nD τ sig) → Buf (Elt F) ℓ)

/-! The kernel has one point, and each window's block there is its whole array: a block read back is the array. -/

/-- The first argument's block is the argument. -/
theorem inA_eq (c : Dev nD) : inA m c = m ((c : Thread nD τ).loc main_arg0) :=
  Memref.read_access_unit_zero (Elt F) main_arg0
    (show (fun a => (win0_0.index t0_0) a * main_arg0.ty.shape.size a) = fun _ => 0 from
      funext fun a => by fin_cases a <;> decide) (fun a => by fin_cases a <;> decide) _

/-- The second argument's block is the argument. -/
theorem inB_eq (c : Dev nD) : inB m c = m ((c : Thread nD τ).loc main_arg1) :=
  Memref.read_access_unit_zero (Elt F) main_arg1
    (show (fun a => (win0_1.index t0_0) a * main_arg1.ty.shape.size a) = fun _ => 0 from
      funext fun a => by fin_cases a <;> decide) (fun a => by fin_cases a <;> decide) _

/-- The result's block, read, is the result's array. -/
theorem read_res (c : Dev nD) (f : Buf (Elt F) ((c : Thread nD τ).loc main_v1)) : (win0_2.blk t0_0).view.read (Elt F) f = f :=
  Memref.read_access_unit_zero (Elt F) main_v1
    (show (fun a => (win0_2.index t0_0) a * main_v1.ty.shape.size a) = fun _ => 0 from
      funext fun a => by fin_cases a <;> decide) (fun a => by fin_cases a <;> decide) f

/-- What is written back is what the body left. -/
theorem flushed_res (c : Dev nD) : (dats (F := F) m 0 c).flushed 2 t0_0 = outV (inA m) (inB m) c := by
  show (cfg0.win 2).cut _ ((dats (F := F) m 0 c).after 2 t0_0) = _
  exact funext fun _ => rfl

/-- The result's array after the run. -/
theorem finalA_2 (c : Dev nD) : finalA m c (2 : Fin 3)
    = outV (fun d : Dev nD => m ((d : Thread nD τ).loc main_arg0)) (fun d : Dev nD => m ((d : Thread nD τ).loc main_arg1)) c := by
  have hw : ((cfg0.win 2).blk t0_0).view.read (Elt F) ((dats (F := F) m 0 c).arrAt 2 cfg0.N)
      = (dats (F := F) m 0 c).flushed 2 t0_0 := by
    rw [show cfg0.N = t0_0.val + 1 from rfl, (dats m 0 c).arrAt_succ (2 : Fin 3) t0_0, flush0_2, if_pos rfl]
    exact View.read_write_univ _ _
  rw [flushed_res, show inA m = fun d : Dev nD => m ((d : Thread nD τ).loc main_arg0) from funext (inA_eq m),
    show inB m = fun d : Dev nD => m ((d : Thread nD τ).loc main_arg1) from funext (inB_eq m)] at hw
  exact (read_res c _).symm.trans hw

end Arrays

end Cert.MeshProof

end
-- ==== Proof.Reference.lean ====
/-
The reference: the product of the whole matrices, then the larger of it and zero.
-/
module

public import proofs.«01_k».proof.Proof.Gen.ReferenceIdeal.Run
public import proofs.«01_k».proof.KernelIdeal
public import proofs.«01_k».proof.Proof.Gen.KernelIdeal
public import Idealize.ShloMosaic.Lib.StackMember
public import Idealize.ShloMosaic.Lib.ValueIdx

@[expose] public section

noncomputable section

namespace Cert.MeshProof

open Cert.KernelIdeal Cert.KernelIdeal.Gen
open Idealize.ShloMosaic
open Idealize.ShloMosaic.TcCoe
open Idealize.ShloMosaic.ValueIdx
open Idealize.SL.Sem

/-! ## The reference at an index -/

/-- The reference's result of two whole matrices. -/
def refOut (X : FVec Ideal Cert.ReferenceIdeal.S2048x32768 .f32) (Y : FVec Ideal Cert.ReferenceIdeal.S32768x2048 .f32) :
    FVec Ideal Cert.ReferenceIdeal.S2048x2048 .f32 :=
  maximumf (Host.dotGeneral Cert.ReferenceIdeal.dot_S2048x32768_S32768x2048_S2048x2048_1_0_0_1_n_n none X Y)
    (broadcastInDim Cert.ReferenceIdeal.S2048x2048 ![] Cert.ReferenceIdeal.Facts₀.bcast_S_S2048x2048
      (constant Cert.ReferenceIdeal.S_ .f32 0x00000000#32))

/-- It is the product's element, or zero if that is larger. -/
theorem refOut_apply (X : FVec Ideal Cert.ReferenceIdeal.S2048x32768 .f32) (Y : FVec Ideal Cert.ReferenceIdeal.S32768x2048 .f32)
    (r j : Fin 2048) : refOut X Y (ix2 r j) = max (∑ k : Fin 32768, X (ix2 r k) * Y (ix2 k j)) 0 :=
  congrArg₂ max (StackMember.dotGeneral_plain_apply (m := 2048) (k := 32768) (n := 2048) (φ₁ := .f32) (φ₂ := .f32) none X Y r j)
    (show _ = (0 : EReal) from Ideal.ofBits_zero_f32)

end Cert.MeshProof

end
-- ==== Proof.Equation.lean ====
/-
The value claim: the whole contracted axis is cut over the devices, so the sum over the mesh is the reference's product.
-/
module

public import proofs.«01_k».proof.Defs
public import proofs.«01_k».proof.Proof.Gathers
public import proofs.«01_k».proof.Proof.Arrays
public import proofs.«01_k».proof.Proof.Reference

@[expose] public section

noncomputable section

namespace Cert.MeshProof

open Cert.KernelIdeal Cert.KernelIdeal.Gen
open Idealize.ShloMosaic
open Idealize.ShloMosaic.TcCoe
open Idealize.ShloMosaic.ValueIdx
open Idealize.SL.Sem

/-- A sum over the whole contracted axis is the sum over the devices of the sums over their blocks of it. -/
theorem sum_blocks (f : Fin 32768 → EReal) :
    ∑ k : Fin 32768, f k = ∑ d : Fin 32, ∑ k : Fin 1024, f ⟨d.val * 1024 + k.val, by have := d.isLt; have := k.isLt; omega⟩ := by
  rw [← Fintype.sum_prod_type' (f := fun (d : Fin 32) (k : Fin 1024) => f ⟨d.val * 1024 + k.val, by have := d.isLt; have := k.isLt; omega⟩)]
  refine (Fintype.sum_equiv (finProdFinEquiv (m := 32) (n := 1024)) _ _ fun q => ?_).symm
  refine congrArg f (Fin.ext ?_)
  show q.1.val * 1024 + q.2.val = q.2.val + 1024 * q.1.val
  omega

section Equation
variable (X : FVec Ideal Cert.ReferenceIdeal.S2048x32768 .f32) (Y : FVec Ideal Cert.ReferenceIdeal.S32768x2048 .f32)

/-- Device `d`'s columns of the first matrix, and its rows of the second. -/
def devA (d : Dev nD) : Vec Ideal S2048x1024 .f32 := Layout.block ⟨2, ![2048, 1024]⟩ ⟨2, ![2048, 32768]⟩ 1 32 d X
def devB (d : Dev nD) : Vec Ideal S1024x2048 .f32 := Layout.block ⟨2, ![1024, 2048]⟩ ⟨2, ![32768, 2048]⟩ 0 32 d Y

/-- A device's partial product is its share of the whole product's sum. -/
theorem prodAt_blocks (d : Dev nD) (r j : Fin 2048) : prodAt (devA X) (devB Y) d r.val j.val
    = ∑ k : Fin 1024, X (ix2 r (⟨d.val * 1024 + k.val, by have : d.val < 32 := d.isLt; have := k.isLt; omega⟩ : Fin 32768))
        * Y (ix2 (⟨d.val * 1024 + k.val, by have : d.val < 32 := d.isLt; have := k.isLt; omega⟩ : Fin 32768) j) := by
  refine Finset.sum_congr rfl fun k _ => congrArg₂ (· * ·) (congrArg X (funext fun a => ?_)) (congrArg Y (funext fun a => ?_))
  · match a with
    | ⟨0, _⟩ => exact Fin.ext (Nat.mod_eq_of_lt r.isLt)
    | ⟨1, _⟩ => rfl
  · match a with
    | ⟨0, _⟩ => rfl
    | ⟨1, _⟩ => exact Fin.ext (Nat.mod_eq_of_lt j.isLt)

/-- The kernel's result on every device, from the blocks of two whole matrices, is the reference's. -/
theorem out_eq_ref (c : Dev nD) : outV (devA X) (devB Y) c = refOut X Y := by
  funext i
  have hi : i = ix2 (n0 := 2048) (n1 := 2048) (i 0) (i 1) := eq_ix2 i
  refine (outV_apply (devA X) (devB Y) c i).trans (Eq.trans ?_ (congrArg (refOut X Y) hi).symm)
  refine Eq.trans ?_ (refOut_apply X Y (i 0) (i 1)).symm
  refine congrArg (max · 0) ?_
  refine (Finset.sum_congr rfl fun d _ => prodAt_blocks X Y d (i 0) (i 1)).trans ?_
  exact (sum_blocks (fun k => X (ix2 (n0 := 2048) (i 0) k) * Y (ix2 k (n1 := 2048) (i 1)))).symm

end Equation

/-- The two programs, from the blocks of the same matrices, end with the same result. -/
theorem algebraic : Cert.algebraic_KernelIdeal_ReferenceIdeal := by
  intro m g m' g' _ hm
  refine ⟨refOut (m' ((0 : Dev Cert.ReferenceIdeal.nD).tc.loc Cert.ReferenceIdeal.main_arg0))
    (m' ((0 : Dev Cert.ReferenceIdeal.nD).tc.loc Cert.ReferenceIdeal.main_arg1)), ?_, ?_⟩
  · refine (θ_run Cert.KernelIdeal.defs _ _).mono (fun r h c => ⟨?_, ?_, ?_⟩) (run_main (F := Ideal) m g)
    · refine (h.1 c (2 : Fin 3)).trans ((finalA_2 m c).trans ?_)
      rw [show (fun d : Dev nD => m (d.tc.loc main_arg0)) = devA (m' ((0 : Dev Cert.ReferenceIdeal.nD).tc.loc Cert.ReferenceIdeal.main_arg0))
          from funext fun d => (hm d).1,
        show (fun d : Dev nD => m (d.tc.loc main_arg1)) = devB (m' ((0 : Dev Cert.ReferenceIdeal.nD).tc.loc Cert.ReferenceIdeal.main_arg1))
          from funext fun d => (hm d).2]
      exact out_eq_ref _ _ c
    · exact (h.1 c (0 : Fin 3)).trans (finalA_0 m c)
    · exact (h.1 c (1 : Fin 3)).trans (finalA_1 m c)
  · exact (θ_run Cert.ReferenceIdeal.defs _ _).mono (fun r h => h 0) (Cert.ReferenceIdeal.Value.run (F := Ideal) m' g')

end Cert.MeshProof

end
-- ==== Proof.lean ====
/- The five claims, put together: the kernel, read in either way, and the reference run to their end and leave their
   arguments and every semaphore as they were; nothing was rewritten; the kernel computes what the reference does. -/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

/-- Everything that is claimed of the kernel. -/
theorem claim : Cert.Claim := ⟨Cert.Kernel.Gen.facts, Cert.KernelIdeal.Gen.facts, Cert.ReferenceIdeal.Gen.facts,
  Cert.MeshProof.frame_kernel, Cert.MeshProof.frame_ideal, Cert.MeshProof.frame_ref, trivial, Cert.MeshProof.algebraic⟩

end Cert.Proof

end
